-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_v86) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_inputs : Cert.Pre_inputs.Facts),
    quiescent_Kernel (hKernel := hKernel)
    ∧ quiescent_KernelIdeal (hKernelIdeal := hKernelIdeal)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_inputs (hKernelIdeal := hKernelIdeal) (hReferenceIdeal := hReferenceIdeal) (hPre_inputs := hPre_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_inputs.lean ====
abbrev S1 : Shape := ⟨1, ![1]⟩
abbrev S1x64 : Shape := ⟨2, ![1, 64]⟩
abbrev S128x1 : Shape := ⟨2, ![128, 1]⟩
abbrev S32x8x256x2048 : Shape := ⟨4, ![32, 8, 256, 2048]⟩
abbrev S32x8x1024x256 : Shape := ⟨4, ![32, 8, 1024, 256]⟩
abbrev S12x8x256x256 : Shape := ⟨4, ![12, 8, 256, 256]⟩
abbrev S8x256x256 : Shape := ⟨3, ![8, 256, 256]⟩
abbrev S_ : Shape := ⟨0, ![]⟩
abbrev S1x8x256x256 : Shape := ⟨4, ![1, 8, 256, 256]⟩

class Facts : Prop where
  bcast_S_S8x256x256 : S_.BroadcastsInDim S8x256x256 (![] : Fin 0 → Fin S8x256x256.rank)
  bcast_S_S12x8x256x256 : S_.BroadcastsInDim S12x8x256x256 (![] : Fin 0 → Fin S12x8x256x256.rank)
  bcast_S8x256x256_S1x8x256x256_1_2_3 : S8x256x256.BroadcastsInDim S1x8x256x256 (![1, 2, 3] : Fin 3 → Fin S1x8x256x256.rank)
  bcast_S1x8x256x256_S12x8x256x256_0_1_2_3 : S1x8x256x256.BroadcastsInDim S12x8x256x256 (![0, 1, 2, 3] : Fin 4 → Fin S12x8x256x256.rank)
  shapeCasts_S1_S_ : S1.ShapeCasts S_
  reducesTo_S12x8x256x256_S_d0_1_2_3 : S12x8x256x256.ReducesTo [0, 1, 2, 3] S_
  h_S_ : 0 < S_.numel
  bitsLt_bf16_f32 : FTy.bits .bf16 < FTy.bits .f32
  bcast_S_S32x8x256x2048 : S_.BroadcastsInDim S32x8x256x2048 (![] : Fin 0 → Fin S32x8x256x2048.rank)
  reducesTo_S32x8x256x2048_S_d0_1_2_3 : S32x8x256x2048.ReducesTo [0, 1, 2, 3] S_
  bcast_S_S32x8x1024x256 : S_.BroadcastsInDim S32x8x1024x256 (![] : Fin 0 → Fin S32x8x1024x256.rank)
  reducesTo_S32x8x1024x256_S_d0_1_2_3 : S32x8x1024x256.ReducesTo [0, 1, 2, 3] S_
  bcast_S_S1x64 : S_.BroadcastsInDim S1x64 (![] : Fin 0 → Fin S1x64.rank)
  reducesTo_S1x64_S_d0_1 : S1x64.ReducesTo [0, 1] S_

variable [Facts]

def fn_part3 {F : FTy → Type} [FloatOps F] (main_v51 : IVec S_ 1) (main_v54 : IVec S1x64 1) : IVec S_ 1 :=
  let main_c_15 : IVec S_ 1 := constantI S_ 1 1#1
  let main_v55 : IVec S_ 1 := (fun x v => Host.reduce IntOp.andi x v reducesTo_S1x64_S_d0_1 h_S_) main_v54 main_c_15
  let main_v56 : IVec S_ 1 := andi main_v51 main_v55
  main_v56

def fn_part2 {F : FTy → Type} [FloatOps F] (main_arg2 : FVec F S1x64 .f32) (main_arg3 : FVec F S1x64 .f32) (main_arg4 : FVec F S1x64 .f32) (main_v36 : IVec S_ 1) (main_v37 : FVec F S1x64 .f32) : IVec S_ 1 :=
  let main_cst_8 : FVec F S_ .f32 := constant S_ .f32 0x7F800000#32
  let main_v38 : FVec F S1x64 .f32 := broadcastInDim S1x64 ![] bcast_S_S1x64 main_cst_8
  let main_v39 : IVec S1x64 1 := cmpf .olt main_v37 main_v38
  let main_c_9 : IVec S_ 1 := constantI S_ 1 1#1
  let main_v40 : IVec S_ 1 := (fun x v => Host.reduce IntOp.andi x v reducesTo_S1x64_S_d0_1 h_S_) main_v39 main_c_9
  let main_v41 : IVec S_ 1 := andi main_v36 main_v40
  let main_v42 : FVec F S1x64 .f32 := Host.absf main_arg2
  let main_cst_10 : FVec F S_ .f32 := constant S_ .f32 0x7F800000#32
  let main_v43 : FVec F S1x64 .f32 := broadcastInDim S1x64 ![] bcast_S_S1x64 main_cst_10
  let main_v44 : IVec S1x64 1 := cmpf .olt main_v42 main_v43
  let main_c_11 : IVec S_ 1 := constantI S_ 1 1#1
  let main_v45 : IVec S_ 1 := (fun x v => Host.reduce IntOp.andi x v reducesTo_S1x64_S_d0_1 h_S_) main_v44 main_c_11
  let main_v46 : IVec S_ 1 := andi main_v41 main_v45
  let main_v47 : FVec F S1x64 .f32 := Host.absf main_arg3
  let main_cst_12 : FVec F S_ .f32 := constant S_ .f32 0x7F800000#32
  let main_v48 : FVec F S1x64 .f32 := broadcastInDim S1x64 ![] bcast_S_S1x64 main_cst_12
  let main_v49 : IVec S1x64 1 := cmpf .olt main_v47 main_v48
  let main_c_13 : IVec S_ 1 := constantI S_ 1 1#1
  let main_v50 : IVec S_ 1 := (fun x v => Host.reduce IntOp.andi x v reducesTo_S1x64_S_d0_1 h_S_) main_v49 main_c_13
  let main_v51 : IVec S_ 1 := andi main_v46 main_v50
  let main_v52 : FVec F S1x64 .f32 := Host.absf main_arg4
  let main_cst_14 : FVec F S_ .f32 := constant S_ .f32 0x7F800000#32
  let main_v53 : FVec F S1x64 .f32 := broadcastInDim S1x64 ![] bcast_S_S1x64 main_cst_14
  let main_v54 : IVec S1x64 1 := cmpf .olt main_v52 main_v53
  fn_part3 (F := F) main_v51 main_v54

def fn_part1 {F : FTy → Type} [FloatOps F] (main_arg0 : IVec S1 32) (main_arg1 : FVec F S1x64 .f32) (main_arg2 : FVec F S1x64 .f32) (main_arg3 : FVec F S1x64 .f32) (main_arg4 : FVec F S1x64 .f32) (main_arg6 : FVec F S32x8x256x2048 .bf16) (main_arg7 : FVec F S32x8x1024x256 .bf16) (main_v14 : IVec S12x8x256x256 1) (main_v19 : IVec S12x8x256x256 1) : IVec S_ 1 :=
  let main_v20 : IVec S_ 32 := shapeCast S_ main_arg0 shapeCasts_S1_S_
  let main_c_2 : IVec S_ 32 := constantI S_ 32 0#32
  let main_v21 : IVec S_ 1 := cmpi .sgt main_v20 main_c_2
  let main_v22 : IVec S12x8x256x256 1 := andi main_v14 main_v19
  let main_c_3 : IVec S_ 1 := constantI S_ 1 1#1
  let main_v23 : IVec S_ 1 := (fun x v => Host.reduce IntOp.andi x v reducesTo_S12x8x256x256_S_d0_1_2_3 h_S_) main_v22 main_c_3
  let main_v24 : IVec S_ 1 := andi main_v21 main_v23
  let main_v25 : FVec F S32x8x256x2048 .f32 := (extf .f32 · bitsLt_bf16_f32) main_arg6
  let main_v26 : FVec F S32x8x256x2048 .f32 := Host.absf main_v25
  let main_cst_4 : FVec F S_ .f32 := constant S_ .f32 0x7F800000#32
  let main_v27 : FVec F S32x8x256x2048 .f32 := broadcastInDim S32x8x256x2048 ![] bcast_S_S32x8x256x2048 main_cst_4
  let main_v28 : IVec S32x8x256x2048 1 := cmpf .olt main_v26 main_v27
  let main_c_5 : IVec S_ 1 := constantI S_ 1 1#1
  let main_v29 : IVec S_ 1 := (fun x v => Host.reduce IntOp.andi x v reducesTo_S32x8x256x2048_S_d0_1_2_3 h_S_) main_v28 main_c_5
  let main_v30 : IVec S_ 1 := andi main_v24 main_v29
  let main_v31 : FVec F S32x8x1024x256 .f32 := (extf .f32 · bitsLt_bf16_f32) main_arg7
  let main_v32 : FVec F S32x8x1024x256 .f32 := Host.absf main_v31
  let main_cst_6 : FVec F S_ .f32 := constant S_ .f32 0x7F800000#32
  let main_v33 : FVec F S32x8x1024x256 .f32 := broadcastInDim S32x8x1024x256 ![] bcast_S_S32x8x1024x256 main_cst_6
  let main_v34 : IVec S32x8x1024x256 1 := cmpf .olt main_v32 main_v33
  let main_c_7 : IVec S_ 1 := constantI S_ 1 1#1
  let main_v35 : IVec S_ 1 := (fun x v => Host.reduce IntOp.andi x v reducesTo_S32x8x1024x256_S_d0_1_2_3 h_S_) main_v34 main_c_7
  let main_v36 : IVec S_ 1 := andi main_v30 main_v35
  let main_v37 : FVec F S1x64 .f32 := Host.absf main_arg1
  fn_part2 (F := F) main_arg2 main_arg3 main_arg4 main_v36 main_v37

def fn {F : FTy → Type} [FloatOps F] (main_arg0 : IVec S1 32) (main_arg1 : FVec F S1x64 .f32) (main_arg2 : FVec F S1x64 .f32) (main_arg3 : FVec F S1x64 .f32) (main_arg4 : FVec F S1x64 .f32) (main_arg5 : FVec F S128x1 .f32) (main_arg6 : FVec F S32x8x256x2048 .bf16) (main_arg7 : FVec F S32x8x1024x256 .bf16) (main_arg8 : FVec F S12x8x256x256 .f32) : IVec S_ 1 :=
  let main_v0 : IVec S8x256x256 32 := iotaInDim S8x256x256 32 1
  let main_v1 : IVec S8x256x256 32 := iotaInDim S8x256x256 32 2
  let main_v2 : IVec S8x256x256 32 := iotaInDim S8x256x256 32 0
  let main_c : IVec S_ 32 := constantI S_ 32 256#32
  let main_v3 : IVec S8x256x256 32 := broadcastInDim S8x256x256 ![] bcast_S_S8x256x256 main_c
  let main_v4 : IVec S8x256x256 32 := muli main_v2 main_v3
  let main_v5 : IVec S8x256x256 32 := addi main_v4 main_v1
  let main_v6 : IVec S8x256x256 32 := subi main_v5 main_v0
  let main_c_0 : IVec S_ 32 := constantI S_ 32 0#32
  let main_v7 : IVec S8x256x256 32 := broadcastInDim S8x256x256 ![] bcast_S_S8x256x256 main_c_0
  let main_v8 : IVec S8x256x256 1 := cmpi .sge main_v6 main_v7
  let main_v9 : FVec F S12x8x256x256 .f32 := Host.absf main_arg8
  let main_cst : FVec F S_ .f32 := constant S_ .f32 0x7F800000#32
  let main_v10 : FVec F S12x8x256x256 .f32 := broadcastInDim S12x8x256x256 ![] bcast_S_S12x8x256x256 main_cst
  let main_v11 : IVec S12x8x256x256 1 := cmpf .olt main_v9 main_v10
  let main_v12 : IVec S1x8x256x256 1 := broadcastInDim S1x8x256x256 ![1, 2, 3] bcast_S8x256x256_S1x8x256x256_1_2_3 main_v8
  let main_v13 : IVec S12x8x256x256 1 := broadcastInDim S12x8x256x256 ![0, 1, 2, 3] bcast_S1x8x256x256_S12x8x256x256_0_1_2_3 main_v12
  let main_v14 : IVec S12x8x256x256 1 := cmpi .eq main_v11 main_v13
  let main_cst_1 : FVec F S_ .f32 := constant S_ .f32 0x00000000#32
  let main_v15 : FVec F S12x8x256x256 .f32 := broadcastInDim S12x8x256x256 ![] bcast_S_S12x8x256x256 main_cst_1
  let main_v16 : IVec S12x8x256x256 1 := cmpf .olt main_arg8 main_v15
  let main_v17 : IVec S1x8x256x256 1 := broadcastInDim S1x8x256x256 ![1, 2, 3] bcast_S8x256x256_S1x8x256x256_1_2_3 main_v8
  let main_v18 : IVec S12x8x256x256 1 := broadcastInDim S12x8x256x256 ![0, 1, 2, 3] bcast_S1x8x256x256_S12x8x256x256_0_1_2_3 main_v17
  let main_v19 : IVec S12x8x256x256 1 := ori main_v16 main_v18
  fn_part1 (F := F) main_arg0 main_arg1 main_arg2 main_arg3 main_arg4 main_arg6 main_arg7 main_v14 main_v19
-- ==== Kernel.lean ====
abbrev S1 : Shape := ⟨1, ![1]⟩
abbrev S1x64 : Shape := ⟨2, ![1, 64]⟩
abbrev S128x1 : Shape := ⟨2, ![128, 1]⟩
abbrev S32x8x256x2048 : Shape := ⟨4, ![32, 8, 256, 2048]⟩
abbrev S32x8x1024x256 : Shape := ⟨4, ![32, 8, 1024, 256]⟩
abbrev S12x8x256x256 : Shape := ⟨4, ![12, 8, 256, 256]⟩
abbrev S32x8x256x512 : Shape := ⟨4, ![32, 8, 256, 512]⟩
abbrev S1x8x256x128 : Shape := ⟨4, ![1, 8, 256, 128]⟩
abbrev S1x8x128x256 : Shape := ⟨4, ![1, 8, 128, 256]⟩
abbrev S1x8x256x256 : Shape := ⟨4, ![1, 8, 256, 256]⟩
abbrev S8x2x256x128 : Shape := ⟨4, ![8, 2, 256, 128]⟩
abbrev S2x2x256x256 : Shape := ⟨4, ![2, 2, 256, 256]⟩
abbrev S8x2x256x256 : Shape := ⟨4, ![8, 2, 256, 256]⟩
abbrev S8x2x144x256 : Shape := ⟨4, ![8, 2, 144, 256]⟩
abbrev S1x1x256x128 : Shape := ⟨4, ![1, 1, 256, 128]⟩
abbrev S256x128 : Shape := ⟨2, ![256, 128]⟩
abbrev S256x256 : Shape := ⟨2, ![256, 256]⟩
abbrev S1x1x256x256 : Shape := ⟨4, ![1, 1, 256, 256]⟩
abbrev S1x1x128x256 : Shape := ⟨4, ![1, 1, 128, 256]⟩
abbrev S128x256 : Shape := ⟨2, ![128, 256]⟩
abbrev S16x256 : Shape := ⟨2, ![16, 256]⟩
abbrev S144x256 : Shape := ⟨2, ![144, 256]⟩
abbrev S1x1x144x256 : Shape := ⟨4, ![1, 1, 144, 256]⟩
abbrev S1x1x64 : Shape := ⟨3, ![1, 1, 64]⟩
abbrev S1x1x1 : Shape := ⟨3, ![1, 1, 1]⟩
abbrev S1x1 : Shape := ⟨2, ![1, 1]⟩
abbrev S1x256 : Shape := ⟨2, ![1, 256]⟩
abbrev S256 : Shape := ⟨1, ![256]⟩
abbrev S2x256x256 : Shape := ⟨3, ![2, 256, 256]⟩
abbrev S1x2x256x256 : Shape := ⟨4, ![1, 2, 256, 256]⟩
abbrev S2x144x256 : Shape := ⟨3, ![2, 144, 256]⟩
abbrev S1x2x144x256 : Shape := ⟨4, ![1, 2, 144, 256]⟩
abbrev S1x144x256 : Shape := ⟨3, ![1, 144, 256]⟩
abbrev S1x256x256 : Shape := ⟨3, ![1, 256, 256]⟩

abbrev nBuf : Space → Nat
  | .hbm => 10
  | .vmem => 19
  | .smem => 1
  | _ => 0

abbrev bufTy : (tb : Table) → Fin (tcTables nBuf tb) → BufTy
  | .hbm, ⟨0, _⟩ => ⟨S1, .i32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S128x1, .f32⟩
  | .hbm, ⟨6, _⟩ => ⟨S32x8x256x2048, .bf16⟩
  | .hbm, ⟨7, _⟩ => ⟨S32x8x1024x256, .bf16⟩
  | .hbm, ⟨8, _⟩ => ⟨S12x8x256x256, .f32⟩
  | .hbm, ⟨9, _⟩ => ⟨S32x8x256x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S128x1, .f32⟩
  | .local _ .vmem, ⟨5, _⟩ => ⟨S1x8x256x128, .bf16⟩
  | .local _ .vmem, ⟨6, _⟩ => ⟨S1x8x256x128, .bf16⟩
  | .local _ .vmem, ⟨7, _⟩ => ⟨S1x8x256x128, .bf16⟩
  | .local _ .vmem, ⟨8, _⟩ => ⟨S1x8x256x128, .bf16⟩
  | .local _ .vmem, ⟨9, _⟩ => ⟨S1x8x128x256, .bf16⟩
  | .local _ .vmem, ⟨10, _⟩ => ⟨S1x8x128x256, .bf16⟩
  | .local _ .vmem, ⟨11, _⟩ => ⟨S1x8x256x256, .f32⟩
  | .local _ .vmem, ⟨12, _⟩ => ⟨S1x8x256x256, .f32⟩
  | .local _ .vmem, ⟨13, _⟩ => ⟨S1x8x256x128, .bf16⟩
  | .local _ .vmem, ⟨14, _⟩ => ⟨S1x8x256x128, .bf16⟩
  | .local _ .vmem, ⟨15, _⟩ => ⟨S8x2x256x128, .bf16⟩
  | .local _ .vmem, ⟨16, _⟩ => ⟨S2x2x256x256, .f32⟩
  | .local _ .vmem, ⟨17, _⟩ => ⟨S8x2x256x256, .bf16⟩
  | .local _ .vmem, ⟨18, _⟩ => ⟨S8x2x144x256, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 32], ![false, false]⟩

@[reducible] def k0_t1_loop : Scf.Loop 32 :=
  let c0_i32_113 : BitVec 32 := 0#32
  let c8_i32 : BitVec 32 := 8#32
  let v135 : BitVec 32 := Scalar.addi c0_i32_113 c8_i32
  let c1_i32 : BitVec 32 := 1#32
  ⟨c0_i32_113, v135, c1_i32⟩
def k0_off1 (k0_t1 : Fin k0_t1_loop.trips) : Fin 4 → Nat :=
  let c0_347 : Index := 0#32
  let c0_i32_113 : BitVec 32 := 0#32
  let c1_i32 : BitVec 32 := 1#32
  let arg17 : BitVec 32 := Scf.iv c0_i32_113 c1_i32 k0_t1
  let v584 : Index := Scalar.indexCast arg17
  let c0_348 : Index := 0#32
  let c0_349 : Index := 0#32
  ![0, v584.toNat, 0, 0]
def k0_off2 (k0_t1 : Fin k0_t1_loop.trips) : Fin 4 → Nat :=
  let c0_i32_113 : BitVec 32 := 0#32
  let c1_i32 : BitVec 32 := 1#32
  let arg17 : BitVec 32 := Scf.iv c0_i32_113 c1_i32 k0_t1
  let v587 : Index := Scalar.indexCast arg17
  let c0_350 : Index := 0#32
  let c0_351 : Index := 0#32
  let c0_352 : Index := 0#32
  ![v587.toNat, 0, 0, 0]
def k0_off3 (k0_t1 : Fin k0_t1_loop.trips) : Fin 4 → Nat :=
  let c0_i32_113 : BitVec 32 := 0#32
  let c1_i32 : BitVec 32 := 1#32
  let arg17 : BitVec 32 := Scf.iv c0_i32_113 c1_i32 k0_t1
  let v597 : Index := Scalar.indexCast arg17
  let c1_361 : Index := 1#32
  let c0_362 : Index := 0#32
  let c0_363 : Index := 0#32
  ![v597.toNat, 1, 0, 0]
def k0_off4 (k0_t1 : Fin k0_t1_loop.trips) : Fin 4 → Nat :=
  let c0_i32_113 : BitVec 32 := 0#32
  let c1_i32 : BitVec 32 := 1#32
  let arg17 : BitVec 32 := Scf.iv c0_i32_113 c1_i32 k0_t1
  let v609 : Index := Scalar.indexCast arg17
  let c0_375 : Index := 0#32
  let c0_376 : Index := 0#32
  let c0_377 : Index := 0#32
  ![v609.toNat, 0, 0, 0]
@[reducible] def k0_t2_loop (k0_t1 : Fin k0_t1_loop.trips) : Scf.Loop 32 :=
  let c0_i32_382 : BitVec 32 := 0#32
  let c0_i32_113 : BitVec 32 := 0#32
  let c1_i32 : BitVec 32 := 1#32
  let arg17 : BitVec 32 := Scf.iv c0_i32_113 c1_i32 k0_t1
  let c1_i32_380 : BitVec 32 := 1#32
  let v615 : BitVec 32 := Scalar.addi arg17 c1_i32_380
  let v616 : BitVec 32 := Scalar.subi v615 c0_i32_382
  let c1_i32_383 : BitVec 32 := 1#32
  let v618 : BitVec 32 := Scalar.divsi v616 c1_i32_383
  let v619 : BitVec 32 := Scalar.muli v618 c1_i32_383
  let v620 : BitVec 32 := Scalar.addi c0_i32_382 v619
  let c1_i32_384 : BitVec 32 := 1#32
  ⟨c0_i32_382, v620, c1_i32_384⟩
def k0_off5 (k0_t1 : Fin k0_t1_loop.trips) : Fin 4 → Nat :=
  let c0_i32_113 : BitVec 32 := 0#32
  let c1_i32 : BitVec 32 := 1#32
  let arg17 : BitVec 32 := Scf.iv c0_i32_113 c1_i32 k0_t1
  let c0_i32_437 : BitVec 32 := 0#32
  let c0_i32_438 : BitVec 32 := 0#32
  let c0_i32_439 : BitVec 32 := 0#32
  ![arg17.toNat, 0, 0, 0]
def k0_off6 (k0_t1 : Fin k0_t1_loop.trips) (k0_t2 : Fin (k0_t2_loop k0_t1).trips) : Fin 4 → Nat :=
  let c0_443 : Index := 0#32
  let c0_i32_113 : BitVec 32 := 0#32
  let c1_i32 : BitVec 32 := 1#32
  let arg17 : BitVec 32 := Scf.iv c0_i32_113 c1_i32 k0_t1
  let c0_i32_382 : BitVec 32 := 0#32
  let c1_i32_384 : BitVec 32 := 1#32
  let arg18 : BitVec 32 := Scf.iv c0_i32_382 c1_i32_384 k0_t2
  let v666 : BitVec 32 := Scalar.subi arg17 arg18
  let c1_i32_436 : BitVec 32 := 1#32
  let v667 : BitVec 32 := Scalar.addi v666 c1_i32_436
  let v668 : BitVec 32 := Scalar.minsi v667 arg17
  let v675 : Index := Scalar.indexCast v668
  let c0_444 : Index := 0#32
  let c0_445 : Index := 0#32
  ![0, v675.toNat, 0, 0]
def k0_off7 (k0_t1 : Fin k0_t1_loop.trips) (k0_t2 : Fin (k0_t2_loop k0_t1).trips) : Fin 4 → Nat :=
  let c0_i32_382 : BitVec 32 := 0#32
  let c1_i32_384 : BitVec 32 := 1#32
  let arg18 : BitVec 32 := Scf.iv c0_i32_382 c1_i32_384 k0_t2
  let c2_i32 : BitVec 32 := 2#32
  let v665 : BitVec 32 := Scalar.remsi arg18 c2_i32
  let v715 : Index := Scalar.indexCast v665
  let c0_484 : Index := 0#32
  let c0_485 : Index := 0#32
  let c0_486 : Index := 0#32
  ![v715.toNat, 0, 0, 0]
def k0_off8 (k0_t1 : Fin k0_t1_loop.trips) (k0_t2 : Fin (k0_t2_loop k0_t1).trips) : Fin 4 → Nat :=
  let c0_487 : Index := 0#32
  let c0_i32_382 : BitVec 32 := 0#32
  let c1_i32_384 : BitVec 32 := 1#32
  let arg18 : BitVec 32 := Scf.iv c0_i32_382 c1_i32_384 k0_t2
  let v718 : Index := Scalar.indexCast arg18
  let c0_488 : Index := 0#32
  let c0_489 : Index := 0#32
  ![0, v718.toNat, 0, 0]
def k0_off9 (k0_t1 : Fin k0_t1_loop.trips) (k0_t2 : Fin (k0_t2_loop k0_t1).trips) : Fin 4 → Nat :=
  let c0_i32_382 : BitVec 32 := 0#32
  let c1_i32_384 : BitVec 32 := 1#32
  let arg18 : BitVec 32 := Scf.iv c0_i32_382 c1_i32_384 k0_t2
  let c2_i32 : BitVec 32 := 2#32
  let v665 : BitVec 32 := Scalar.remsi arg18 c2_i32
  let v736 : Index := Scalar.indexCast v665
  let c1_497 : Index := 1#32
  let c0_498 : Index := 0#32
  let c0_499 : Index := 0#32
  ![v736.toNat, 1, 0, 0]
def k0_off10 (k0_t1 : Fin k0_t1_loop.trips) (k0_t2 : Fin (k0_t2_loop k0_t1).trips) : Fin 4 → Nat :=
  let c0_512 : Index := 0#32
  let c0_i32_113 : BitVec 32 := 0#32
  let c1_i32 : BitVec 32 := 1#32
  let arg17 : BitVec 32 := Scf.iv c0_i32_113 c1_i32 k0_t1
  let c0_i32_382 : BitVec 32 := 0#32
  let c1_i32_384 : BitVec 32 := 1#32
  let arg18 : BitVec 32 := Scf.iv c0_i32_382 c1_i32_384 k0_t2
  let v666 : BitVec 32 := Scalar.subi arg17 arg18
  let c1_i32_510 : BitVec 32 := 1#32
  let v757 : BitVec 32 := Scalar.subi v666 c1_i32_510
  let c0_i32_511 : BitVec 32 := 0#32
  let v758 : BitVec 32 := Scalar.maxsi v757 c0_i32_511
  let v759 : Index := Scalar.indexCast v758
  let c0_513 : Index := 0#32
  let c0_514 : Index := 0#32
  ![0, v759.toNat, 0, 0]
def k0_off11 (k0_t1 : Fin k0_t1_loop.trips) : Fin 4 → Nat :=
  let c0_i32_113 : BitVec 32 := 0#32
  let c1_i32 : BitVec 32 := 1#32
  let arg17 : BitVec 32 := Scf.iv c0_i32_113 c1_i32 k0_t1
  let v762 : Index := Scalar.indexCast arg17
  let c0_515 : Index := 0#32
  let c0_516 : Index := 0#32
  let c0_517 : Index := 0#32
  ![v762.toNat, 0, 0, 0]
def k0_off12 (k0_t1 : Fin k0_t1_loop.trips) (k0_t2 : Fin (k0_t2_loop k0_t1).trips) : Fin 4 → Nat :=
  let c1_i32_519 : BitVec 32 := 1#32
  let c0_i32_382 : BitVec 32 := 0#32
  let c1_i32_384 : BitVec 32 := 1#32
  let arg18 : BitVec 32 := Scf.iv c0_i32_382 c1_i32_384 k0_t2
  let c2_i32 : BitVec 32 := 2#32
  let v665 : BitVec 32 := Scalar.remsi arg18 c2_i32
  let v766 : BitVec 32 := Scalar.subi c1_i32_519 v665
  let v767 : Index := Scalar.indexCast v766
  let c0_520 : Index := 0#32
  let c0_521 : Index := 0#32
  let c0_522 : Index := 0#32
  ![v767.toNat, 0, 0, 0]
def k0_off13 (k0_t1 : Fin k0_t1_loop.trips) : Fin 4 → Nat :=
  let c0_i32_113 : BitVec 32 := 0#32
  let c1_i32 : BitVec 32 := 1#32
  let arg17 : BitVec 32 := Scf.iv c0_i32_113 c1_i32 k0_t1
  let v776 : Index := Scalar.indexCast arg17
  let c1_528 : Index := 1#32
  let c0_529 : Index := 0#32
  let c0_530 : Index := 0#32
  ![v776.toNat, 1, 0, 0]
def k0_off14 (k0_t1 : Fin k0_t1_loop.trips) (k0_t2 : Fin (k0_t2_loop k0_t1).trips) : Fin 4 → Nat :=
  let c1_i32_532 : BitVec 32 := 1#32
  let c0_i32_382 : BitVec 32 := 0#32
  let c1_i32_384 : BitVec 32 := 1#32
  let arg18 : BitVec 32 := Scf.iv c0_i32_382 c1_i32_384 k0_t2
  let c2_i32 : BitVec 32 := 2#32
  let v665 : BitVec 32 := Scalar.remsi arg18 c2_i32
  let v780 : BitVec 32 := Scalar.subi c1_i32_532 v665
  let v781 : Index := Scalar.indexCast v780
  let c1_533 : Index := 1#32
  let c0_534 : Index := 0#32
  let c0_535 : Index := 0#32
  ![v781.toNat, 1, 0, 0]
@[reducible] def k0_t3_loop (k0_t1 : Fin k0_t1_loop.trips) : Scf.Loop 32 :=
  let c0_i32_382 : BitVec 32 := 0#32
  let c0_i32_113 : BitVec 32 := 0#32
  let c1_i32 : BitVec 32 := 1#32
  let arg17 : BitVec 32 := Scf.iv c0_i32_113 c1_i32 k0_t1
  let c1_i32_380 : BitVec 32 := 1#32
  let v615 : BitVec 32 := Scalar.addi arg17 c1_i32_380
  let v616 : BitVec 32 := Scalar.subi v615 c0_i32_382
  let c1_i32_383 : BitVec 32 := 1#32
  let v618 : BitVec 32 := Scalar.divsi v616 c1_i32_383
  let v619 : BitVec 32 := Scalar.muli v618 c1_i32_383
  let v620 : BitVec 32 := Scalar.addi c0_i32_382 v619
  let v617 : BitVec 32 := Scalar.addi c0_i32_382 v616
  let c1_i32_385 : BitVec 32 := 1#32
  ⟨v620, v617, c1_i32_385⟩
def k0_off15 (k0_t1 : Fin k0_t1_loop.trips) : Fin 4 → Nat :=
  let c0_i32_113 : BitVec 32 := 0#32
  let c1_i32 : BitVec 32 := 1#32
  let arg17 : BitVec 32 := Scf.iv c0_i32_113 c1_i32 k0_t1
  let c0_i32_437 : BitVec 32 := 0#32
  let c0_i32_438 : BitVec 32 := 0#32
  let c0_i32_439 : BitVec 32 := 0#32
  ![arg17.toNat, 0, 0, 0]
def k0_off16 (k0_t1 : Fin k0_t1_loop.trips) (k0_t3 : Fin (k0_t3_loop k0_t1).trips) : Fin 4 → Nat :=
  let c0_443 : Index := 0#32
  let c0_i32_113 : BitVec 32 := 0#32
  let c1_i32 : BitVec 32 := 1#32
  let arg17 : BitVec 32 := Scf.iv c0_i32_113 c1_i32 k0_t1
  let c0_i32_382 : BitVec 32 := 0#32
  let c1_i32_380 : BitVec 32 := 1#32
  let v615 : BitVec 32 := Scalar.addi arg17 c1_i32_380
  let v616 : BitVec 32 := Scalar.subi v615 c0_i32_382
  let c1_i32_383 : BitVec 32 := 1#32
  let v618 : BitVec 32 := Scalar.divsi v616 c1_i32_383
  let v619 : BitVec 32 := Scalar.muli v618 c1_i32_383
  let v620 : BitVec 32 := Scalar.addi c0_i32_382 v619
  let c1_i32_385 : BitVec 32 := 1#32
  let arg18 : BitVec 32 := Scf.iv v620 c1_i32_385 k0_t3
  let v666 : BitVec 32 := Scalar.subi arg17 arg18
  let c1_i32_436 : BitVec 32 := 1#32
  let v667 : BitVec 32 := Scalar.addi v666 c1_i32_436
  let v668 : BitVec 32 := Scalar.minsi v667 arg17
  let v675 : Index := Scalar.indexCast v668
  let c0_444 : Index := 0#32
  let c0_445 : Index := 0#32
  ![0, v675.toNat, 0, 0]
def k0_off17 (k0_t1 : Fin k0_t1_loop.trips) (k0_t3 : Fin (k0_t3_loop k0_t1).trips) : Fin 4 → Nat :=
  let c0_i32_382 : BitVec 32 := 0#32
  let c0_i32_113 : BitVec 32 := 0#32
  let c1_i32 : BitVec 32 := 1#32
  let arg17 : BitVec 32 := Scf.iv c0_i32_113 c1_i32 k0_t1
  let c1_i32_380 : BitVec 32 := 1#32
  let v615 : BitVec 32 := Scalar.addi arg17 c1_i32_380
  let v616 : BitVec 32 := Scalar.subi v615 c0_i32_382
  let c1_i32_383 : BitVec 32 := 1#32
  let v618 : BitVec 32 := Scalar.divsi v616 c1_i32_383
  let v619 : BitVec 32 := Scalar.muli v618 c1_i32_383
  let v620 : BitVec 32 := Scalar.addi c0_i32_382 v619
  let c1_i32_385 : BitVec 32 := 1#32
  let arg18 : BitVec 32 := Scf.iv v620 c1_i32_385 k0_t3
  let c2_i32 : BitVec 32 := 2#32
  let v665 : BitVec 32 := Scalar.remsi arg18 c2_i32
  let v715 : Index := Scalar.indexCast v665
  let c0_484 : Index := 0#32
  let c0_485 : Index := 0#32
  let c0_486 : Index := 0#32
  ![v715.toNat, 0, 0, 0]
def k0_off18 (k0_t1 : Fin k0_t1_loop.trips) (k0_t3 : Fin (k0_t3_loop k0_t1).trips) : Fin 4 → Nat :=
  let c0_487 : Index := 0#32
  let c0_i32_382 : BitVec 32 := 0#32
  let c0_i32_113 : BitVec 32 := 0#32
  let c1_i32 : BitVec 32 := 1#32
  let arg17 : BitVec 32 := Scf.iv c0_i32_113 c1_i32 k0_t1
  let c1_i32_380 : BitVec 32 := 1#32
  let v615 : BitVec 32 := Scalar.addi arg17 c1_i32_380
  let v616 : BitVec 32 := Scalar.subi v615 c0_i32_382
  let c1_i32_383 : BitVec 32 := 1#32
  let v618 : BitVec 32 := Scalar.divsi v616 c1_i32_383
  let v619 : BitVec 32 := Scalar.muli v618 c1_i32_383
  let v620 : BitVec 32 := Scalar.addi c0_i32_382 v619
  let c1_i32_385 : BitVec 32 := 1#32
  let arg18 : BitVec 32 := Scf.iv v620 c1_i32_385 k0_t3
  let v718 : Index := Scalar.indexCast arg18
  let c0_488 : Index := 0#32
  let c0_489 : Index := 0#32
  ![0, v718.toNat, 0, 0]
def k0_off19 (k0_t1 : Fin k0_t1_loop.trips) (k0_t3 : Fin (k0_t3_loop k0_t1).trips) : Fin 4 → Nat :=
  let c0_i32_382 : BitVec 32 := 0#32
  let c0_i32_113 : BitVec 32 := 0#32
  let c1_i32 : BitVec 32 := 1#32
  let arg17 : BitVec 32 := Scf.iv c0_i32_113 c1_i32 k0_t1
  let c1_i32_380 : BitVec 32 := 1#32
  let v615 : BitVec 32 := Scalar.addi arg17 c1_i32_380
  let v616 : BitVec 32 := Scalar.subi v615 c0_i32_382
  let c1_i32_383 : BitVec 32 := 1#32
  let v618 : BitVec 32 := Scalar.divsi v616 c1_i32_383
  let v619 : BitVec 32 := Scalar.muli v618 c1_i32_383
  let v620 : BitVec 32 := Scalar.addi c0_i32_382 v619
  let c1_i32_385 : BitVec 32 := 1#32
  let arg18 : BitVec 32 := Scf.iv v620 c1_i32_385 k0_t3
  let c2_i32 : BitVec 32 := 2#32
  let v665 : BitVec 32 := Scalar.remsi arg18 c2_i32
  let v736 : Index := Scalar.indexCast v665
  let c1_497 : Index := 1#32
  let c0_498 : Index := 0#32
  let c0_499 : Index := 0#32
  ![v736.toNat, 1, 0, 0]
def k0_off20 (k0_t1 : Fin k0_t1_loop.trips) (k0_t3 : Fin (k0_t3_loop k0_t1).trips) : Fin 4 → Nat :=
  let c0_512 : Index := 0#32
  let c0_i32_113 : BitVec 32 := 0#32
  let c1_i32 : BitVec 32 := 1#32
  let arg17 : BitVec 32 := Scf.iv c0_i32_113 c1_i32 k0_t1
  let c0_i32_382 : BitVec 32 := 0#32
  let c1_i32_380 : BitVec 32 := 1#32
  let v615 : BitVec 32 := Scalar.addi arg17 c1_i32_380
  let v616 : BitVec 32 := Scalar.subi v615 c0_i32_382
  let c1_i32_383 : BitVec 32 := 1#32
  let v618 : BitVec 32 := Scalar.divsi v616 c1_i32_383
  let v619 : BitVec 32 := Scalar.muli v618 c1_i32_383
  let v620 : BitVec 32 := Scalar.addi c0_i32_382 v619
  let c1_i32_385 : BitVec 32 := 1#32
  let arg18 : BitVec 32 := Scf.iv v620 c1_i32_385 k0_t3
  let v666 : BitVec 32 := Scalar.subi arg17 arg18
  let c1_i32_510 : BitVec 32 := 1#32
  let v757 : BitVec 32 := Scalar.subi v666 c1_i32_510
  let c0_i32_511 : BitVec 32 := 0#32
  let v758 : BitVec 32 := Scalar.maxsi v757 c0_i32_511
  let v759 : Index := Scalar.indexCast v758
  let c0_513 : Index := 0#32
  let c0_514 : Index := 0#32
  ![0, v759.toNat, 0, 0]
def k0_off21 (k0_t1 : Fin k0_t1_loop.trips) : Fin 4 → Nat :=
  let c0_i32_113 : BitVec 32 := 0#32
  let c1_i32 : BitVec 32 := 1#32
  let arg17 : BitVec 32 := Scf.iv c0_i32_113 c1_i32 k0_t1
  let v762 : Index := Scalar.indexCast arg17
  let c0_515 : Index := 0#32
  let c0_516 : Index := 0#32
  let c0_517 : Index := 0#32
  ![v762.toNat, 0, 0, 0]
def k0_off22 (k0_t1 : Fin k0_t1_loop.trips) (k0_t3 : Fin (k0_t3_loop k0_t1).trips) : Fin 4 → Nat :=
  let c1_i32_519 : BitVec 32 := 1#32
  let c0_i32_382 : BitVec 32 := 0#32
  let c0_i32_113 : BitVec 32 := 0#32
  let c1_i32 : BitVec 32 := 1#32
  let arg17 : BitVec 32 := Scf.iv c0_i32_113 c1_i32 k0_t1
  let c1_i32_380 : BitVec 32 := 1#32
  let v615 : BitVec 32 := Scalar.addi arg17 c1_i32_380
  let v616 : BitVec 32 := Scalar.subi v615 c0_i32_382
  let c1_i32_383 : BitVec 32 := 1#32
  let v618 : BitVec 32 := Scalar.divsi v616 c1_i32_383
  let v619 : BitVec 32 := Scalar.muli v618 c1_i32_383
  let v620 : BitVec 32 := Scalar.addi c0_i32_382 v619
  let c1_i32_385 : BitVec 32 := 1#32
  let arg18 : BitVec 32 := Scf.iv v620 c1_i32_385 k0_t3
  let c2_i32 : BitVec 32 := 2#32
  let v665 : BitVec 32 := Scalar.remsi arg18 c2_i32
  let v766 : BitVec 32 := Scalar.subi c1_i32_519 v665
  let v767 : Index := Scalar.indexCast v766
  let c0_520 : Index := 0#32
  let c0_521 : Index := 0#32
  let c0_522 : Index := 0#32
  ![v767.toNat, 0, 0, 0]
def k0_off23 (k0_t1 : Fin k0_t1_loop.trips) : Fin 4 → Nat :=
  let c0_i32_113 : BitVec 32 := 0#32
  let c1_i32 : BitVec 32 := 1#32
  let arg17 : BitVec 32 := Scf.iv c0_i32_113 c1_i32 k0_t1
  let v776 : Index := Scalar.indexCast arg17
  let c1_528 : Index := 1#32
  let c0_529 : Index := 0#32
  let c0_530 : Index := 0#32
  ![v776.toNat, 1, 0, 0]
def k0_off24 (k0_t1 : Fin k0_t1_loop.trips) (k0_t3 : Fin (k0_t3_loop k0_t1).trips) : Fin 4 → Nat :=
  let c1_i32_532 : BitVec 32 := 1#32
  let c0_i32_382 : BitVec 32 := 0#32
  let c0_i32_113 : BitVec 32 := 0#32
  let c1_i32 : BitVec 32 := 1#32
  let arg17 : BitVec 32 := Scf.iv c0_i32_113 c1_i32 k0_t1
  let c1_i32_380 : BitVec 32 := 1#32
  let v615 : BitVec 32 := Scalar.addi arg17 c1_i32_380
  let v616 : BitVec 32 := Scalar.subi v615 c0_i32_382
  let c1_i32_383 : BitVec 32 := 1#32
  let v618 : BitVec 32 := Scalar.divsi v616 c1_i32_383
  let v619 : BitVec 32 := Scalar.muli v618 c1_i32_383
  let v620 : BitVec 32 := Scalar.addi c0_i32_382 v619
  let c1_i32_385 : BitVec 32 := 1#32
  let arg18 : BitVec 32 := Scf.iv v620 c1_i32_385 k0_t3
  let c2_i32 : BitVec 32 := 2#32
  let v665 : BitVec 32 := Scalar.remsi arg18 c2_i32
  let v780 : BitVec 32 := Scalar.subi c1_i32_532 v665
  let v781 : Index := Scalar.indexCast v780
  let c1_533 : Index := 1#32
  let c0_534 : Index := 0#32
  let c0_535 : Index := 0#32
  ![v781.toNat, 1, 0, 0]
def k0_off25 (k0_t1 : Fin k0_t1_loop.trips) : Fin 4 → Nat :=
  let c0_i32_113 : BitVec 32 := 0#32
  let c1_i32 : BitVec 32 := 1#32
  let arg17 : BitVec 32 := Scf.iv c0_i32_113 c1_i32 k0_t1
  let c0_i32_386 : BitVec 32 := 0#32
  let c0_i32_387 : BitVec 32 := 0#32
  let c0_i32_388 : BitVec 32 := 0#32
  ![arg17.toNat, 0, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![arg1.toNat, c0_i32.toNat, c0_i32_0.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1 : Shape := ⟨1, ![1]⟩
abbrev S1x64 : Shape := ⟨2, ![1, 64]⟩
abbrev S128x1 : Shape := ⟨2, ![128, 1]⟩
abbrev S32x8x256x2048 : Shape := ⟨4, ![32, 8, 256, 2048]⟩
abbrev S32x8x1024x256 : Shape := ⟨4, ![32, 8, 1024, 256]⟩
abbrev S12x8x256x256 : Shape := ⟨4, ![12, 8, 256, 256]⟩
abbrev S32x2048x2048 : Shape := ⟨3, ![32, 2048, 2048]⟩
abbrev S32x2048x512 : Shape := ⟨3, ![32, 2048, 512]⟩
abbrev S32x2048x4x2x64 : Shape := ⟨5, ![32, 2048, 4, 2, 64]⟩
abbrev S32x4x2x2048x64 : Shape := ⟨5, ![32, 4, 2, 2048, 64]⟩
abbrev S32x8x512x256 : Shape := ⟨4, ![32, 8, 512, 256]⟩
abbrev S32x8x4x128x256 : Shape := ⟨5, ![32, 8, 4, 128, 256]⟩
abbrev S32x4x8x256x128 : Shape := ⟨5, ![32, 4, 8, 256, 128]⟩
abbrev S32x4x2048x128 : Shape := ⟨4, ![32, 4, 2048, 128]⟩
abbrev S_ : Shape := ⟨0, ![]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S4x8x256x256 : Shape := ⟨4, ![4, 8, 256, 256]⟩
abbrev S8x8x1 : Shape := ⟨3, ![8, 8, 1]⟩
abbrev S4x8x8x256x256 : Shape := ⟨5, ![4, 8, 8, 256, 256]⟩
abbrev S4x8x256x8x256 : Shape := ⟨5, ![4, 8, 256, 8, 256]⟩
abbrev S4x2048x2048 : Shape := ⟨3, ![4, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S32x4x2x2048x2048 : Shape := ⟨5, ![32, 4, 2, 2048, 2048]⟩
abbrev S1x4x1x2048x2048 : Shape := ⟨5, ![1, 4, 1, 2048, 2048]⟩
abbrev S32x4x2x2048 : Shape := ⟨4, ![32, 4, 2, 2048]⟩
abbrev S32x4x2x2048x1 : Shape := ⟨5, ![32, 4, 2, 2048, 1]⟩
abbrev S32x4x1x2048x2048 : Shape := ⟨5, ![32, 4, 1, 2048, 2048]⟩
abbrev S32x4x2048x2048 : Shape := ⟨4, ![32, 4, 2048, 2048]⟩
abbrev S32x4x2048 : Shape := ⟨3, ![32, 4, 2048]⟩
abbrev S32x4x2048x1 : Shape := ⟨4, ![32, 4, 2048, 1]⟩
abbrev S128 : Shape := ⟨1, ![128]⟩
abbrev S1x1x1x128 : Shape := ⟨4, ![1, 1, 1, 128]⟩
abbrev S32x2048x4x128 : Shape := ⟨4, ![32, 2048, 4, 128]⟩
abbrev S32x8x256x512 : Shape := ⟨4, ![32, 8, 256, 512]⟩

abbrev nBuf : Space → Nat
  | .hbm => 117
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S128x1, .f32⟩
  | .hbm, ⟨6, _⟩ => ⟨S32x8x256x2048, .bf16⟩
  | .hbm, ⟨7, _⟩ => ⟨S32x8x1024x256, .bf16⟩
  | .hbm, ⟨8, _⟩ => ⟨S12x8x256x256, .f32⟩
  | .hbm, ⟨9, _⟩ => ⟨S32x2048x2048, .bf16⟩
  | .hbm, ⟨10, _⟩ => ⟨S32x2048x2048, .f32⟩
  | .hbm, ⟨11, _⟩ => ⟨S32x2048x512, .f32⟩
  | .hbm, ⟨12, _⟩ => ⟨S32x2048x4x2x64, .f32⟩
  | .hbm, ⟨13, _⟩ => ⟨S32x4x2x2048x64, .f32⟩
  | .hbm, ⟨14, _⟩ => ⟨S32x2048x512, .f32⟩
  | .hbm, ⟨15, _⟩ => ⟨S32x2048x4x2x64, .f32⟩
  | .hbm, ⟨16, _⟩ => ⟨S32x4x2x2048x64, .f32⟩
  | .hbm, ⟨17, _⟩ => ⟨S32x8x512x256, .bf16⟩
  | .hbm, ⟨18, _⟩ => ⟨S32x8x512x256, .f32⟩
  | .hbm, ⟨19, _⟩ => ⟨S32x8x4x128x256, .f32⟩
  | .hbm, ⟨20, _⟩ => ⟨S32x4x8x256x128, .f32⟩
  | .hbm, ⟨21, _⟩ => ⟨S32x4x2048x128, .f32⟩
  | .hbm, ⟨22, _⟩ => ⟨S1x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8, .i32⟩
  | .hbm, ⟨34, _⟩ => ⟨S8x1, .i32⟩
  | .hbm, ⟨35, _⟩ => ⟨S1x8, .i32⟩
  | .hbm, ⟨36, _⟩ => ⟨S8x8, .i32⟩
  | .hbm, ⟨37, _⟩ => ⟨S8x8, .i32⟩
  | .hbm, ⟨38, _⟩ => ⟨S8x8, .i32⟩
  | .hbm, ⟨39, _⟩ => ⟨S_, .i32⟩
  | .hbm, ⟨40, _⟩ => ⟨S8x8, .i32⟩
  | .hbm, ⟨41, _⟩ => ⟨S8x8, .i32⟩
  | .hbm, ⟨42, _⟩ => ⟨S4x8x256x256, .f32⟩
  | .hbm, ⟨43, _⟩ => ⟨S_, .i32⟩
  | .hbm, ⟨44, _⟩ => ⟨S8x8, .i32⟩
  | .hbm, ⟨45, _⟩ => ⟨S8x8, .i1⟩
  | .hbm, ⟨46, _⟩ => ⟨S_, .i32⟩
  | .hbm, ⟨47, _⟩ => ⟨S8x8, .i32⟩
  | .hbm, ⟨48, _⟩ => ⟨S8x8, .i32⟩
  | .hbm, ⟨49, _⟩ => ⟨S8x8, .i32⟩
  | .hbm, ⟨50, _⟩ => ⟨S8x8x1, .i32⟩
  | .hbm, ⟨51, _⟩ => ⟨S4x8x8x256x256, .f32⟩
  | .hbm, ⟨52, _⟩ => ⟨S4x8x256x8x256, .f32⟩
  | .hbm, ⟨53, _⟩ => ⟨S4x2048x2048, .f32⟩
  | .hbm, ⟨54, _⟩ => ⟨S2048, .i32⟩
  | .hbm, ⟨55, _⟩ => ⟨S2048x1, .i32⟩
  | .hbm, ⟨56, _⟩ => ⟨S2048, .i32⟩
  | .hbm, ⟨57, _⟩ => ⟨S1x2048, .i32⟩
  | .hbm, ⟨58, _⟩ => ⟨S2048x2048, .i32⟩
  | .hbm, ⟨59, _⟩ => ⟨S2048x2048, .i32⟩
  | .hbm, ⟨60, _⟩ => ⟨S2048x2048, .i32⟩
  | .hbm, ⟨61, _⟩ => ⟨S32x4x2x2048x2048, .f32⟩
  | .hbm, ⟨62, _⟩ => ⟨S_, .i32⟩
  | .hbm, ⟨63, _⟩ => ⟨S2048x2048, .i32⟩
  | .hbm, ⟨64, _⟩ => ⟨S2048x2048, .i1⟩
  | .hbm, ⟨65, _⟩ => ⟨S1x4x1x2048x2048, .f32⟩
  | .hbm, ⟨66, _⟩ => ⟨S32x4x2x2048x2048, .f32⟩
  | .hbm, ⟨67, _⟩ => ⟨S32x4x2x2048x2048, .f32⟩
  | .hbm, ⟨68, _⟩ => ⟨S_, .f32⟩
  | .hbm, ⟨69, _⟩ => ⟨S_, .f32⟩
  | .hbm, ⟨70, _⟩ => ⟨S32x4x2x2048x2048, .i1⟩
  | .hbm, ⟨71, _⟩ => ⟨S32x4x2x2048x2048, .f32⟩
  | .hbm, ⟨72, _⟩ => ⟨S32x4x2x2048x2048, .f32⟩
  | .hbm, ⟨73, _⟩ => ⟨S_, .f32⟩
  | .hbm, ⟨74, _⟩ => ⟨S32x4x2x2048, .f32⟩
  | .hbm, ⟨75, _⟩ => ⟨S32x4x2x2048x1, .f32⟩
  | .hbm, ⟨76, _⟩ => ⟨S32x4x2x2048x2048, .f32⟩
  | .hbm, ⟨77, _⟩ => ⟨S32x4x2x2048x2048, .f32⟩
  | .hbm, ⟨78, _⟩ => ⟨S_, .f32⟩
  | .hbm, ⟨79, _⟩ => ⟨S32x4x2x2048x2048, .f32⟩
  | .hbm, ⟨80, _⟩ => ⟨S32x4x2x2048x2048, .f32⟩
  | .hbm, ⟨81, _⟩ => ⟨S_, .f32⟩
  | .hbm, ⟨82, _⟩ => ⟨S32x4x2x2048, .f32⟩
  | .hbm, ⟨83, _⟩ => ⟨S32x4x2x2048x1, .f32⟩
  | .hbm, ⟨84, _⟩ => ⟨S32x4x2x2048x2048, .f32⟩
  | .hbm, ⟨85, _⟩ => ⟨S32x4x2x2048x2048, .f32⟩
  | .hbm, ⟨86, _⟩ => ⟨S32x4x1x2048x2048, .f32⟩
  | .hbm, ⟨87, _⟩ => ⟨S32x4x2048x2048, .f32⟩
  | .hbm, ⟨88, _⟩ => ⟨S32x4x1x2048x2048, .f32⟩
  | .hbm, ⟨89, _⟩ => ⟨S32x4x2048x2048, .f32⟩
  | .hbm, ⟨90, _⟩ => ⟨S32x4x2048x2048, .f32⟩
  | .hbm, ⟨91, _⟩ => ⟨S32x4x2048x2048, .f32⟩
  | .hbm, ⟨92, _⟩ => ⟨S32x4x2048x2048, .f32⟩
  | .hbm, ⟨93, _⟩ => ⟨S32x4x2048x128, .f32⟩
  | .hbm, ⟨94, _⟩ => ⟨S32x4x2048x128, .f32⟩
  | .hbm, ⟨95, _⟩ => ⟨S_, .f32⟩
  | .hbm, ⟨96, _⟩ => ⟨S32x4x2048, .f32⟩
  | .hbm, ⟨97, _⟩ => ⟨S32x4x2048x1, .f32⟩
  | .hbm, ⟨98, _⟩ => ⟨S_, .f32⟩
  | .hbm, ⟨99, _⟩ => ⟨S32x4x2048x1, .f32⟩
  | .hbm, ⟨100, _⟩ => ⟨S32x4x2048x1, .f32⟩
  | .hbm, ⟨101, _⟩ => ⟨S_, .f32⟩
  | .hbm, ⟨102, _⟩ => ⟨S32x4x2048x1, .f32⟩
  | .hbm, ⟨103, _⟩ => ⟨S32x4x2048x1, .f32⟩
  | .hbm, ⟨104, _⟩ => ⟨S32x4x2048x1, .f32⟩
  | .hbm, ⟨105, _⟩ => ⟨S32x4x2048x128, .f32⟩
  | .hbm, ⟨106, _⟩ => ⟨S32x4x2048x128, .f32⟩
  | .hbm, ⟨107, _⟩ => ⟨S128, .f32⟩
  | .hbm, ⟨108, _⟩ => ⟨S1x1x1x128, .f32⟩
  | .hbm, ⟨109, _⟩ => ⟨S32x4x2048x128, .f32⟩
  | .hbm, ⟨110, _⟩ => ⟨S32x4x2048x128, .f32⟩
  | .hbm, ⟨111, _⟩ => ⟨S_, .f32⟩
  | .hbm, ⟨112, _⟩ => ⟨S32x4x2048x128, .f32⟩
  | .hbm, ⟨113, _⟩ => ⟨S32x4x2048x128, .f32⟩
  | .hbm, ⟨114, _⟩ => ⟨S32x2048x4x128, .f32⟩
  | .hbm, ⟨115, _⟩ => ⟨S32x8x256x512, .f32⟩
  | .hbm, ⟨116, _⟩ => ⟨S32x8x256x512, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_cst_11 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_12 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]
-- ==== Kernel2.lean ====
abbrev S32x2048x1024 : Shape := ⟨3, ![32, 2048, 1024]⟩
abbrev S1024 : Shape := ⟨1, ![1024]⟩
abbrev S1024x3072 : Shape := ⟨2, ![1024, 3072]⟩
abbrev S64 : Shape := ⟨1, ![64]⟩
abbrev S256x256 : Shape := ⟨2, ![256, 256]⟩
abbrev S1024x1024 : Shape := ⟨2, ![1024, 1024]⟩
abbrev S1024x512 : Shape := ⟨2, ![1024, 512]⟩
abbrev S_ : Shape := ⟨0, ![]⟩
abbrev S1x64 : Shape := ⟨2, ![1, 64]⟩
abbrev S8x64 : Shape := ⟨2, ![8, 64]⟩
abbrev S512 : Shape := ⟨1, ![512]⟩
abbrev S2048 : Shape := ⟨1, ![2048]⟩
abbrev S1x2048 : Shape := ⟨2, ![1, 2048]⟩
abbrev S65536x1024 : Shape := ⟨2, ![65536, 1024]⟩
abbrev S1x1024 : Shape := ⟨2, ![1, 1024]⟩
abbrev S65536x2048 : Shape := ⟨2, ![65536, 2048]⟩
abbrev S32x8x1024x256 : Shape := ⟨4, ![32, 8, 1024, 256]⟩
abbrev S1024x2048 : Shape := ⟨2, ![1024, 2048]⟩
abbrev S1x4x1024x256 : Shape := ⟨4, ![1, 4, 1024, 256]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S1x256 : Shape := ⟨2, ![1, 256]⟩
abbrev S1x1x256x256 : Shape := ⟨4, ![1, 1, 256, 256]⟩

abbrev nBuf : Space → Nat
  | .hbm => 38
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S256x256, .bf16⟩
  | .hbm, ⟨8, _⟩ => ⟨S1024x1024, .f32⟩
  | .hbm, ⟨9, _⟩ => ⟨S1024x1024, .f32⟩
  | .hbm, ⟨10, _⟩ => ⟨S1024x512, .f32⟩
  | .hbm, ⟨11, _⟩ => ⟨S1024x512, .f32⟩
  | .hbm, ⟨12, _⟩ => ⟨S1024x3072, .f32⟩
  | .hbm, ⟨13, _⟩ => ⟨S1024x3072, .bf16⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S8x64, .f32⟩
  | .hbm, ⟨19, _⟩ => ⟨S512, .f32⟩
  | .hbm, ⟨20, _⟩ => ⟨S1x64, .f32⟩
  | .hbm, ⟨21, _⟩ => ⟨S8x64, .f32⟩
  | .hbm, ⟨22, _⟩ => ⟨S512, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S8x64, .f32⟩
  | .hbm, ⟨28, _⟩ => ⟨S512, .f32⟩
  | .hbm, ⟨29, _⟩ => ⟨S1x64, .f32⟩
  | .hbm, ⟨30, _⟩ => ⟨S8x64, .f32⟩
  | .hbm, ⟨31, _⟩ => ⟨S512, .f32⟩
  | .hbm, ⟨32, _⟩ => ⟨S2048, .f32⟩
  | .hbm, ⟨33, _⟩ => ⟨S1x2048, .f32⟩
  | .hbm, ⟨34, _⟩ => ⟨S65536x1024, .f32⟩
  | .hbm, ⟨35, _⟩ => ⟨S1x1024, .f32⟩
  | .hbm, ⟨36, _⟩ => ⟨S65536x2048, .bf16⟩
  | .hbm, ⟨37, _⟩ => ⟨S32x8x1024x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1x2048, .f32⟩
  | .local _ .vmem, ⟨5, _⟩ => ⟨S256x256, .bf16⟩
  | .local _ .vmem, ⟨6, _⟩ => ⟨S1024x2048, .bf16⟩
  | .local _ .vmem, ⟨7, _⟩ => ⟨S1024x2048, .bf16⟩
  | .local _ .vmem, ⟨8, _⟩ => ⟨S1x4x1024x256, .bf16⟩
  | .local _ .vmem, ⟨9, _⟩ => ⟨S1x4x1024x256, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32x2048x1024 : Shape := ⟨3, ![32, 2048, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3072 : Shape := ⟨3, ![32, 2048, 3072]⟩
abbrev S32x2048x512 : Shape := ⟨3, ![32, 2048, 512]⟩
abbrev S32x2048x8x64 : Shape := ⟨4, ![32, 2048, 8, 64]⟩
abbrev S32x2048x8 : Shape := ⟨3, ![32, 2048, 8]⟩
abbrev S32x2048x8x1 : Shape := ⟨4, ![32, 2048, 8, 1]⟩
abbrev S1x1x1x64 : Shape := ⟨4, ![1, 1, 1, 64]⟩
abbrev S32x2048x32x64 : Shape := ⟨4, ![32, 2048, 32, 64]⟩
abbrev S65536x2048 : Shape := ⟨2, ![65536, 2048]⟩
abbrev S32x8x256x1024 : Shape := ⟨4, ![32, 8, 256, 1024]⟩
abbrev S32x8x1024x256 : Shape := ⟨4, ![32, 8, 1024, 256]⟩

abbrev nBuf : Space → Nat
  | .hbm => 111
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S32x2048x1024, .f32⟩
  | .hbm, ⟨8, _⟩ => ⟨S_, .f32⟩
  | .hbm, ⟨9, _⟩ => ⟨S32x2048, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S32x2048x1, .f32⟩
  | .hbm, ⟨18, _⟩ => ⟨S32x2048x1024, .f32⟩
  | .hbm, ⟨19, _⟩ => ⟨S32x2048x1024, .f32⟩
  | .hbm, ⟨20, _⟩ => ⟨S1x1x1024, .f32⟩
  | .hbm, ⟨21, _⟩ => ⟨S32x2048x1024, .f32⟩
  | .hbm, ⟨22, _⟩ => ⟨S32x2048x1024, .f32⟩
  | .hbm, ⟨23, _⟩ => ⟨S32x2048x3072, .f32⟩
  | .hbm, ⟨24, _⟩ => ⟨S32x2048x512, .f32⟩
  | .hbm, ⟨25, _⟩ => ⟨S32x2048x512, .f32⟩
  | .hbm, ⟨26, _⟩ => ⟨S32x2048x512, .f32⟩
  | .hbm, ⟨27, _⟩ => ⟨S32x2048x512, .f32⟩
  | .hbm, ⟨28, _⟩ => ⟨S32x2048x512, .f32⟩
  | .hbm, ⟨29, _⟩ => ⟨S32x2048x512, .f32⟩
  | .hbm, ⟨30, _⟩ => ⟨S32x2048x8x64, .f32⟩
  | .hbm, ⟨31, _⟩ => ⟨S32x2048x8x64, .f32⟩
  | .hbm, ⟨32, _⟩ => ⟨S_, .f32⟩
  | .hbm, ⟨33, _⟩ => ⟨S32x2048x8, .f32⟩
  | .hbm, ⟨34, _⟩ => ⟨S32x2048x8x1, .f32⟩
  | .hbm, ⟨35, _⟩ => ⟨S_, .f32⟩
  | .hbm, ⟨36, _⟩ => ⟨S32x2048x8x1, .f32⟩
  | .hbm, ⟨37, _⟩ => ⟨S32x2048x8x1, .f32⟩
  | .hbm, ⟨38, _⟩ => ⟨S_, .f32⟩
  | .hbm, ⟨39, _⟩ => ⟨S32x2048x8x1, .f32⟩
  | .hbm, ⟨40, _⟩ => ⟨S32x2048x8x1, .f32⟩
  | .hbm, ⟨41, _⟩ => ⟨S32x2048x8x1, .f32⟩
  | .hbm, ⟨42, _⟩ => ⟨S32x2048x8x64, .f32⟩
  | .hbm, ⟨43, _⟩ => ⟨S32x2048x8x64, .f32⟩
  | .hbm, ⟨44, _⟩ => ⟨S1x1x1x64, .f32⟩
  | .hbm, ⟨45, _⟩ => ⟨S32x2048x8x64, .f32⟩
  | .hbm, ⟨46, _⟩ => ⟨S32x2048x8x64, .f32⟩
  | .hbm, ⟨47, _⟩ => ⟨S_, .f32⟩
  | .hbm, ⟨48, _⟩ => ⟨S32x2048x8x64, .f32⟩
  | .hbm, ⟨49, _⟩ => ⟨S32x2048x8x64, .f32⟩
  | .hbm, ⟨50, _⟩ => ⟨S32x2048x8x64, .f32⟩
  | .hbm, ⟨51, _⟩ => ⟨S32x2048x8x64, .f32⟩
  | .hbm, ⟨52, _⟩ => ⟨S_, .f32⟩
  | .hbm, ⟨53, _⟩ => ⟨S32x2048x8, .f32⟩
  | .hbm, ⟨54, _⟩ => ⟨S32x2048x8x1, .f32⟩
  | .hbm, ⟨55, _⟩ => ⟨S_, .f32⟩
  | .hbm, ⟨56, _⟩ => ⟨S32x2048x8x1, .f32⟩
  | .hbm, ⟨57, _⟩ => ⟨S32x2048x8x1, .f32⟩
  | .hbm, ⟨58, _⟩ => ⟨S_, .f32⟩
  | .hbm, ⟨59, _⟩ => ⟨S32x2048x8x1, .f32⟩
  | .hbm, ⟨60, _⟩ => ⟨S32x2048x8x1, .f32⟩
  | .hbm, ⟨61, _⟩ => ⟨S32x2048x8x1, .f32⟩
  | .hbm, ⟨62, _⟩ => ⟨S32x2048x8x64, .f32⟩
  | .hbm, ⟨63, _⟩ => ⟨S32x2048x8x64, .f32⟩
  | .hbm, ⟨64, _⟩ => ⟨S1x1x1x64, .f32⟩
  | .hbm, ⟨65, _⟩ => ⟨S32x2048x8x64, .f32⟩
  | .hbm, ⟨66, _⟩ => ⟨S32x2048x8x64, .f32⟩
  | .hbm, ⟨67, _⟩ => ⟨S32x2048x8x64, .f32⟩
  | .hbm, ⟨68, _⟩ => ⟨S32x2048x8x64, .f32⟩
  | .hbm, ⟨69, _⟩ => ⟨S_, .f32⟩
  | .hbm, ⟨70, _⟩ => ⟨S32x2048x8, .f32⟩
  | .hbm, ⟨71, _⟩ => ⟨S32x2048x8x1, .f32⟩
  | .hbm, ⟨72, _⟩ => ⟨S_, .f32⟩
  | .hbm, ⟨73, _⟩ => ⟨S32x2048x8x1, .f32⟩
  | .hbm, ⟨74, _⟩ => ⟨S32x2048x8x1, .f32⟩
  | .hbm, ⟨75, _⟩ => ⟨S_, .f32⟩
  | .hbm, ⟨76, _⟩ => ⟨S32x2048x8x1, .f32⟩
  | .hbm, ⟨77, _⟩ => ⟨S32x2048x8x1, .f32⟩
  | .hbm, ⟨78, _⟩ => ⟨S32x2048x8x1, .f32⟩
  | .hbm, ⟨79, _⟩ => ⟨S32x2048x8x64, .f32⟩
  | .hbm, ⟨80, _⟩ => ⟨S32x2048x8x64, .f32⟩
  | .hbm, ⟨81, _⟩ => ⟨S1x1x1x64, .f32⟩
  | .hbm, ⟨82, _⟩ => ⟨S32x2048x8x64, .f32⟩
  | .hbm, ⟨83, _⟩ => ⟨S32x2048x8x64, .f32⟩
  | .hbm, ⟨84, _⟩ => ⟨S_, .f32⟩
  | .hbm, ⟨85, _⟩ => ⟨S32x2048x8x64, .f32⟩
  | .hbm, ⟨86, _⟩ => ⟨S32x2048x8x64, .f32⟩
  | .hbm, ⟨87, _⟩ => ⟨S32x2048x8x64, .f32⟩
  | .hbm, ⟨88, _⟩ => ⟨S32x2048x8x64, .f32⟩
  | .hbm, ⟨89, _⟩ => ⟨S_, .f32⟩
  | .hbm, ⟨90, _⟩ => ⟨S32x2048x8, .f32⟩
  | .hbm, ⟨91, _⟩ => ⟨S32x2048x8x1, .f32⟩
  | .hbm, ⟨92, _⟩ => ⟨S_, .f32⟩
  | .hbm, ⟨93, _⟩ => ⟨S32x2048x8x1, .f32⟩
  | .hbm, ⟨94, _⟩ => ⟨S32x2048x8x1, .f32⟩
  | .hbm, ⟨95, _⟩ => ⟨S_, .f32⟩
  | .hbm, ⟨96, _⟩ => ⟨S32x2048x8x1, .f32⟩
  | .hbm, ⟨97, _⟩ => ⟨S32x2048x8x1, .f32⟩
  | .hbm, ⟨98, _⟩ => ⟨S32x2048x8x1, .f32⟩
  | .hbm, ⟨99, _⟩ => ⟨S32x2048x8x64, .f32⟩
  | .hbm, ⟨100, _⟩ => ⟨S32x2048x8x64, .f32⟩
  | .hbm, ⟨101, _⟩ => ⟨S1x1x1x64, .f32⟩
  | .hbm, ⟨102, _⟩ => ⟨S32x2048x8x64, .f32⟩
  | .hbm, ⟨103, _⟩ => ⟨S32x2048x8x64, .f32⟩
  | .hbm, ⟨104, _⟩ => ⟨S32x2048x32x64, .f32⟩
  | .hbm, ⟨105, _⟩ => ⟨S65536x2048, .f32⟩
  | .hbm, ⟨106, _⟩ => ⟨S32x2048x1024, .f32⟩
  | .hbm, ⟨107, _⟩ => ⟨S32x8x256x1024, .f32⟩
  | .hbm, ⟨108, _⟩ => ⟨S65536x2048, .bf16⟩
  | .hbm, ⟨109, _⟩ => ⟨S32x8x1024x256, .f32⟩
  | .hbm, ⟨110, _⟩ => ⟨S32x8x1024x256, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]
-- ==== Kernel3.lean ====
abbrev S32x12 : Shape := ⟨2, ![32, 12]⟩
abbrev S12x8x256x256 : Shape := ⟨4, ![12, 8, 256, 256]⟩
abbrev S1x8x256x256 : Shape := ⟨4, ![1, 8, 256, 256]⟩
abbrev S256x256 : Shape := ⟨2, ![256, 256]⟩
abbrev S1x1 : Shape := ⟨2, ![1, 1]⟩
abbrev S1x1x256x256 : Shape := ⟨4, ![1, 1, 256, 256]⟩

abbrev nBuf : Space → Nat
  | .hbm => 2
  | .vmem => 2
  | .smem => 1
  | _ => 0

abbrev bufTy : (tb : Table) → Fin (tcTables nBuf tb) → BufTy
  | .hbm, ⟨0, _⟩ => ⟨S32x12, .f32⟩
  | .hbm, ⟨1, _⟩ => ⟨S12x8x256x256, .f32⟩
  | .local _ .vmem, ⟨0, _⟩ => ⟨S1x8x256x256, .f32⟩
  | .local _ .vmem, ⟨1, _⟩ => ⟨S1x8x256x256, .f32⟩
  | .local _ .smem, ⟨0, _⟩ => ⟨S32x12, .f32⟩
  | _, _ => ⟨S32x12, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![12], ![false]⟩

def k0_off1 (i : grid0.Coords) : Fin 2 → Nat :=
  let c0 : Index := 0#32
  let arg0 : BitVec 32 := BitVec.ofNat 32 (i 0).val
  let v5 : Index := Scalar.indexCast arg0
  ![0, v5.toNat]
def k0_off2 (i : grid0.Coords) : Fin 2 → Nat :=
  let c1 : Index := 1#32
  let arg0 : BitVec 32 := BitVec.ofNat 32 (i 0).val
  let v10 : Index := Scalar.indexCast arg0
  ![1, v10.toNat]
def k0_off3 (i : grid0.Coords) : Fin 2 → Nat :=
  let c2 : Index := 2#32
  let arg0 : BitVec 32 := BitVec.ofNat 32 (i 0).val
  let v16 : Index := Scalar.indexCast arg0
  ![2, v16.toNat]
def k0_off4 (i : grid0.Coords) : Fin 2 → Nat :=
  let c3 : Index := 3#32
  let arg0 : BitVec 32 := BitVec.ofNat 32 (i 0).val
  let v22 : Index := Scalar.indexCast arg0
  ![3, v22.toNat]
def k0_off5 (i : grid0.Coords) : Fin 2 → Nat :=
  let c4 : Index := 4#32
  let arg0 : BitVec 32 := BitVec.ofNat 32 (i 0).val
  let v28 : Index := Scalar.indexCast arg0
  ![4, v28.toNat]
def k0_off6 (i : grid0.Coords) : Fin 2 → Nat :=
  let c5 : Index := 5#32
  let arg0 : BitVec 32 := BitVec.ofNat 32 (i 0).val
  let v34 : Index := Scalar.indexCast arg0
  ![5, v34.toNat]
def k0_off7 (i : grid0.Coords) : Fin 2 → Nat :=
  let c6 : Index := 6#32
  let arg0 : BitVec 32 := BitVec.ofNat 32 (i 0).val
  let v40 : Index := Scalar.indexCast arg0
  ![6, v40.toNat]
def k0_off8 (i : grid0.Coords) : Fin 2 → Nat :=
  let c7 : Index := 7#32
  let arg0 : BitVec 32 := BitVec.ofNat 32 (i 0).val
  let v46 : Index := Scalar.indexCast arg0
  ![7, v46.toNat]
def k0_off9 (i : grid0.Coords) : Fin 2 → Nat :=
  let c8 : Index := 8#32
  let arg0 : BitVec 32 := BitVec.ofNat 32 (i 0).val
  let v52 : Index := Scalar.indexCast arg0
  ![8, v52.toNat]
def k0_off10 (i : grid0.Coords) : Fin 2 → Nat :=
  let c9 : Index := 9#32
  let arg0 : BitVec 32 := BitVec.ofNat 32 (i 0).val
  let v58 : Index := Scalar.indexCast arg0
  ![9, v58.toNat]
def k0_off11 (i : grid0.Coords) : Fin 2 → Nat :=
  let c10 : Index := 10#32
  let arg0 : BitVec 32 := BitVec.ofNat 32 (i 0).val
  let v64 : Index := Scalar.indexCast arg0
  ![10, v64.toNat]
def k0_off12 (i : grid0.Coords) : Fin 2 → Nat :=
  let c11 : Index := 11#32
  let arg0 : BitVec 32 := BitVec.ofNat 32 (i 0).val
  let v70 : Index := Scalar.indexCast arg0
  ![11, v70.toNat]
def k0_off13 (i : grid0.Coords) : Fin 2 → Nat :=
  let c12 : Index := 12#32
  let arg0 : BitVec 32 := BitVec.ofNat 32 (i 0).val
  let v76 : Index := Scalar.indexCast arg0
  ![12, v76.toNat]
def k0_off14 (i : grid0.Coords) : Fin 2 → Nat :=
  let c13 : Index := 13#32
  let arg0 : BitVec 32 := BitVec.ofNat 32 (i 0).val
  let v82 : Index := Scalar.indexCast arg0
  ![13, v82.toNat]
def k0_off15 (i : grid0.Coords) : Fin 2 → Nat :=
  let c14 : Index := 14#32
  let arg0 : BitVec 32 := BitVec.ofNat 32 (i 0).val
  let v88 : Index := Scalar.indexCast arg0
  ![14, v88.toNat]
def k0_off16 (i : grid0.Coords) : Fin 2 → Nat :=
  let c15 : Index := 15#32
  let arg0 : BitVec 32 := BitVec.ofNat 32 (i 0).val
  let v94 : Index := Scalar.indexCast arg0
  ![15, v94.toNat]
def k0_off17 (i : grid0.Coords) : Fin 2 → Nat :=
  let c16 : Index := 16#32
  let arg0 : BitVec 32 := BitVec.ofNat 32 (i 0).val
  let v100 : Index := Scalar.indexCast arg0
  ![16, v100.toNat]
def k0_off18 (i : grid0.Coords) : Fin 2 → Nat :=
  let c17 : Index := 17#32
  let arg0 : BitVec 32 := BitVec.ofNat 32 (i 0).val
  let v106 : Index := Scalar.indexCast arg0
  ![17, v106.toNat]
def k0_off19 (i : grid0.Coords) : Fin 2 → Nat :=
  let c18 : Index := 18#32
  let arg0 : BitVec 32 := BitVec.ofNat 32 (i 0).val
  let v112 : Index := Scalar.indexCast arg0
  ![18, v112.toNat]
def k0_off20 (i : grid0.Coords) : Fin 2 → Nat :=
  let c19 : Index := 19#32
  let arg0 : BitVec 32 := BitVec.ofNat 32 (i 0).val
  let v118 : Index := Scalar.indexCast arg0
  ![19, v118.toNat]
def k0_off21 (i : grid0.Coords) : Fin 2 → Nat :=
  let c20 : Index := 20#32
  let arg0 : BitVec 32 := BitVec.ofNat 32 (i 0).val
  let v124 : Index := Scalar.indexCast arg0
  ![20, v124.toNat]
def k0_off22 (i : grid0.Coords) : Fin 2 → Nat :=
  let c21 : Index := 21#32
  let arg0 : BitVec 32 := BitVec.ofNat 32 (i 0).val
  let v130 : Index := Scalar.indexCast arg0
  ![21, v130.toNat]
def k0_off23 (i : grid0.Coords) : Fin 2 → Nat :=
  let c22 : Index := 22#32
  let arg0 : BitVec 32 := BitVec.ofNat 32 (i 0).val
  let v136 : Index := Scalar.indexCast arg0
  ![22, v136.toNat]
def k0_off24 (i : grid0.Coords) : Fin 2 → Nat :=
  let c23 : Index := 23#32
  let arg0 : BitVec 32 := BitVec.ofNat 32 (i 0).val
  let v142 : Index := Scalar.indexCast arg0
  ![23, v142.toNat]
def k0_off25 (i : grid0.Coords) : Fin 2 → Nat :=
  let c24 : Index := 24#32
  let arg0 : BitVec 32 := BitVec.ofNat 32 (i 0).val
  let v148 : Index := Scalar.indexCast arg0
  ![24, v148.toNat]
def k0_off26 (i : grid0.Coords) : Fin 2 → Nat :=
  let c25 : Index := 25#32
  let arg0 : BitVec 32 := BitVec.ofNat 32 (i 0).val
  let v154 : Index := Scalar.indexCast arg0
  ![25, v154.toNat]
def k0_off27 (i : grid0.Coords) : Fin 2 → Nat :=
  let c26 : Index := 26#32
  let arg0 : BitVec 32 := BitVec.ofNat 32 (i 0).val
  let v319 : Index := Scalar.indexCast arg0
  ![26, v319.toNat]
def k0_off28 (i : grid0.Coords) : Fin 2 → Nat :=
  let c27 : Index := 27#32
  let arg0 : BitVec 32 := BitVec.ofNat 32 (i 0).val
  let v325 : Index := Scalar.indexCast arg0
  ![27, v325.toNat]
def k0_off29 (i : grid0.Coords) : Fin 2 → Nat :=
  let c28 : Index := 28#32
  let arg0 : BitVec 32 := BitVec.ofNat 32 (i 0).val
  let v354 : Index := Scalar.indexCast arg0
  ![28, v354.toNat]
def k0_off30 (i : grid0.Coords) : Fin 2 → Nat :=
  let c29 : Index := 29#32
  let arg0 : BitVec 32 := BitVec.ofNat 32 (i 0).val
  let v377 : Index := Scalar.indexCast arg0
  ![29, v377.toNat]
def k0_off31 (i : grid0.Coords) : Fin 2 → Nat :=
  let c30 : Index := 30#32
  let arg0 : BitVec 32 := BitVec.ofNat 32 (i 0).val
  let v400 : Index := Scalar.indexCast arg0
  ![30, v400.toNat]
def k0_off32 (i : grid0.Coords) : Fin 2 → Nat :=
  let c31 : Index := 31#32
  let arg0 : BitVec 32 := BitVec.ofNat 32 (i 0).val
  let v423 : Index := Scalar.indexCast arg0
  ![31, v423.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference3Ideal.lean ====
abbrev S32x12 : Shape := ⟨2, ![32, 12]⟩
abbrev S8x256x256 : Shape := ⟨3, ![8, 256, 256]⟩
abbrev S_ : Shape := ⟨0, ![]⟩
abbrev S8x256x256x1 : Shape := ⟨4, ![8, 256, 256, 1]⟩
abbrev S8x256x256x12 : Shape := ⟨4, ![8, 256, 256, 12]⟩
abbrev S12x8x256x256 : Shape := ⟨4, ![12, 8, 256, 256]⟩

abbrev nBuf : Space → Nat
  | .hbm => 58
  | .vmem => 0
  | .smem => 0
  | _ => 0

abbrev bufTy : (tb : Table) → Fin (tcTables nBuf tb) → BufTy
  | .hbm, ⟨0, _⟩ => ⟨S32x12, .f32⟩
  | .hbm, ⟨1, _⟩ => ⟨S8x256x256, .i32⟩
  | .hbm, ⟨2, _⟩ => ⟨S8x256x256, .i32⟩
  | .hbm, ⟨3, _⟩ => ⟨S8x256x256, .i32⟩
  | .hbm, ⟨4, _⟩ => ⟨S_, .i32⟩
  | .hbm, ⟨5, _⟩ => ⟨S8x256x256, .i32⟩
  | .hbm, ⟨6, _⟩ => ⟨S8x256x256, .i32⟩
  | .hbm, ⟨7, _⟩ => ⟨S8x256x256, .i32⟩
  | .hbm, ⟨8, _⟩ => ⟨S8x256x256, .i32⟩
  | .hbm, ⟨9, _⟩ => ⟨S_, .i32⟩
  | .hbm, ⟨10, _⟩ => ⟨S8x256x256, .i32⟩
  | .hbm, ⟨11, _⟩ => ⟨S8x256x256, .i32⟩
  | .hbm, ⟨12, _⟩ => ⟨S_, .i32⟩
  | .hbm, ⟨13, _⟩ => ⟨S8x256x256, .i32⟩
  | .hbm, ⟨14, _⟩ => ⟨S8x256x256, .i32⟩
  | .hbm, ⟨15, _⟩ => ⟨S8x256x256, .f32⟩
  | .hbm, ⟨16, _⟩ => ⟨S_, .f32⟩
  | .hbm, ⟨17, _⟩ => ⟨S8x256x256, .f32⟩
  | .hbm, ⟨18, _⟩ => ⟨S8x256x256, .f32⟩
  | .hbm, ⟨19, _⟩ => ⟨S8x256x256, .f32⟩
  | .hbm, ⟨20, _⟩ => ⟨S_, .f32⟩
  | .hbm, ⟨21, _⟩ => ⟨S8x256x256, .f32⟩
  | .hbm, ⟨22, _⟩ => ⟨S8x256x256, .f32⟩
  | .hbm, ⟨23, _⟩ => ⟨S_, .f32⟩
  | .hbm, ⟨24, _⟩ => ⟨S8x256x256, .f32⟩
  | .hbm, ⟨25, _⟩ => ⟨S8x256x256, .f32⟩
  | .hbm, ⟨26, _⟩ => ⟨S8x256x256, .i32⟩
  | .hbm, ⟨27, _⟩ => ⟨S_, .i32⟩
  | .hbm, ⟨28, _⟩ => ⟨S8x256x256, .i32⟩
  | .hbm, ⟨29, _⟩ => ⟨S8x256x256, .i32⟩
  | .hbm, ⟨30, _⟩ => ⟨S_, .i32⟩
  | .hbm, ⟨31, _⟩ => ⟨S8x256x256, .i32⟩
  | .hbm, ⟨32, _⟩ => ⟨S8x256x256, .i32⟩
  | .hbm, ⟨33, _⟩ => ⟨S_, .i32⟩
  | .hbm, ⟨34, _⟩ => ⟨S8x256x256, .i32⟩
  | .hbm, ⟨35, _⟩ => ⟨S8x256x256, .i1⟩
  | .hbm, ⟨36, _⟩ => ⟨S8x256x256, .i32⟩
  | .hbm, ⟨37, _⟩ => ⟨S_, .i32⟩
  | .hbm, ⟨38, _⟩ => ⟨S8x256x256, .i32⟩
  | .hbm, ⟨39, _⟩ => ⟨S8x256x256, .i1⟩
  | .hbm, ⟨40, _⟩ => ⟨S_, .i32⟩
  | .hbm, ⟨41, _⟩ => ⟨S8x256x256, .i32⟩
  | .hbm, ⟨42, _⟩ => ⟨S8x256x256, .i32⟩
  | .hbm, ⟨43, _⟩ => ⟨S8x256x256, .i32⟩
  | .hbm, ⟨44, _⟩ => ⟨S8x256x256x1, .i32⟩
  | .hbm, ⟨45, _⟩ => ⟨S8x256x256x12, .f32⟩
  | .hbm, ⟨46, _⟩ => ⟨S12x8x256x256, .f32⟩
  | .hbm, ⟨47, _⟩ => ⟨S_, .i32⟩
  | .hbm, ⟨48, _⟩ => ⟨S8x256x256, .i32⟩
  | .hbm, ⟨49, _⟩ => ⟨S8x256x256, .i1⟩
  | .hbm, ⟨50, _⟩ => ⟨S_, .f32⟩
  | .hbm, ⟨51, _⟩ => ⟨S12x8x256x256, .f32⟩
  | .hbm, ⟨52, _⟩ => ⟨S12x8x256x256, .f32⟩
  | .hbm, ⟨53, _⟩ => ⟨S_, .f32⟩
  | .hbm, ⟨54, _⟩ => ⟨S_, .f32⟩
  | .hbm, ⟨55, _⟩ => ⟨S12x8x256x256, .i1⟩
  | .hbm, ⟨56, _⟩ => ⟨S12x8x256x256, .f32⟩
  | .hbm, ⟨57, _⟩ => ⟨S12x8x256x256, .f32⟩
  | _, _ => ⟨S32x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_c_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_7 : Ref sig .tc := ⟨.hbm, 37, rfl⟩
abbrev main_v27 : Ref sig .tc := ⟨.hbm, 38, rfl⟩
abbrev main_v28 : Ref sig .tc := ⟨.hbm, 39, rfl⟩
abbrev main_c_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_9 : Ref sig .tc := ⟨.hbm, 47, rfl⟩
abbrev main_v35 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Proof.RunBoundedKernelIdeal.lean ====
module

public import proofs.«01_k».proof.Proof.Gen.KernelIdeal
public import proofs.«01_k».proof.Proof.Gen.KernelIdeal.Skeleton
public import Idealize.ShloMosaic.Lib.Tactic
public import Idealize.ShloMosaic.Lib.Pipeline.Kit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at the contents `f`. -/
abbrev pt (c : Dev nD) {sp : Space} {S : Shape} {e : EltTy} (M : Memref sig .tc sp S e) (f : Bf (F := F) c M) : sProp 𝕄 :=
  M.view.loc (c : Thread nD τ) ↦{fullShare} f

/-- The word the kernel branches on. -/
abbrev flag (c : Dev nD) (M2 : Memref sig .tc .smem S1 .i32) (f2 : Bf (F := F) c M2) : Elt F .i32 :=
  View.readAt (Elt F) M2.view (Rect.unit (s := S1) ![0] S1.size inb_S1_S1_0).toLoadRect f2 (Shape.Idx.first (Nat.one_pos.trans_eq numel1_S1.symm))

/-- The two arms of the kernel exclude each other. -/
theorem other_arm (b : BitVec 1) (h : Scalar.cmpi .ne (Scalar.extui b : BitVec 32) 0#32 = 1#1) :
    ¬ Scalar.cmpi .ne (Scalar.extui (Scalar.xori b 1#1) : BitVec 32) 0#32 = 1#1 := by
  revert h; revert b; decide

/-- Of the two arms, the second is taken when the first is not. -/
theorem this_arm (b : BitVec 1) (h : ¬ Scalar.cmpi .ne (Scalar.extui b : BitVec 32) 0#32 = 1#1) :
    Scalar.cmpi .ne (Scalar.extui (Scalar.xori b 1#1) : BitVec 32) 0#32 = 1#1 := by
  revert h; revert b; decide

set_option sl_exec.parts true in
def runBounded (c : Dev nD) (i : grid0.Coords)
    (M2 : Memref sig .tc .smem S1 .i32) (h2 : M2.IsWhole) (M3 : Memref sig .tc .vmem S1x64 .f32) (h3 : M3.IsWhole) (M4 : Memref sig .tc .vmem S1x64 .f32) (h4 : M4.IsWhole) (M5 : Memref sig .tc .vmem S1x64 .f32) (h5 : M5.IsWhole) (M6 : Memref sig .tc .vmem S1x64 .f32) (h6 : M6.IsWhole) (M7 : Memref sig .tc .vmem S128x1 .f32) (h7 : M7.IsWhole) (M8 : Memref sig .tc .vmem S1x8x256x128 .bf16) (h8 : M8.IsWhole) (M9 : Memref sig .tc .vmem S1x8x256x128 .bf16) (h9 : M9.IsWhole) (M10 : Memref sig .tc .vmem S1x8x128x256 .bf16) (h10 : M10.IsWhole) (M11 : Memref sig .tc .vmem S1x8x256x256 .f32) (h11 : M11.IsWhole) (M12 : Memref sig .tc .vmem S1x8x256x128 .bf16) (h12 : M12.IsWhole) (M13 : Memref sig .tc .vmem S8x2x256x128 .bf16) (h13 : M13.IsWhole) (M14 : Memref sig .tc .vmem S2x2x256x256 .f32) (h14 : M14.IsWhole) (M15 : Memref sig .tc .vmem S8x2x256x256 .bf16) (h15 : M15.IsWhole) (M16 : Memref sig .tc .vmem S8x2x144x256 .f32) (h16 : M16.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11)
    (hb : Scalar.cmpi .ne (Scalar.extui (Scalar.cmpi .sgt (flag c M2 f2) 0#32)) 0#32 = 1#1) :
    { W : Bf (F := F) c M12 //
      ∀ (f12 : Bf (F := F) c M12) (f13 : Bf (F := F) c M13) (f14 : Bf (F := F) c M14) (f15 : Bf (F := F) c M15) (f16 : Bf (F := F) c M16) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 W ∗ (∃ f, pt c M13 f) ∗ (∃ f, pt c M14 f) ∗ (∃ f, pt c M15 f) ∗ (∃ f, pt c M16 f)) -∗ Q ⟨⟩))
        ⊢ wp frame (wpE (defs₀ (F := F)) Variants.none c none) E
            (cc0_diff_attention i M2 h2 M3 h3 M4 h4 M5 h5 M6 h6 M7 h7 M8 h8 M9 h9 M10 h10 M11 h11 M12 h12 M13 h13 M14 h14 M15 h15 M16 h16) Q } := by
  refine ⟨?_, fun f12 f13 f14 f15 f16 E Q => ?run⟩
  case run =>
    have hn := other_arm _ hb
    iintro ⟨H2, H3, H4, H5, H6, H7, H8, H9, H10, H11, H12, H13, H14, H15, H16, Hk⟩
    sl_exec_parts!
    sl_step
    iapply Hk

    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    iexists _; iexact H16

end Cert.Proof.KernelIdeal

end
-- ==== Proof.RunFlashKernelIdeal.lean ====
module

public import proofs.«01_k».proof.Proof.RunBoundedKernelIdeal
public import proofs.«01_k».proof.Proof.Gen.KernelIdeal.Loops
public import Idealize.ShloMosaic.Lib.LoopRemainder

@[expose] public section

set_option maxRecDepth 16384

noncomputable section

/-!
# The arm for unbounded gains

When the word the kernel branches on is not positive, the kernel runs the online softmax: two nested loops over tiles, the
running maximum and the running sum kept beside an accumulator. Stated here is only that this arm runs without a fault and
gives back every buffer, the inputs at what they held: what it stores is left open.
-/

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section Loops

variable (c : Dev nD) (i : grid0.Coords)
  (M2 : Memref sig .tc .smem S1 .i32) (h2 : M2.IsWhole) (M3 : Memref sig .tc .vmem S1x64 .f32) (h3 : M3.IsWhole) (M4 : Memref sig .tc .vmem S1x64 .f32) (h4 : M4.IsWhole) (M5 : Memref sig .tc .vmem S1x64 .f32) (h5 : M5.IsWhole) (M6 : Memref sig .tc .vmem S1x64 .f32) (h6 : M6.IsWhole) (M7 : Memref sig .tc .vmem S128x1 .f32) (h7 : M7.IsWhole) (M8 : Memref sig .tc .vmem S1x8x256x128 .bf16) (h8 : M8.IsWhole) (M9 : Memref sig .tc .vmem S1x8x256x128 .bf16) (h9 : M9.IsWhole) (M10 : Memref sig .tc .vmem S1x8x128x256 .bf16) (h10 : M10.IsWhole) (M11 : Memref sig .tc .vmem S1x8x256x256 .f32) (h11 : M11.IsWhole) (M12 : Memref sig .tc .vmem S1x8x256x128 .bf16) (h12 : M12.IsWhole) (M13 : Memref sig .tc .vmem S8x2x256x128 .bf16) (h13 : M13.IsWhole) (M14 : Memref sig .tc .vmem S2x2x256x256 .f32) (h14 : M14.IsWhole) (M15 : Memref sig .tc .vmem S8x2x256x256 .bf16) (h15 : M15.IsWhole) (M16 : Memref sig .tc .vmem S8x2x144x256 .f32) (h16 : M16.IsWhole)
  (f9 : Bf (F := F) c M9) (f10 : Bf (F := F) c M10) (f11 : Bf (F := F) c M11) (f13 : Bf (F := F) c M13)

/-- What both loops touch: the keys, the values, the bias tiles and the masked queries at what they hold, the logits, the
    weights and the accumulator at anything. -/
abbrev loopRes : sProp 𝕄 :=
  iprop(pt c M9 f9 ∗ pt c M10 f10 ∗ pt c M11 f11 ∗ pt c M13 f13 ∗ (∃ f, pt c M14 f) ∗ (∃ f, pt c M15 f) ∗ (∃ f, pt c M16 f))

set_option warn.classDefReducibility false in
/-- The inner loop, over key tiles: any trip gives the buffers back. -/
@[sl_loop] def innerLoop (t1 : Fin k0_t1_loop.trips) (w17 : BitVec 32) (v608 : FVec F S2x144x256 .f32)
    (init : FVec F S1x256 .f32 × FVec F S1x256 .f32 × FVec F S1x256 .f32 × FVec F S1x256 .f32) :
    LoopInvTy_k0_t2 (F := F) Unit ℕ (UR sig nD τ) ℕ Variants.none c none Set.univ i M2 h2 M3 h3 M4 h4 M5 h5 M6 h6 M7 h7 M8 h8 M9 h9 M10 h10 M11 h11 M12 h12 M13 h13 M14 h14 M15 h15 M16 h16 t1 w17 v608 init where
  inv _ _ := loopRes c M9 M10 M11 M13 M14 M15 M16 f9 f10 f11 f13
  step k acc := by
    unfold loopRes k0_t2_body
    iintro ⟨H9, H10, H11, H13, H14, H15, H16⟩
    icases H14 with ⟨%f14, H14⟩
    icases H15 with ⟨%f15, H15⟩
    icases H16 with ⟨%f16, H16⟩
    sl_exec_parts!
    sl_step
    isplitl [H9]; · iexact H9
    isplitl [H10]; · iexact H10
    isplitl [H11]; · iexact H11
    isplitl [H13]; · iexact H13
    isplitl [H14]; · iexists _; iexact H14
    isplitl [H15]; · iexists _; iexact H15
    iexists _; iexact H16

set_option warn.classDefReducibility false in
/-- The outer loop, over query tiles: any trip gives the buffers back. -/
@[sl_loop] def outerLoop (v120 : FVec F S256x128 .bf16) (v121 : IVec S256x128 32) (v122 : FVec F S256x128 .bf16) :
    LoopInvTy_k0_t1 (F := F) Unit ℕ (UR sig nD τ) ℕ Variants.none c none Set.univ i M2 h2 M3 h3 M4 h4 M5 h5 M6 h6 M7 h7 M8 h8 M9 h9 M10 h10 M11 h11 M12 h12 M13 h13 M14 h14 M15 h15 M16 h16 v120 v121 v122 where
  inv _ _ := loopRes c M9 M10 M11 M13 M14 M15 M16 f9 f10 f11 f13
  step k acc := by
    unfold loopRes k0_t1_body
    iintro ⟨H9, H10, H11, H13, H14, H15, H16⟩
    icases H14 with ⟨%f14, H14⟩
    icases H15 with ⟨%f15, H15⟩
    icases H16 with ⟨%f16, H16⟩
    sl_exec_parts!
    sl_step
    isplitl [H9]; · iexact H9
    isplitl [H10]; · iexact H10
    isplitl [H11]; · iexact H11
    isplitl [H13]; · iexact H13
    isplitl [H14]; · iexists _; iexact H14
    isplitl [H15]; · iexists _; iexact H15
    iexists _; iexact H16

end Loops

set_option sl_exec.parts true in
/-- The kernel's body, when the word it branches on is not positive: it ends, and hands every buffer back. -/
theorem runFlash (c : Dev nD) (i : grid0.Coords)
    (M2 : Memref sig .tc .smem S1 .i32) (h2 : M2.IsWhole) (M3 : Memref sig .tc .vmem S1x64 .f32) (h3 : M3.IsWhole) (M4 : Memref sig .tc .vmem S1x64 .f32) (h4 : M4.IsWhole) (M5 : Memref sig .tc .vmem S1x64 .f32) (h5 : M5.IsWhole) (M6 : Memref sig .tc .vmem S1x64 .f32) (h6 : M6.IsWhole) (M7 : Memref sig .tc .vmem S128x1 .f32) (h7 : M7.IsWhole) (M8 : Memref sig .tc .vmem S1x8x256x128 .bf16) (h8 : M8.IsWhole) (M9 : Memref sig .tc .vmem S1x8x256x128 .bf16) (h9 : M9.IsWhole) (M10 : Memref sig .tc .vmem S1x8x128x256 .bf16) (h10 : M10.IsWhole) (M11 : Memref sig .tc .vmem S1x8x256x256 .f32) (h11 : M11.IsWhole) (M12 : Memref sig .tc .vmem S1x8x256x128 .bf16) (h12 : M12.IsWhole) (M13 : Memref sig .tc .vmem S8x2x256x128 .bf16) (h13 : M13.IsWhole) (M14 : Memref sig .tc .vmem S2x2x256x256 .f32) (h14 : M14.IsWhole) (M15 : Memref sig .tc .vmem S8x2x256x256 .bf16) (h15 : M15.IsWhole) (M16 : Memref sig .tc .vmem S8x2x144x256 .f32) (h16 : M16.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11)
    (hb : ¬ Scalar.cmpi .ne (Scalar.extui (Scalar.cmpi .sgt (flag c M2 f2) 0#32)) 0#32 = 1#1)
    (f12 : Bf (F := F) c M12) (f13 : Bf (F := F) c M13) (f14 : Bf (F := F) c M14) (f15 : Bf (F := F) c M15) (f16 : Bf (F := F) c M16) (Q : PUnit → sProp 𝕄) :
    iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
        ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ (∃ f, pt c M12 f) ∗ (∃ f, pt c M13 f) ∗ (∃ f, pt c M14 f) ∗ (∃ f, pt c M15 f) ∗ (∃ f, pt c M16 f)) -∗ Q ⟨⟩))
      ⊢ wp frame (wpE (defs₀ (F := F)) Variants.none c none) Set.univ
          (cc0_diff_attention i M2 h2 M3 h3 M4 h4 M5 h5 M6 h6 M7 h7 M8 h8 M9 h9 M10 h10 M11 h11 M12 h12 M13 h13 M14 h14 M15 h15 M16 h16) Q := by
  have hn := this_arm _ hb
  iintro ⟨H2, H3, H4, H5, H6, H7, H8, H9, H10, H11, H12, H13, H14, H15, H16, Hk⟩
  sl_exec_parts!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  iexists _; iexact H16

end Cert.Proof.KernelIdeal

end
-- ==== Proof.LaunchKernelIdeal.lean ====
module

public import proofs.«01_k».proof.Proof.RunFlashKernelIdeal
public import proofs.«01_k».proof.Proof.Gen.KernelIdeal.Frame
public import Idealize.ShloMosaic.Lib.Pipeline.DatRel
public import Idealize.ShloMosaic.Lib.WholeRead

@[expose] public section

set_option maxRecDepth 16384
set_option maxHeartbeats 4000000

noncomputable section

/-!
# The launch

The body at a grid point, on the blocks staged for it, and from it the run of the whole program: it ends without a fault, every
argument array holds what it held and every counter is zero. Of the result array the run says, block by block, what the arm for
bounded gains leaves there, when that arm is taken.
-/

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The word `w` sends the kernel into the arm for bounded gains: it is positive. -/
abbrev Taken (w : BitVec 32) : Prop := Scalar.cmpi .ne (Scalar.extui (Scalar.cmpi .sgt w 0#32) : BitVec 32) 0#32 = 1#1

/-- The word staged at point `t`, as the body reads it. -/
abbrev word (c : Dev nD) (t : Fin cfg0.N) : BitVec 32 :=
  flag (F := F) c (win0_0.stage (cfg0.slots t 0)) ((hstage0_0 ((cfg0.slots t 0).cast nbuf0_0)).unread (iblk m c 0 t))

/-- What the arm for bounded gains leaves in the result's staging buffer at point `t`. -/
def outBlock (c : Dev nD) (t : Fin cfg0.N) (h : Taken (word m c t)) : S1x8x256x128.Idx → Elt F .bf16 :=
  (win0_10.stage (cfg0.slots t 10)).view.read (Elt F) (runBounded (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) ((hstage0_9 ((cfg0.slots t 9).cast nbuf0_9)).unread (iblk m c 9 t)) h).1

/-- The proof data: the arrays as the region finds them, each input's staging buffer at its block, nothing claimed here of the
    result's, the scratch buffers at anything. -/
def dats (p : Fin 1) (c : Dev nD) : Dat τ (Elt F) Unit ℕ (UR sig nD τ) ℕ (cfgs p) c := match p with
  | 0 =>
    { A := fun w => Gen.V m c (Pipeline.arrRef spec0 w)
      after := fun w t => match w with
        | 0 => iblk m c 0 t | 1 => iblk m c 1 t | 2 => iblk m c 2 t | 3 => iblk m c 3 t | 4 => iblk m c 4 t
        | 5 => iblk m c 5 t | 6 => iblk m c 6 t | 7 => iblk m c 7 t | 8 => iblk m c 8 t | 9 => iblk m c 9 t
        | 10 => iblk m c 10 t
      Φ := fun _ => Pipeline.ΦA spec0 c
      q := Pipeline.shareOf spec0
      owed := fun _ => 0 }

/-- The result's window, of which the body is asked a predicate only. -/
def fgt : Fin cfg0.W → Bool := fun | 10 => true | _ => false

/-- That predicate: when the arm for bounded gains is taken, the staging buffer holds what that arm leaves. -/
def Rl (c : Dev nD) : (w : Fin cfg0.W) → Fin cfg0.N → ((cfg0.win w).block.Idx → Elt F (cfg0.win w).elt) → Prop :=
  fun | 10 => fun t X => ∀ h : Taken (word m c t), X = outBlock m c t h
      | _ => fun _ _ => True

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d
theorem before_5 (c : Dev nD) (t : Fin cfg0.N) (d) : (dats m 0 c).before 5 t d = iblk m c 5 t :=
  before0_5_of m (dats m 0 c) rfl (fun _ => rfl) t d
theorem before_6 (c : Dev nD) (t : Fin cfg0.N) (d) : (dats m 0 c).before 6 t d = iblk m c 6 t :=
  before0_6_of m (dats m 0 c) rfl (fun _ => rfl) t d
theorem before_7 (c : Dev nD) (t : Fin cfg0.N) (d) : (dats m 0 c).before 7 t d = iblk m c 7 t :=
  before0_7_of m (dats m 0 c) rfl (fun _ => rfl) t d
theorem before_8 (c : Dev nD) (t : Fin cfg0.N) (d) : (dats m 0 c).before 8 t d = iblk m c 8 t :=
  before0_8_of m (dats m 0 c) rfl (fun _ => rfl) t d
theorem before_9 (c : Dev nD) (t : Fin cfg0.N) (d) : (dats m 0 c).before 9 t d = iblk m c 9 t :=
  before0_9_of m (dats m 0 c) rfl (fun _ => rfl) t d

theorem defs₀_row (t : Fin cfg0.N) : defs₀ (F := F) .tc cfg0.body (cfg0.bodyArgs t (cfg0.slots t)) = bodyAt0 t := by
  unfold defs₀; rw [Defs.onTc_tc]

/-- The body, over any staging buffers and any blocks in them. -/
theorem sound_at (c : Dev nD) (i : grid0.Coords) (M2 : Memref sig .tc .smem S1 .i32) (h2 : M2.IsWhole) (M3 : Memref sig .tc .vmem S1x64 .f32) (h3 : M3.IsWhole) (M4 : Memref sig .tc .vmem S1x64 .f32) (h4 : M4.IsWhole) (M5 : Memref sig .tc .vmem S1x64 .f32) (h5 : M5.IsWhole) (M6 : Memref sig .tc .vmem S1x64 .f32) (h6 : M6.IsWhole) (M7 : Memref sig .tc .vmem S128x1 .f32) (h7 : M7.IsWhole) (M8 : Memref sig .tc .vmem S1x8x256x128 .bf16) (h8 : M8.IsWhole) (M9 : Memref sig .tc .vmem S1x8x256x128 .bf16) (h9 : M9.IsWhole) (M10 : Memref sig .tc .vmem S1x8x128x256 .bf16) (h10 : M10.IsWhole) (M11 : Memref sig .tc .vmem S1x8x256x256 .f32) (h11 : M11.IsWhole) (M12 : Memref sig .tc .vmem S1x8x256x128 .bf16) (h12 : M12.IsWhole) (M13 : Memref sig .tc .vmem S8x2x256x128 .bf16) (h13 : M13.IsWhole) (M14 : Memref sig .tc .vmem S2x2x256x256 .f32) (h14 : M14.IsWhole) (M15 : Memref sig .tc .vmem S8x2x256x256 .bf16) (h15 : M15.IsWhole) (M16 : Memref sig .tc .vmem S8x2x144x256 .f32) (h16 : M16.IsWhole)
    (X2 : S1.Idx → Elt F .i32) (X3 : S1x64.Idx → Elt F .f32) (X4 : S1x64.Idx → Elt F .f32) (X5 : S1x64.Idx → Elt F .f32) (X6 : S1x64.Idx → Elt F .f32) (X7 : S128x1.Idx → Elt F .f32) (X8 : S1x8x256x128.Idx → Elt F .bf16) (X9 : S1x8x256x128.Idx → Elt F .bf16) (X10 : S1x8x128x256.Idx → Elt F .bf16) (X11 : S1x8x256x256.Idx → Elt F .f32) (R : sProp 𝕄) :
    iprop((((∃ f, pt c M13 f) ∗ (∃ f, pt c M14 f) ∗ (∃ f, pt c M15 f) ∗ (∃ f, pt c M16 f)) ∗ R) ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ (∃ X, owns (c : Thread nD τ) M12 fullShare X))
      ⊢ wp frame (wpE (defs₀ (F := F)) Variants.none c none) Set.univ (cc0_diff_attention i M2 h2 M3 h3 M4 h4 M5 h5 M6 h6 M7 h7 M8 h8 M9 h9 M10 h10 M11 h11 M12 h12 M13 h13 M14 h14 M15 h15 M16 h16) fun _ =>
        iprop((((∃ f, pt c M13 f) ∗ (∃ f, pt c M14 f) ∗ (∃ f, pt c M15 f) ∗ (∃ f, pt c M16 f)) ∗ R) ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ (∃ X, ⌜∀ h : Taken (flag (F := F) c M2 (h2.unread X2)), X = M12.view.read (Elt F) (runBounded (F := F) c i M2 h2 M3 h3 M4 h4 M5 h5 M6 h6 M7 h7 M8 h8 M9 h9 M10 h10 M11 h11 M12 h12 M13 h13 M14 h14 M15 h15 M16 h16 (h2.unread X2) (h3.unread X3) (h4.unread X4) (h5.unread X5) (h6.unread X6) (h7.unread X7) (h8.unread X8) (h9.unread X9) (h10.unread X10) (h11.unread X11) h).1⌝ ∗ owns (c : Thread nD τ) M12 fullShare X)) := by
  unfold owns
  iintro ⟨⟨⟨⟨%s0, S0⟩, ⟨%s1, S1⟩, ⟨%s2, S2⟩, ⟨%s3, S3⟩⟩, HP⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%Y, %f12, %e12, H12⟩⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  rw [h2.set_eq_univ, h3.set_eq_univ, h4.set_eq_univ, h5.set_eq_univ, h6.set_eq_univ, h7.set_eq_univ, h8.set_eq_univ, h9.set_eq_univ, h10.set_eq_univ, h11.set_eq_univ, h12.set_eq_univ]
  by_cases h : Taken (flag (F := F) c M2 (h2.unread X2))
  · iapply ((runBounded (F := F) c i M2 h2 M3 h3 M4 h4 M5 h5 M6 h6 M7 h7 M8 h8 M9 h9 M10 h10 M11 h11 M12 h12 M13 h13 M14 h14 M15 h15 M16 h16 (h2.unread X2) (h3.unread X3) (h4.unread X4) (h5.unread X5) (h6.unread X6) (h7.unread X7) (h8.unread X8) (h9.unread X9) (h10.unread X10) (h11.unread X11) h).2 f12 s0 s1 s2 s3 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    iintro ⟨H2, H3, H4, H5, H6, H7, H8, H9, H10, H11, H12, S0, S1, S2, S3⟩
    isplitl [S0 S1 S2 S3 HP]
    · isplitl [S0 S1 S2 S3]
      · isplitl [S0]; · iexact S0
        isplitl [S1]; · iexact S1
        isplitl [S2]; · iexact S2
        iexact S3
      · iexact HP
    isplitl [H2]
    · iexists _; isplitr
      · ipureintro; exact e2
      · iexact H2
    isplitl [H3]
    · iexists _; isplitr
      · ipureintro; exact e3
      · iexact H3
    isplitl [H4]
    · iexists _; isplitr
      · ipureintro; exact e4
      · iexact H4
    isplitl [H5]
    · iexists _; isplitr
      · ipureintro; exact e5
      · iexact H5
    isplitl [H6]
    · iexists _; isplitr
      · ipureintro; exact e6
      · iexact H6
    isplitl [H7]
    · iexists _; isplitr
      · ipureintro; exact e7
      · iexact H7
    isplitl [H8]
    · iexists _; isplitr
      · ipureintro; exact e8
      · iexact H8
    isplitl [H9]
    · iexists _; isplitr
      · ipureintro; exact e9
      · iexact H9
    isplitl [H10]
    · iexists _; isplitr
      · ipureintro; exact e10
      · iexact H10
    isplitl [H11]
    · iexists _; isplitr
      · ipureintro; exact e11
      · iexact H11
    iexists (M12.view.read (Elt F) (runBounded (F := F) c i M2 h2 M3 h3 M4 h4 M5 h5 M6 h6 M7 h7 M8 h8 M9 h9 M10 h10 M11 h11 M12 h12 M13 h13 M14 h14 M15 h15 M16 h16 (h2.unread X2) (h3.unread X3) (h4.unread X4) (h5.unread X5) (h6.unread X6) (h7.unread X7) (h8.unread X8) (h9.unread X9) (h10.unread X10) (h11.unread X11) h).1)
    isplitr
    · ipureintro; exact fun _ => rfl
    · iexists _; isplitr
      · ipureintro; rfl
      · iexact H12
  · iapply (runFlash (F := F) c i M2 h2 M3 h3 M4 h4 M5 h5 M6 h6 M7 h7 M8 h8 M9 h9 M10 h10 M11 h11 M12 h12 M13 h13 M14 h14 M15 h15 M16 h16 (h2.unread X2) (h3.unread X3) (h4.unread X4) (h5.unread X5) (h6.unread X6) (h7.unread X7) (h8.unread X8) (h9.unread X9) (h10.unread X10) (h11.unread X11) h f12 s0 s1 s2 s3 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    iintro ⟨H2, H3, H4, H5, H6, H7, H8, H9, H10, H11, H12, S0, S1, S2, S3⟩
    isplitl [S0 S1 S2 S3 HP]
    · isplitl [S0 S1 S2 S3]
      · isplitl [S0]; · iexact S0
        isplitl [S1]; · iexact S1
        isplitl [S2]; · iexact S2
        iexact S3
      · iexact HP
    isplitl [H2]
    · iexists _; isplitr
      · ipureintro; exact e2
      · iexact H2
    isplitl [H3]
    · iexists _; isplitr
      · ipureintro; exact e3
      · iexact H3
    isplitl [H4]
    · iexists _; isplitr
      · ipureintro; exact e4
      · iexact H4
    isplitl [H5]
    · iexists _; isplitr
      · ipureintro; exact e5
      · iexact H5
    isplitl [H6]
    · iexists _; isplitr
      · ipureintro; exact e6
      · iexact H6
    isplitl [H7]
    · iexists _; isplitr
      · ipureintro; exact e7
      · iexact H7
    isplitl [H8]
    · iexists _; isplitr
      · ipureintro; exact e8
      · iexact H8
    isplitl [H9]
    · iexists _; isplitr
      · ipureintro; exact e9
      · iexact H9
    isplitl [H10]
    · iexists _; isplitr
      · ipureintro; exact e10
      · iexact H10
    isplitl [H11]
    · iexists _; isplitr
      · ipureintro; exact e11
      · iexact H11
    icases H12 with ⟨%g, H12⟩
    iexists (M12.view.read (Elt F) g)
    isplitr
    · ipureintro; exact fun h' => absurd h' h
    · iexists _; isplitr
      · ipureintro; rfl
      · iexact H12

/-- The body at point `t`: it gives back the inputs' blocks, and in the result's buffer what `Rl` says. -/
theorem sound_body (c : Dev nD) (t : Fin cfg0.N) :
    iprop(Pipeline.ΦA spec0 c ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ (∃ X, owns (c : Thread nD τ) (win0_10.stage (cfg0.slots t 10)) fullShare X))
      ⊢ wp frame (wpE (defs₀ (F := F)) Variants.none c none) Set.univ (bodyAt0 (F := F) t) fun _ =>
        iprop((Pipeline.ΦA spec0 c : sProp 𝕄) ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ (∃ X, ⌜∀ h : Taken (word m c t), X = outBlock m c t h⌝ ∗ owns (c : Thread nD τ) (win0_10.stage (cfg0.slots t 10)) fullShare X)) := by
  unfold Pipeline.ΦA
  rw [scopedRest0_eq]
  exact sound_at (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3)
    (iblk m c 0 t) (iblk m c 1 t) (iblk m c 2 t) (iblk m c 3 t) (iblk m c 4 t) (iblk m c 5 t) (iblk m c 6 t) (iblk m c 7 t) (iblk m c 8 t) (iblk m c 9 t) iprop(∃ r, prngReg c r)

/-- The obligation the launch asks of the body. -/
theorem body_obligation (c : Dev nD) :
    BodyObligationRel (dats m 0 c) (defs₀ (F := F)) Variants.none () Set.univ fgt (Rl m c) := fun t => by
  rewrite [bigSep_W0, bigSep_W0, defs₀_row]
  have hp : (dats m 0 c).owesAt () t.succ = (dats m 0 c).owesAt () t.castSucc := rfl
  have h0 : (dats m 0 c).Φ t.castSucc = Pipeline.ΦA spec0 c := rfl
  have h1 : (dats m 0 c).Φ t.succ = Pipeline.ΦA spec0 c := rfl
  rewrite [hp, h0, h1]
  simp only [show fgt 0 = false from rfl, show fgt 1 = false from rfl, show fgt 2 = false from rfl, show fgt 3 = false from rfl, show fgt 4 = false from rfl, show fgt 5 = false from rfl, show fgt 6 = false from rfl, show fgt 7 = false from rfl, show fgt 8 = false from rfl, show fgt 9 = false from rfl, show fgt 10 = true from rfl]
  have hb := sound_body m c t
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, -, H10⟩⟩
  rewrite [before_0 m c t d0, before_1 m c t d1, before_2 m c t d2, before_3 m c t d3, before_4 m c t d4, before_5 m c t d5, before_6 m c t d6, before_7 m c t d7, before_8 m c t d8, before_9 m c t d9]
  iapply (wp_wand_r Idealize.ShloMosaic.frame (wpE (defs₀ (F := F)) Variants.none (c : Thread nD τ) none) Set.univ)
  isplitl [HΦ H0 H1 H2 H3 H4 H5 H6 H7 H8 H9 H10]
  · iapply hb
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists Y; iexact H10
  iintro %_ ⟨HΦ, H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The run of the whole program, with what it leaves in the arrays. -/
theorem run (Q' : PUnit × MemSt nD τ sig (Elt F) → Prop)
    (hQ' : ∀ r, RDat.FramePost cfg0 (fun c => (dats m 0 c).toRRel fgt (Rl m c)) (Gen.V m) r ∧ r.2.sem = (fun _ => 0) → Q' r) :
    θ_run defs (onTc (τ := τ) (main (F := F))) (s₀ m ρ) Q' :=
  Pipeline.RDat.θ_run_frame_track_shared cfgs 0 launch₀0 defs₀ Variants.none
    (fun c => (dats m 0 c).toRRel fgt (Rl m c)) m ρ main
    (fun c => (body_obligation m c).toRRel) (fun _ _ _ => rfl) (fun _ _ => rfl) (Gen.V m) (Gen.hmain m Variants.none)
    (fun _ _ => rfl) (fun _ => .rfl) (fun _ => .rfl) Q' hQ'

/-- The frame: the program ends without a fault, its arguments hold what they held, and every counter is zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  run m ρ _ fun r h => ⟨fun c =>
    ⟨RDat.FramePost.arr_in h.1 c 0 rfl, RDat.FramePost.arr_in h.1 c 1 rfl, RDat.FramePost.arr_in h.1 c 2 rfl, RDat.FramePost.arr_in h.1 c 3 rfl, RDat.FramePost.arr_in h.1 c 4 rfl, RDat.FramePost.arr_in h.1 c 5 rfl, RDat.FramePost.arr_in h.1 c 7 rfl, RDat.FramePost.arr_in h.1 c 8 rfl, RDat.FramePost.arr_in h.1 c 9 rfl⟩, h.2⟩

end Cert.Proof.KernelIdeal

end
-- ==== Proof.RefIndex.lean ====
module

public import proofs.«01_k».proof.Proof.Gen.ReferenceIdeal.Read
public import Idealize.ShloMosaic.Lib.ValueIdxCore

@[expose] public section

noncomputable section

namespace Cert.Proof.Ref

open Cert.ReferenceIdeal Cert.ReferenceIdeal.Gen Cert.ReferenceIdeal.Read
open Idealize.ShloMosaic Idealize.ShloMosaic.TcCoe Idealize.ShloMosaic.ValueIdx

/-! ## The reference's operands, read at an index -/

/-- The tile of a position, and the place in its tile. -/
abbrev tl (s : Fin 2048) : Fin 8 := ⟨s.val / 256, by omega⟩
abbrev pl (s : Fin 2048) : Fin 256 := ⟨s.val % 256, by omega⟩

/-- A reshape of the queries and keys: a position is a tile and a place in it. -/
theorem idx0 (i : S32x2048x2048.Idx) : idx_main_v0 i
    = (ix4 ⟨(i 0).val, (i 0).isLt⟩ (tl ⟨(i 1).val, (i 1).isLt⟩) (pl ⟨(i 1).val, (i 1).isLt⟩) ⟨(i 2).val, (i 2).isLt⟩ : S32x8x256x2048.Idx) := by
  have h0 : (i 0).val < 32 := (i 0).isLt
  have h1 : (i 1).val < 2048 := (i 1).isLt
  have h2 : (i 2).val < 2048 := (i 2).isLt
  funext a
  apply Fin.ext
  match a with
  | ⟨0, _⟩ => show _ = (i 0).val; dsimp only [idx_main_v0]; omega
  | ⟨1, _⟩ => show _ = (i 1).val / 256; dsimp only [idx_main_v0]; omega
  | ⟨2, _⟩ => show _ = (i 1).val % 256; dsimp only [idx_main_v0]; omega
  | ⟨3, _⟩ => show _ = (i 2).val; dsimp only [idx_main_v0]; omega

/-- A reshape of a row of 512: a head, a chain and a lane. -/
theorem idx3 (i : S32x2048x4x2x64.Idx) : idx_main_v3 i
    = (ix3 ⟨(i 0).val, (i 0).isLt⟩ ⟨(i 1).val, (i 1).isLt⟩ ⟨(i 2).val * 128 + (i 3).val * 64 + (i 4).val, by
        have h2 : (i 2).val < 4 := (i 2).isLt; have h3 : (i 3).val < 2 := (i 3).isLt; have h4 : (i 4).val < 64 := (i 4).isLt; omega⟩ : S32x2048x512.Idx) := by
  have h0 : (i 0).val < 32 := (i 0).isLt
  have h1 : (i 1).val < 2048 := (i 1).isLt
  have h2 : (i 2).val < 4 := (i 2).isLt
  have h3 : (i 3).val < 2 := (i 3).isLt
  have h4 : (i 4).val < 64 := (i 4).isLt
  funext a
  apply Fin.ext
  match a with
  | ⟨0, _⟩ => show _ = (i 0).val; dsimp only [idx_main_v3]; omega
  | ⟨1, _⟩ => show _ = (i 1).val; dsimp only [idx_main_v3]; omega
  | ⟨2, _⟩ => show _ = (i 2).val * 128 + (i 3).val * 64 + (i 4).val; dsimp only [idx_main_v3]; omega

/-- A reshape of a row of 512: a head, a chain and a lane. -/
theorem idx6 (i : S32x2048x4x2x64.Idx) : idx_main_v6 i
    = (ix3 ⟨(i 0).val, (i 0).isLt⟩ ⟨(i 1).val, (i 1).isLt⟩ ⟨(i 2).val * 128 + (i 3).val * 64 + (i 4).val, by
        have h2 : (i 2).val < 4 := (i 2).isLt; have h3 : (i 3).val < 2 := (i 3).isLt; have h4 : (i 4).val < 64 := (i 4).isLt; omega⟩ : S32x2048x512.Idx) := by
  have h0 : (i 0).val < 32 := (i 0).isLt
  have h1 : (i 1).val < 2048 := (i 1).isLt
  have h2 : (i 2).val < 4 := (i 2).isLt
  have h3 : (i 3).val < 2 := (i 3).isLt
  have h4 : (i 4).val < 64 := (i 4).isLt
  funext a
  apply Fin.ext
  match a with
  | ⟨0, _⟩ => show _ = (i 0).val; dsimp only [idx_main_v6]; omega
  | ⟨1, _⟩ => show _ = (i 1).val; dsimp only [idx_main_v6]; omega
  | ⟨2, _⟩ => show _ = (i 2).val * 128 + (i 3).val * 64 + (i 4).val; dsimp only [idx_main_v6]; omega

/-- The queries. -/
theorem q_apply (x6 : FVec Ideal S32x8x256x2048 .bf16) (b : Fin 32) (h : Fin 4) (c : Fin 2) (s : Fin 2048) (d : Fin 64) :
    val_main_v4 (F := Ideal) x6 (ix5 b h c s d) = x6 (ix4 b (tl s) (pl s) ⟨(h.val * 128 + c.val * 64 + d.val), by omega⟩) := by
  rw [val_main_v4_apply, val_main_v3_apply, idx3, val_main_v2_apply, val_main_v1_apply, val_main_v0_apply, idx0]
  show x6 _ = x6 _
  congr 1

/-- The keys. -/
theorem k_apply (x6 : FVec Ideal S32x8x256x2048 .bf16) (b : Fin 32) (h : Fin 4) (c : Fin 2) (s : Fin 2048) (d : Fin 64) :
    val_main_v7 (F := Ideal) x6 (ix5 b h c s d) = x6 (ix4 b (tl s) (pl s) ⟨512 + (h.val * 128 + c.val * 64 + d.val), by omega⟩) := by
  rw [val_main_v7_apply, val_main_v6_apply, idx6, val_main_v5_apply, val_main_v1_apply, val_main_v0_apply, idx0]
  show x6 _ = x6 _
  congr 1

/-- A reshape of the values: a position is a tile and a place in it. -/
theorem idx12 (i : S32x4x2048x128.Idx) : idx_main_v12 i
    = (ix5 ⟨(i 0).val, (i 0).isLt⟩ ⟨(i 1).val, (i 1).isLt⟩ (tl ⟨(i 2).val, (i 2).isLt⟩) (pl ⟨(i 2).val, (i 2).isLt⟩) ⟨(i 3).val, (i 3).isLt⟩ :
      S32x4x8x256x128.Idx) := by
  have h0 : (i 0).val < 32 := (i 0).isLt
  have h1 : (i 1).val < 4 := (i 1).isLt
  have h2 : (i 2).val < 2048 := (i 2).isLt
  have h3 : (i 3).val < 128 := (i 3).isLt
  funext a
  apply Fin.ext
  match a with
  | ⟨0, _⟩ => show _ = (i 0).val; dsimp only [idx_main_v12]; omega
  | ⟨1, _⟩ => show _ = (i 1).val; dsimp only [idx_main_v12]; omega
  | ⟨2, _⟩ => show _ = (i 2).val / 256; dsimp only [idx_main_v12]; omega
  | ⟨3, _⟩ => show _ = (i 2).val % 256; dsimp only [idx_main_v12]; omega
  | ⟨4, _⟩ => show _ = (i 3).val; dsimp only [idx_main_v12]; omega

/-- A reshape of the values' rows: a head and a channel. -/
theorem idx10 (i : S32x8x4x128x256.Idx) : idx_main_v10 i
    = (ix4 ⟨(i 0).val, (i 0).isLt⟩ ⟨(i 1).val, (i 1).isLt⟩
        ⟨(i 2).val * 128 + (i 3).val, by have h2 : (i 2).val < 4 := (i 2).isLt; have h3 : (i 3).val < 128 := (i 3).isLt; omega⟩ ⟨(i 4).val, (i 4).isLt⟩ :
      S32x8x512x256.Idx) := by
  have h0 : (i 0).val < 32 := (i 0).isLt
  have h1 : (i 1).val < 8 := (i 1).isLt
  have h2 : (i 2).val < 4 := (i 2).isLt
  have h3 : (i 3).val < 128 := (i 3).isLt
  have h4 : (i 4).val < 256 := (i 4).isLt
  funext a
  apply Fin.ext
  match a with
  | ⟨0, _⟩ => show _ = (i 0).val; dsimp only [idx_main_v10]; omega
  | ⟨1, _⟩ => show _ = (i 1).val; dsimp only [idx_main_v10]; omega
  | ⟨2, _⟩ => show _ = (i 2).val * 128 + (i 3).val; dsimp only [idx_main_v10]; omega
  | ⟨3, _⟩ => show _ = (i 4).val; dsimp only [idx_main_v10]; omega

/-- A reshape of the bias: a position is a tile and a place in it, for the queries and for the keys. -/
theorem idx38 (i : S4x2048x2048.Idx) : idx_main_v38 i
    = (ix5 ⟨(i 0).val, (i 0).isLt⟩ (tl ⟨(i 1).val, (i 1).isLt⟩) (pl ⟨(i 1).val, (i 1).isLt⟩) (tl ⟨(i 2).val, (i 2).isLt⟩) (pl ⟨(i 2).val, (i 2).isLt⟩) :
      S4x8x256x8x256.Idx) := by
  have h0 : (i 0).val < 4 := (i 0).isLt
  have h1 : (i 1).val < 2048 := (i 1).isLt
  have h2 : (i 2).val < 2048 := (i 2).isLt
  funext a
  apply Fin.ext
  match a with
  | ⟨0, _⟩ => show _ = (i 0).val; dsimp only [idx_main_v38]; omega
  | ⟨1, _⟩ => show _ = (i 1).val / 256; dsimp only [idx_main_v38]; omega
  | ⟨2, _⟩ => show _ = (i 1).val % 256; dsimp only [idx_main_v38]; omega
  | ⟨3, _⟩ => show _ = (i 2).val / 256; dsimp only [idx_main_v38]; omega
  | ⟨4, _⟩ => show _ = (i 2).val % 256; dsimp only [idx_main_v38]; omega

/-- The values. -/
theorem v_apply (x7 : FVec Ideal S32x8x1024x256 .bf16) (b : Fin 32) (h : Fin 4) (s : Fin 2048) (e : Fin 128) :
    val_main_v12 (F := Ideal) x7 (ix4 b h s e) = x7 (ix4 b (tl s) ⟨h.val * 128 + e.val, by omega⟩ (pl s)) := by
  rw [val_main_v12_apply, idx12, val_main_v11_apply, val_main_v10_apply, idx10, val_main_v9_apply, val_main_v8_apply]
  show x7 _ = x7 _
  congr 1
  funext a
  match a with
  | ⟨0, _⟩ => rfl
  | ⟨1, _⟩ => rfl
  | ⟨2, _⟩ => rfl
  | ⟨3, _⟩ => rfl

/-- The distance in tiles, as the gather's index. -/
theorem apart_apply (i j : Fin 8) : (val_main_v35 (F := Ideal) (ix3 i j 0)).toInt.toNat = i.val - j.val := by
  revert i j
  decide +kernel

/-- The bias tile of a pair of tiles. -/
theorem gather_tile (x : FVec Ideal S4x8x256x256 .f32) (idx : IVec S8x8x1 32) (h : Fin 4) (i j : Fin 8) (r q : Fin 256) :
    Host.gather gather_S4x8x256x256_S8x8x1_S4x8x8x256x256_034_1_n_n_1_2_41256256 x idx (ix5 h i j r q)
      = x (ix4 h ⟨min (idx (ix3 i j 0)).toInt.toNat 7, by omega⟩ r q) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have e0 : ∀ X : Fin 5, X = 0 → (ix5 h i j r q X).val = h.val := fun X hX => by subst hX; rfl
  have e1 : ∀ X : Fin 5, X = 1 → (ix5 h i j r q X).val = i.val := fun X hX => by subst hX; rfl
  have e2 : ∀ X : Fin 5, X = 2 → (ix5 h i j r q X).val = j.val := fun X hX => by subst hX; rfl
  have e3 : ∀ X : Fin 5, X = 3 → (ix5 h i j r q X).val = r.val := fun X hX => by subst hX; rfl
  have e4 : ∀ X : Fin 5, X = 4 → (ix5 h i j r q X).val = q.val := fun X hX => by subst hX; rfl
  match a with
  | ⟨0, _⟩ =>
    unfold GatherDims.start GatherDims.offCoord
    rw [dif_neg (by decide +revert +kernel), dif_pos (by decide +revert +kernel)]
    exact (Nat.zero_add _).trans (e0 _ (by decide +revert +kernel))
  | ⟨1, _⟩ =>
    unfold GatherDims.start GatherDims.offCoord
    rw [dif_pos (by decide +revert +kernel), dif_neg (by decide +revert +kernel)]
    show min _ (8 - 1) = min _ 7
    congr 4
    funext b
    apply Fin.ext
    match b with
    | ⟨0, _⟩ =>
      unfold GatherDims.siIdx
      rw [dif_neg (by decide +revert +kernel)]
      unfold GatherDims.siCoord
      simp only [Fin.val_cast]
      exact e1 _ (by decide +revert +kernel)
    | ⟨1, _⟩ =>
      unfold GatherDims.siIdx
      rw [dif_neg (by decide +revert +kernel)]
      unfold GatherDims.siCoord
      simp only [Fin.val_cast]
      exact e2 _ (by decide +revert +kernel)
    | ⟨2, _⟩ =>
      unfold GatherDims.siIdx
      rw [dif_pos (by decide +revert +kernel)]
      rfl
  | ⟨2, _⟩ =>
    unfold GatherDims.start GatherDims.offCoord
    rw [dif_neg (by decide +revert +kernel), dif_pos (by decide +revert +kernel)]
    exact (Nat.zero_add _).trans (e3 _ (by decide +revert +kernel))
  | ⟨3, _⟩ =>
    unfold GatherDims.start GatherDims.offCoord
    rw [dif_neg (by decide +revert +kernel), dif_pos (by decide +revert +kernel)]
    exact (Nat.zero_add _).trans (e4 _ (by decide +revert +kernel))

/-- The same with the distance named. -/
theorem gather_tile_of (x : FVec Ideal S4x8x256x256 .f32) (idx : IVec S8x8x1 32) (h : Fin 4) (i j : Fin 8) (r q : Fin 256) (n : ℕ)
    (hn : (idx (ix3 i j 0)).toInt.toNat = n) :
    Host.gather gather_S4x8x256x256_S8x8x1_S4x8x8x256x256_034_1_n_n_1_2_41256256 x idx (ix5 h i j r q)
      = x (ix4 h ⟨min n 7, by omega⟩ r q) := by
  subst hn
  exact gather_tile x idx h i j r q

/-- The bias. -/
theorem b_apply (x8 : FVec Ideal S12x8x256x256 .f32) (h : Fin 4) (s k : Fin 2048) :
    val_main_v38 (F := Ideal) x8 (ix3 h s k)
      = x8 (ix4 ⟨h.val, by omega⟩ ⟨(tl s).val - (tl k).val, by omega⟩ (pl k) (pl s)) := by
  rw [val_main_v38_apply, idx38, val_main_v37_apply]
  have e : idx_main_v37 (ix5 h (tl s) (pl s) (tl k) (pl k) : S4x8x256x8x256.Idx) = ix5 h (tl s) (tl k) (pl k) (pl s) := by
    funext a
    match a with
    | ⟨0, _⟩ => rfl
    | ⟨1, _⟩ => rfl
    | ⟨2, _⟩ => rfl
    | ⟨3, _⟩ => rfl
    | ⟨4, _⟩ => rfl
  show val_main_v36 (F := Ideal) x8 (idx_main_v37 (ix5 h (tl s) (pl s) (tl k) (pl k))) = _
  rw [e]
  unfold val_main_v36
  rw [gather_tile_of _ _ h (tl s) (tl k) (pl k) (pl s) _ (apart_apply (tl s) (tl k)), val_main_v29_apply]
  congr 1
  funext a
  apply Fin.ext
  match a with
  | ⟨0, _⟩ => first | rfl | exact Nat.zero_add _
  | ⟨1, _⟩ =>
    have h1 : (tl s).val < 8 := (tl s).isLt
    have e : min ((tl s).val - (tl k).val) 7 = (tl s).val - (tl k).val := by omega
    first
      | exact e
      | exact (Nat.zero_add _).trans e
  | ⟨2, _⟩ => first | rfl | exact Nat.zero_add _
  | ⟨3, _⟩ => first | rfl | exact Nat.zero_add _

theorem toInt_small (n : ℕ) (h : n < 2048) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

/-- The mask: a key is seen from its own position on. -/
theorem seen_apply (s k : Fin 2048) : val_main_v48 (F := Ideal) (ix2 s k) = if k.val ≤ s.val then 1#1 else 0#1 := by
  rw [val_main_v48_apply, val_main_v45_apply, val_main_v43_apply, val_main_v44_apply, val_main_v40_apply, val_main_v42_apply,
    val_main_v39_apply, val_main_v41_apply, val_main_v47_apply, val_main_c_4_apply]
  show BitVec.ofBool ((0#32 : BitVec 32).sle (BitVec.ofNat 32 s.val - BitVec.ofNat 32 k.val)) = _
  have e : (BitVec.ofNat 32 s.val - BitVec.ofNat 32 k.val).toInt = (s.val : Int) - k.val := by
    rw [BitVec.toInt_sub]
    have hs := s.isLt
    have hk := k.isLt
    rw [toInt_small s.val (by omega), toInt_small k.val (by omega)]
    rw [Int.bmod_def]
    omega
  have hsle : (0#32 : BitVec 32).sle (BitVec.ofNat 32 s.val - BitVec.ofNat 32 k.val) = decide (k.val ≤ s.val) := by
    unfold BitVec.sle
    rw [e]
    simp
  rw [hsle]
  by_cases hk : k.val ≤ s.val <;> simp [hk]

end Cert.Proof.Ref

end
-- ==== Proof.Core.lean ====
module

public import Idealize.ShloMosaic.PureOps.Ideal
public import Idealize.ShloMosaic.PureOps.Ideal.Laws

/-!
# Attention over the reals

Weights that are powers of two, their sums, and the quotient of the two sums that attention is: with the
greatest logit taken off first, or with nothing taken off, and summed tile by tile or at once.
-/

@[expose] public section

noncomputable section

namespace Cert.Proof.Core

open Idealize.ShloMosaic

/-- The weight of a logit: two to it, and zero for −∞. -/
def wt (z : EReal) : ℝ := (Ideal.exp2 z).toReal

theorem exp2_eq {z : EReal} (h : z ≠ ⊤) : Ideal.exp2 z = (wt z : EReal) := by
  induction z with
  | bot => simp [wt]
  | coe r => simp [wt]
  | top => exact absurd rfl h

theorem wt_bot : wt ⊥ = 0 := by simp [wt]

theorem wt_coe (r : ℝ) : wt (r : EReal) = Real.rpow 2 r := by simp [wt]

theorem wt_nonneg (z : EReal) : 0 ≤ wt z := by
  induction z with
  | bot => simp [wt]
  | coe r => rw [wt_coe]; exact Real.rpow_nonneg (by norm_num) r
  | top => simp [wt]

/-- A finite sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals whose denominator is not zero. -/
theorem div_real {x y : ℝ} (h : y ≠ 0) : Ideal.div (x : EReal) (y : EReal) = ((x / y : ℝ) : EReal) := by
  rw [Ideal.div_coe h, ← EReal.coe_mul]
  congr 1
  ring

variable {N : ℕ}

/-- Attention: the weighted sum of the values over the sum of the weights. -/
def att (z : Fin N → EReal) (v : Fin N → ℝ) : ℝ := (∑ k, wt (z k) * v k) / ∑ k, wt (z k)

theorem sum_wt_pos (z : Fin N → EReal) {k₀ : Fin N} (h₀ : z k₀ ≠ ⊥) (ht : ∀ k, z k ≠ ⊤) : 0 < ∑ k, wt (z k) := by
  refine Finset.sum_pos' (fun k _ => wt_nonneg _) ⟨k₀, Finset.mem_univ _, ?_⟩
  have := ht k₀
  revert h₀ this
  induction z k₀ with
  | bot => intro h; exact absurd rfl h
  | coe r => intro _ _; rw [wt_coe]; exact Real.rpow_pos_of_pos (by norm_num) r
  | top => intro _ h; exact absurd rfl h

/-- The greatest of finitely many logits that are below +∞, one of them above −∞, is a real. -/
theorem fold_max_real (z : Fin N → EReal) {k₀ : Fin N} (h₀ : z k₀ ≠ ⊥) (ht : ∀ k, z k ≠ ⊤) :
    ∃ M : ℝ, Finset.univ.fold max (⊥ : EReal) z = (M : EReal) := by
  have hne : Finset.univ.fold max (⊥ : EReal) z ≠ ⊤ := by
    rw [← lt_top_iff_ne_top, Finset.fold_max_lt]
    exact ⟨bot_lt_top, fun k _ => lt_top_iff_ne_top.2 (ht k)⟩
  have hnb : Finset.univ.fold max (⊥ : EReal) z ≠ ⊥ := by
    rw [← bot_lt_iff_ne_bot, Finset.lt_fold_max]
    exact Or.inr ⟨k₀, Finset.mem_univ _, bot_lt_iff_ne_bot.2 h₀⟩
  exact ⟨_, (EReal.coe_toReal hne hnb).symm⟩

/-- Two to a logit less a real is its weight times a constant. -/
theorem pow_sub {z : EReal} (h : z ≠ ⊤) (M : ℝ) :
    Ideal.pow ((2 : ℝ) : EReal) (z - (M : EReal)) = ((wt z * Real.rpow 2 (-M) : ℝ) : EReal) := by
  induction z with
  | bot =>
    rw [EReal.bot_sub, Ideal.pow_coe_bot, wt_bot]
    norm_num
  | coe r =>
    rw [← EReal.coe_sub, Ideal.pow_coe_coe, wt_coe]
    congr 1
    show (2 : ℝ) ^ (r - M) = (2 : ℝ) ^ r * (2 : ℝ) ^ (-M)
    rw [← Real.rpow_add (by norm_num), sub_eq_add_neg]
  | top => exact absurd rfl h

/-- The softmax, to the base two and less the greatest logit, of one key: its weight over the sum of the weights. -/
theorem softmax_eq (z : Fin N → EReal) {k₀ : Fin N} (h₀ : z k₀ ≠ ⊥) (ht : ∀ k, z k ≠ ⊤) {m : EReal}
    (hm : m = Finset.univ.fold max (⊥ : EReal) z) (k : Fin N) :
    Ideal.div (Ideal.pow ((2 : ℝ) : EReal) (z k - m)) (∑ j, Ideal.pow ((2 : ℝ) : EReal) (z j - m))
      = ((wt (z k) / ∑ j, wt (z j) : ℝ) : EReal) := by
  obtain ⟨M, hM⟩ := fold_max_real z h₀ ht
  have hp : (0 : ℝ) < Real.rpow 2 (-M) := Real.rpow_pos_of_pos (by norm_num) _
  have hs := sum_wt_pos z h₀ ht
  simp only [hm, hM, pow_sub (ht _)]
  rw [← coe_sum, ← Finset.sum_mul, div_real (mul_pos hs hp).ne']
  congr 1
  field_simp

/-- The difference of two softmaxes, times the values and summed over the keys. -/
theorem diff_eq (z₀ z₁ : Fin N → EReal) (v : Fin N → ℝ) (l : ℝ) :
    ∑ k, ((((wt (z₀ k) / ∑ j, wt (z₀ j) : ℝ) : EReal) - (l : EReal) * ((wt (z₁ k) / ∑ j, wt (z₁ j) : ℝ) : EReal)) * (v k : EReal))
      = (att z₀ v : EReal) - (l : EReal) * (att z₁ v : EReal) := by
  simp only [← EReal.coe_mul, ← EReal.coe_sub]
  rw [← coe_sum]
  congr 1
  simp only [att, sub_mul, Finset.sum_sub_distrib, div_eq_mul_inv, Finset.sum_mul, Finset.mul_sum]
  congr 1
  · exact Finset.sum_congr rfl fun k _ => by ring
  · exact Finset.sum_congr rfl fun k _ => by ring

/-- A sum over `m` tiles of 256. -/
theorem sum_range_tiles (f : ℕ → ℝ) (m : ℕ) :
    ∑ k ∈ Finset.range (m * 256), f k = ∑ t ∈ Finset.range m, ∑ j : Fin 256, f (t * 256 + j.val) := by
  induction m with
  | zero => simp
  | succ m ih =>
    rw [Nat.succ_mul, Finset.sum_range_add, ih, Finset.sum_range_succ (n := m), ← Fin.sum_univ_eq_sum_range (fun x => f (m * 256 + x)) 256]

/-- What a query of tile `n` sums, going back from its own tile to the first, is the sum over all 2048 keys, when
    the keys of later tiles add nothing. -/
theorem sum_tiles (f : ℕ → ℝ) (n : ℕ) (hn : n < 8) (hf : ∀ k, (n + 1) * 256 ≤ k → f k = 0) :
    ∑ d ∈ Finset.range (n + 1), ∑ j : Fin 256, f ((n - d) * 256 + j.val) = ∑ k : Fin 2048, f k.val := by
  have hs : Finset.range ((n + 1) * 256) ⊆ Finset.range 2048 := Finset.range_subset_range.2 (by omega)
  rw [Fin.sum_univ_eq_sum_range f 2048, ← Finset.sum_subset hs fun k _ hk => hf k (by simpa using hk), sum_range_tiles,
    ← Finset.sum_range_reflect (n := n + 1)]
  refine Finset.sum_congr rfl fun d hd => ?_
  have hd' : d < n + 1 := Finset.mem_range.1 hd
  rw [show n - (n + 1 - 1 - d) = d by omega]

end Cert.Proof.Core
-- ==== Proof.Spec.lean ====
module

public import proofs.«01_k».proof.Proof.RefIndex
public import proofs.«01_k».proof.Proof.Core

@[expose] public section

noncomputable section

namespace Cert.Proof.Ref

open Cert.ReferenceIdeal
open Idealize.ShloMosaic Idealize.ShloMosaic.TcCoe Idealize.ShloMosaic.ValueIdx Cert.Proof.Core

/-! ## The differential attention, in formulas -/

/-- The logit of key `k` for query `s` in chain `c` of head `h`: the inner product plus the bias of their distance,
    and −∞ where the key comes after the query. -/
def logit (x6 : S32x8x256x2048.Idx → EReal) (x8 : S12x8x256x256.Idx → EReal) (b : Fin 32) (h : Fin 4) (c : Fin 2) (s k : Fin 2048) : EReal :=
  if k.val ≤ s.val then
    (∑ d : Fin 64, x6 (ix4 b (tl s) (pl s) ⟨h.val * 128 + c.val * 64 + d.val, by omega⟩)
      * x6 (ix4 b (tl k) (pl k) ⟨512 + (h.val * 128 + c.val * 64 + d.val), by omega⟩))
      + x8 (ix4 ⟨h.val, by omega⟩ ⟨(tl s).val - (tl k).val, by omega⟩ (pl k) (pl s))
  else ⊥

/-- Component `e` of the value of key `k`. -/
def value (x7 : S32x8x1024x256.Idx → EReal) (b : Fin 32) (h : Fin 4) (e : Fin 128) (k : Fin 2048) : ℝ :=
  (x7 (ix4 b (tl k) ⟨h.val * 128 + e.val, by omega⟩ (pl k))).toReal

/-- The factor of the second chain. -/
def lam (x1 x2 x3 x4 : S1x64.Idx → EReal) : EReal :=
  Ideal.exp (∑ j, x1 j * x2 j) - Ideal.exp (∑ j, x3 j * x4 j) + Ideal.ofBits .f32 0x3E4CCCCD#32

/-- The difference of the two chains' attentions. -/
def diff (x1 x2 x3 x4 : S1x64.Idx → EReal) (x6 : S32x8x256x2048.Idx → EReal) (x7 : S32x8x1024x256.Idx → EReal)
    (x8 : S12x8x256x256.Idx → EReal) (b : Fin 32) (h : Fin 4) (s : Fin 2048) (e : Fin 128) : EReal :=
  (att (logit x6 x8 b h 0 s) (value x7 b h e) : EReal) - lam x1 x2 x3 x4 * (att (logit x6 x8 b h 1 s) (value x7 b h e) : EReal)

/-- The root-mean-square norm over 128 components, the gain, and the factor after it. -/
def norm (o : Fin 128 → EReal) (g : S128x1.Idx → EReal) (e : Fin 128) : EReal :=
  o e * Ideal.rsqrt (Ideal.div (∑ i, o i * o i) (Ideal.ofBits .f32 0x43000000#32) + Ideal.ofBits .f32 0x358637BD#32)
    * g (ix2 e 0) * Ideal.ofBits .f32 0x3F4CCCCD#32

/-- What the arguments are: finite queries, keys, values and vectors; and bias tiles (`d` tiles apart, rows keys, columns
    queries) that are finite where the key is seen and −∞ where it is not. -/
structure Fine (x1 x2 x3 x4 : S1x64.Idx → EReal) (x6 : S32x8x256x2048.Idx → EReal) (x7 : S32x8x1024x256.Idx → EReal)
    (x8 : S12x8x256x256.Idx → EReal) : Prop where
  l1 : ∀ i, ∃ r : ℝ, x1 i = r
  l2 : ∀ i, ∃ r : ℝ, x2 i = r
  l3 : ∀ i, ∃ r : ℝ, x3 i = r
  l4 : ∀ i, ∃ r : ℝ, x4 i = r
  qk : ∀ i, ∃ r : ℝ, x6 i = r
  vt : ∀ i, ∃ r : ℝ, x7 i = r
  seen : ∀ (h : Fin 12) (d : Fin 8) (k q : Fin 256), k.val ≤ d.val * 256 + q.val → ∃ r : ℝ, x8 (ix4 h d k q) = r
  unseen : ∀ (h : Fin 12) (d : Fin 8) (k q : Fin 256), ¬ k.val ≤ d.val * 256 + q.val → x8 (ix4 h d k q) = ⊥

/-- A finite sum of products of reals is a real. -/
theorem sum_real {ι : Type*} [Fintype ι] {f g : ι → EReal} (hf : ∀ i, ∃ r : ℝ, f i = r) (hg : ∀ i, ∃ r : ℝ, g i = r) :
    ∃ r : ℝ, ∑ i, f i * g i = r := by
  choose f' hf' using hf
  choose g' hg' using hg
  refine ⟨∑ i, f' i * g' i, ?_⟩
  rw [coe_sum]
  exact Finset.sum_congr rfl fun i _ => by rw [hf', hg', EReal.coe_mul]

/-- A float word of the reals. -/
theorem word_lam : ∃ r : ℝ, Ideal.ofBits .f32 0x3E4CCCCD#32 = r :=
  ⟨_, by simp [Ideal.ofBits, Ideal.ieee, -EReal.coe_mul]; rfl⟩

variable {x1 x2 x3 x4 : S1x64.Idx → EReal} {x6 : S32x8x256x2048.Idx → EReal} {x7 : S32x8x1024x256.Idx → EReal} {x8 : S12x8x256x256.Idx → EReal}

theorem Fine.lam (H : Fine x1 x2 x3 x4 x6 x7 x8) : ∃ r : ℝ, lam x1 x2 x3 x4 = r := by
  obtain ⟨a, ha⟩ := sum_real H.l1 H.l2
  obtain ⟨b, hb⟩ := sum_real H.l3 H.l4
  obtain ⟨w, hw⟩ := word_lam
  refine ⟨Real.exp a - Real.exp b + w, ?_⟩
  rw [Ref.lam, ha, hb, hw, Ideal.exp_coe, Ideal.exp_coe, EReal.coe_add, EReal.coe_sub]

theorem Fine.logit_seen (H : Fine x1 x2 x3 x4 x6 x7 x8) (b : Fin 32) (h : Fin 4) (c : Fin 2) (s k : Fin 2048) (hk : k.val ≤ s.val) :
    ∃ r : ℝ, logit x6 x8 b h c s k = r := by
  rw [logit, if_pos hk]
  obtain ⟨a, ha⟩ := sum_real (f := fun d : Fin 64 => x6 (ix4 b (tl s) (pl s) ⟨h.val * 128 + c.val * 64 + d.val, by omega⟩))
    (g := fun d : Fin 64 => x6 (ix4 b (tl k) (pl k) ⟨512 + (h.val * 128 + c.val * 64 + d.val), by omega⟩)) (fun _ => H.qk _) (fun _ => H.qk _)
  obtain ⟨w, hw⟩ := H.seen ⟨h.val, by omega⟩ ⟨(tl s).val - (tl k).val, by omega⟩ (pl k) (pl s) (by
    show k.val % 256 ≤ (s.val / 256 - k.val / 256) * 256 + s.val % 256
    omega)
  exact ⟨a + w, by rw [ha, hw, EReal.coe_add]⟩

theorem Fine.logit_ne_top (H : Fine x1 x2 x3 x4 x6 x7 x8) (b : Fin 32) (h : Fin 4) (c : Fin 2) (s k : Fin 2048) :
    logit x6 x8 b h c s k ≠ ⊤ := by
  by_cases hk : k.val ≤ s.val
  · obtain ⟨r, hr⟩ := H.logit_seen b h c s k hk
    rw [hr]
    exact EReal.coe_ne_top r
  · rw [logit, if_neg hk]
    exact bot_ne_top

theorem Fine.logit_self (H : Fine x1 x2 x3 x4 x6 x7 x8) (b : Fin 32) (h : Fin 4) (c : Fin 2) (s : Fin 2048) :
    logit x6 x8 b h c s s ≠ ⊥ := by
  obtain ⟨r, hr⟩ := H.logit_seen b h c s s le_rfl
  rw [hr]
  exact EReal.coe_ne_bot r

theorem Fine.value (H : Fine x1 x2 x3 x4 x6 x7 x8) (b : Fin 32) (h : Fin 4) (e : Fin 128) (k : Fin 2048) :
    x7 (ix4 b (tl k) ⟨h.val * 128 + e.val, by omega⟩ (pl k)) = (value x7 b h e k : EReal) := by
  obtain ⟨r, hr⟩ := H.vt (ix4 b (tl k) ⟨h.val * 128 + e.val, by omega⟩ (pl k))
  rw [Ref.value, hr, EReal.toReal_coe]

end Cert.Proof.Ref
-- ==== Proof.Inputs.lean ====
module

public import proofs.«01_k».proof.Pre_inputs
public import proofs.«01_k».proof.Proof.Spec
public import Idealize.ShloMosaic.Lib.ReduceAll
public import Idealize.ShloMosaic.Lib.WordCmp
public import Idealize.ShloMosaic.Lib.ValueIdxCore

@[expose] public section

set_option maxRecDepth 16384

noncomputable section

/-!
# What the precondition says

The predicate on the arguments, read element by element: the word is positive, the queries, keys, values and vectors are
finite, and a bias tile is finite where the key is seen and −∞ where it is not.
-/

namespace Cert.Proof.Inputs

open Cert.Pre_inputs
open Idealize.ShloMosaic Idealize.ShloMosaic.ValueIdx

/-- The side conditions the predicate's operations take. -/
instance facts : Cert.Pre_inputs.Facts where
  bcast_S_S8x256x256 := by decide
  bcast_S_S12x8x256x256 := by decide
  bcast_S8x256x256_S1x8x256x256_1_2_3 := by decide
  bcast_S1x8x256x256_S12x8x256x256_0_1_2_3 := by decide
  shapeCasts_S1_S_ := by decide
  reducesTo_S12x8x256x256_S_d0_1_2_3 := by decide
  h_S_ := by decide
  bitsLt_bf16_f32 := by decide
  bcast_S_S32x8x256x2048 := by decide
  reducesTo_S32x8x256x2048_S_d0_1_2_3 := by decide
  bcast_S_S32x8x1024x256 := by decide
  reducesTo_S32x8x1024x256_S_d0_1_2_3 := by decide
  bcast_S_S1x64 := by decide
  reducesTo_S1x64_S_d0_1 := by decide

/-! ## One element -/

theorem and_one {x y : BitVec 1} (h : IntOp.andi x y = 1#1) : x = 1#1 ∧ y = 1#1 := by
  revert h; revert x y; decide

theorem lt_of_cmp {x y : EReal} (h : Ideal.cmp .olt x y = 1#1) : x < y := by
  unfold Ideal.cmp at h
  by_contra hn
  simp [hn] at h

theorem word_top : Ideal.ofBits .f32 0x7F800000#32 = ⊤ := by simp [Ideal.ofBits, Ideal.ieee]

/-- An element whose absolute value is below +∞ is a real. -/
theorem real_of_abs {x : EReal} (h : max x (-x) < ⊤) : ∃ r : ℝ, x = r := by
  induction x using EReal.rec with
  | bot => simp at h
  | coe r => exact ⟨r, rfl⟩
  | top => simp at h

theorem real_of_cmp {x : EReal} (h : Ideal.cmp .olt (max x (-x)) (Ideal.ofBits .f32 0x7F800000#32) = 1#1) : ∃ r : ℝ, x = r := by
  rw [word_top] at h
  exact real_of_abs (lt_of_cmp h)

/-- The bit that says a key is seen. -/
theorem seen_bit (d k q : ℕ) (hd : d < 8) (hk : k < 256) (hq : q < 256) :
    IntOp.cmpi .sge (IntOp.subi (IntOp.addi (IntOp.muli (BitVec.ofNat 32 d) 256#32) (BitVec.ofNat 32 q)) (BitVec.ofNat 32 k)) 0#32
      = BitVec.ofBool (decide (k ≤ d * 256 + q)) := by
  show BitVec.ofBool (decide ((0#32 : BitVec 32).toInt
    ≤ (IntOp.subi (IntOp.addi (IntOp.muli (BitVec.ofNat 32 d) 256#32) (BitVec.ofNat 32 q)) (BitVec.ofNat 32 k)).toInt)) = _
  congr 1
  have e : (IntOp.subi (IntOp.addi (IntOp.muli (BitVec.ofNat 32 d) 256#32) (BitVec.ofNat 32 q)) (BitVec.ofNat 32 k)).toNat
      = (4294967296 - k + (d * 256 + q)) % 4294967296 := by
    show (BitVec.ofNat 32 d * 256#32 + BitVec.ofNat 32 q - BitVec.ofNat 32 k).toNat = _
    simp only [BitVec.toNat_sub, BitVec.toNat_add, BitVec.toNat_mul, BitVec.toNat_ofNat]
    omega
  rw [decide_eq_decide, BitVec.toInt_eq_toNat_cond, BitVec.toInt_eq_toNat_cond, e]
  simp only [BitVec.toNat_ofNat]
  split_ifs <;> omega

/-- A bias: finite where the key is seen, −∞ where it is not. -/
theorem bias_of_bits {x : EReal} {p : Bool}
    (h : IntOp.andi (IntOp.cmpi .eq (Ideal.cmp .olt (max x (-x)) (Ideal.ofBits .f32 0x7F800000#32)) (BitVec.ofBool p))
      (IntOp.ori (Ideal.cmp .olt x (Ideal.ofBits .f32 0x00000000#32)) (BitVec.ofBool p)) = 1#1) :
    (p = true → ∃ r : ℝ, x = r) ∧ (p = false → x = ⊥) := by
  obtain ⟨h1, h2⟩ := and_one h
  have he : Ideal.cmp .olt (max x (-x)) (Ideal.ofBits .f32 0x7F800000#32) = BitVec.ofBool p := by
    revert h1
    generalize Ideal.cmp .olt (max x (-x)) (Ideal.ofBits .f32 0x7F800000#32) = b
    generalize BitVec.ofBool p = b'
    revert b b'; decide
  constructor
  · rintro rfl
    exact real_of_cmp he
  · rintro rfl
    have hlt : x < 0 := by
      have h3 : Ideal.cmp .olt x (Ideal.ofBits .f32 0x00000000#32) = 1#1 := by
        revert h2
        generalize Ideal.cmp .olt x (Ideal.ofBits .f32 0x00000000#32) = b
        revert b; decide
      rw [Ideal.ofBits_zero_f32] at h3
      exact lt_of_cmp h3
    rw [word_top] at he
    induction x using EReal.rec with
    | bot => rfl
    | coe r =>
      have hn : ¬ max (r : EReal) (-(r : EReal)) < ⊤ := by
        intro hm
        unfold Ideal.cmp at he
        simp [hm] at he
      exact absurd (max_lt (EReal.coe_lt_top r) (by rw [← EReal.coe_neg]; exact EReal.coe_lt_top _)) hn
    | top => exact absurd hlt (by simp)

/-! ## The whole predicate -/

variable {x0 : S1.Idx → BitVec 32} {x1 x2 x3 x4 : S1x64.Idx → EReal} {x5 : S128x1.Idx → EReal} {x6 : S32x8x256x2048.Idx → EReal}
  {x7 : S32x8x1024x256.Idx → EReal} {x8 : S12x8x256x256.Idx → EReal}

/-- The predicate gives a positive word and arguments as the specification wants them. -/
theorem of_pre (h : fn (F := Ideal) x0 x1 x2 x3 x4 x5 x6 x7 x8 = fun _ => 1#1) :
    IntOp.cmpi .sgt (x0 (ix1 0)) 0#32 = 1#1 ∧ Cert.Proof.Ref.Fine x1 x2 x3 x4 x6 x7 x8 := by
  obtain ⟨e, h4⟩ := and_one (congrFun h ix0)
  obtain ⟨e, h3⟩ := and_one e
  obtain ⟨e, h2⟩ := and_one e
  obtain ⟨e, h1⟩ := and_one e
  obtain ⟨e, h7⟩ := and_one e
  obtain ⟨e, h6⟩ := and_one e
  obtain ⟨hf, h8⟩ := and_one e
  have hb : ∀ (h : Fin 12) (d : Fin 8) (k q : Fin 256),
      (decide (k.val ≤ d.val * 256 + q.val) = true → ∃ r : ℝ, x8 (ix4 h d k q) = r)
        ∧ (decide (k.val ≤ d.val * 256 + q.val) = false → x8 (ix4 h d k q) = ⊥) := fun h d k q => by
    refine bias_of_bits ?_
    rw [← seen_bit d.val k.val q.val d.isLt k.isLt q.isLt]
    exact Host.reduce_andi_all _ _ _ _ ix0 h8 (ix4 h d k q)
  refine ⟨?_, ⟨fun i => real_of_cmp (Host.reduce_andi_all _ _ _ _ ix0 h1 i), fun i => real_of_cmp (Host.reduce_andi_all _ _ _ _ ix0 h2 i),
    fun i => real_of_cmp (Host.reduce_andi_all _ _ _ _ ix0 h3 i), fun i => real_of_cmp (Host.reduce_andi_all _ _ _ _ ix0 h4 i),
    fun i => real_of_cmp (Host.reduce_andi_all _ _ _ _ ix0 h6 i), fun i => real_of_cmp (Host.reduce_andi_all _ _ _ _ ix0 h7 i),
    fun h d k q hs => (hb h d k q).1 (decide_eq_true hs), fun h d k q hs => (hb h d k q).2 (decide_eq_false hs)⟩⟩
  refine (congrArg (fun w => IntOp.cmpi .sgt w 0#32) ?_).trans hf
  exact congrArg x0 (by funext a; apply Fin.ext; match a with | ⟨0, _⟩ => exact (Nat.lt_one_iff.1 (Fin.isLt _)).symm)

end Cert.Proof.Inputs

end
-- ==== Proof.Tiles.lean ====
module

public import proofs.«01_k».proof.Proof.RunBoundedKernelIdeal
public import Idealize.ShloMosaic.Lib.Pipeline.FrameBody
public import Idealize.ShloMosaic.Lib.Pipeline.ReadBack
public import Idealize.ShloMosaic.Lib.Pipeline.Value
public import Idealize.ShloMosaic.Lib.ValueIdxCore

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL

variable {F : FTy → Type} [FloatOps F] [Named F]

/-! ## What one grid point of the bounded arm computes, tile by tile -/

/-- Tile `j` of a block of eight tiles. -/
def tile {α : Type} {R C : ℕ} (X : (⟨4, ![1, 8, R, C]⟩ : Shape).Idx → α) (j : ℕ) : (⟨2, ![R, C]⟩ : Shape).Idx → α :=
  fun y => X (ix4 0 (Fin.ofNat 8 j) (y 0) (y 1))

/-- A load of one tile, its leading unit axes dropped, is that tile. -/
theorem read_tile {κ : Kind} {sp : Space} {e : EltTy} {R C : ℕ} (v : View sig κ sp ⟨4, ![1, 8, R, C]⟩ e) (j : ℕ)
    (hb : ∀ a, (![0, j, 0, 0] : Fin 4 → ℕ) a + (![1, 1, R, C] : Fin 4 → ℕ) a ≤ (⟨4, ![1, 8, R, C]⟩ : Shape).size a)
    (f : v.ref.ty.shape.Idx → Elt F v.ref.ty.elt)
    (h : (⟨4, ![1, 1, R, C]⟩ : Shape).ShapeCasts ⟨2, ![R, C]⟩) :
    shapeCast ⟨2, ![R, C]⟩ (View.readAt (Elt F) v (Rect.unit (s := ⟨4, ![1, 8, R, C]⟩) ![0, j, 0, 0] ![1, 1, R, C] hb).toLoadRect f) h
      = tile (v.read (Elt F) f) j := by
  have hj : j < 8 := by have := hb 1; simp at this; omega
  funext y
  rw [shapeCast_apply _ h y (ix4 0 0 (y 0) (y 1)) (by
    rw [Shape.rowMajor_val_four, Shape.rowMajor_val_two]
    show (((0 : ℕ) * 1 + 0) * R + (y 0).val) * C + (y 1).val = (y 0).val * C + (y 1).val
    simp)]
  show v.read (Elt F) f _ = v.read (Elt F) f _
  congr 1
  funext a
  apply Fin.ext
  rw [LoadRect.idx_apply]
  match a with
  | ⟨0, _⟩ => rfl
  | ⟨1, _⟩ => simp [Rect.unit, Rect.toLoadRect, Nat.mod_eq_of_lt hj]
  | ⟨2, _⟩ => simp [Rect.unit, Rect.toLoadRect]
  | ⟨3, _⟩ => simp [Rect.unit, Rect.toLoadRect]

theorem read_tile_qk (c : Dev nD) {sp : Space} (M : Memref sig .tc sp S1x8x256x128 .bf16) (j : ℕ)
    (hb : ∀ a, (![0, j, 0, 0] : Fin 4 → ℕ) a + (![1, 1, 256, 128] : Fin 4 → ℕ) a ≤ S1x8x256x128.size a) (f : Bf (F := F) c M)
    (h : S1x1x256x128.ShapeCasts S256x128) :
    @shapeCast S1x1x256x128 (F .bf16) S256x128 (View.readAt (Elt F) M.view (Rect.unit (s := S1x8x256x128) ![0, j, 0, 0] ![1, 1, 256, 128] hb).toLoadRect f) h
      = tile (M.view.read (Elt F) f) j := read_tile M.view j hb f h

theorem read_tile_v (c : Dev nD) {sp : Space} (M : Memref sig .tc sp S1x8x128x256 .bf16) (j : ℕ)
    (hb : ∀ a, (![0, j, 0, 0] : Fin 4 → ℕ) a + (![1, 1, 128, 256] : Fin 4 → ℕ) a ≤ S1x8x128x256.size a) (f : Bf (F := F) c M)
    (h : S1x1x128x256.ShapeCasts S128x256) :
    @shapeCast S1x1x128x256 (F .bf16) S128x256 (View.readAt (Elt F) M.view (Rect.unit (s := S1x8x128x256) ![0, j, 0, 0] ![1, 1, 128, 256] hb).toLoadRect f) h
      = tile (M.view.read (Elt F) f) j := read_tile M.view j hb f h

theorem read_tile_b (c : Dev nD) {sp : Space} (M : Memref sig .tc sp S1x8x256x256 .f32) (j : ℕ)
    (hb : ∀ a, (![0, j, 0, 0] : Fin 4 → ℕ) a + (![1, 1, 256, 256] : Fin 4 → ℕ) a ≤ S1x8x256x256.size a) (f : Bf (F := F) c M)
    (h : S1x1x256x256.ShapeCasts S256x256) :
    @shapeCast S1x1x256x256 (F .f32) S256x256 (View.readAt (Elt F) M.view (Rect.unit (s := S1x8x256x256) ![0, j, 0, 0] ![1, 1, 256, 256] hb).toLoadRect f) h
      = tile (M.view.read (Elt F) f) j := read_tile M.view j hb f h

/-- A load of a whole matrix is the matrix. -/
theorem read_all {κ : Kind} {sp : Space} {e : EltTy} {R C : ℕ} (v : View sig κ sp ⟨2, ![R, C]⟩ e)
    (hb : ∀ a, (![0, 0] : Fin 2 → ℕ) a + (![R, C] : Fin 2 → ℕ) a ≤ (⟨2, ![R, C]⟩ : Shape).size a) (f : v.ref.ty.shape.Idx → Elt F v.ref.ty.elt) :
    View.readAt (Elt F) v (Rect.unit (s := ⟨2, ![R, C]⟩) ![0, 0] ![R, C] hb).toLoadRect f = v.read (Elt F) f := by
  funext y
  show v.read (Elt F) f _ = v.read (Elt F) f _
  congr 1
  funext a
  apply Fin.ext
  rw [LoadRect.idx_apply]
  match a with
  | ⟨0, _⟩ => simp [Rect.unit, Rect.toLoadRect]
  | ⟨1, _⟩ => simp [Rect.unit, Rect.toLoadRect]

theorem read_all_l (c : Dev nD) {sp : Space} (M : Memref sig .tc sp S1x64 .f32)
    (hb : ∀ a, (![0, 0] : Fin 2 → ℕ) a + (![1, 64] : Fin 2 → ℕ) a ≤ S1x64.size a) (f : Bf (F := F) c M) :
    View.readAt (Elt F) M.view (Rect.unit (s := S1x64) ![0, 0] ![1, 64] hb).toLoadRect f = M.view.read (Elt F) f := read_all M.view hb f

theorem read_all_g (c : Dev nD) {sp : Space} (M : Memref sig .tc sp S128x1 .f32)
    (hb : ∀ a, (![0, 0] : Fin 2 → ℕ) a + (![128, 1] : Fin 2 → ℕ) a ≤ S128x1.size a) (f : Bf (F := F) c M) :
    View.readAt (Elt F) M.view (Rect.unit (s := S128x1) ![0, 0] ![128, 1] hb).toLoadRect f = M.view.read (Elt F) f := read_all M.view hb f

/-- The lanes of chain `cc`: the first 64 of 128, or the last 64. -/
def lanes : Fin 2 → CmpIPredicate
  | 0 => .slt
  | 1 => .sge

/-- The queries of tile `qi`, zero off chain `cc`'s lanes. -/
def qM (Q : S1x8x256x128.Idx → Elt F .bf16) (qi : ℕ) (cc : Fin 2) : FVec F S256x128 .bf16 :=
  select (cmpi (lanes cc) (iota .tc S256x128 32 [1] iota_S256x128_d1_w32) (broadcast S256x128 64#32)) (tile Q qi)
    (broadcast S256x128 (FloatOps.ofBits .bf16 0#16))

/-- The unnormalised weights of the keys of tile `kv` (rows) for the queries of tile `qi` (columns), `d` tiles apart. -/
def probT (Q K : S1x8x256x128.Idx → Elt F .bf16) (B : S1x8x256x256.Idx → Elt F .f32) (qi kv d : ℕ) (cc : Fin 2) : FVec F S256x256 .bf16 :=
  truncf .bf16 (exp2 (addf (matmul dot_S256x128_S256x128_S256x256_1_1_0_0_n_n none (tile K kv) (qM Q qi cc) (constant S256x256 .f32 0#32))
    (tile B d))) bitsLt_bf16_f32

/-- The values of a tile over sixteen rows of ones. -/
def onesT (X : FVec F S128x256 .bf16) : FVec F S144x256 .bf16 :=
  concatenate S144x256 0 [⟨S128x256, X⟩, ⟨S16x256, broadcast S16x256 (FloatOps.ofBits .bf16 16256#16)⟩] concatenates_S128x256_S16x256_S144x256_d0

theorem read_ones (c : Dev nD) {sp : Space} (M : Memref sig .tc sp S1x8x128x256 .bf16) (j : ℕ)
    (hb : ∀ a, (![0, j, 0, 0] : Fin 4 → ℕ) a + (![1, 1, 128, 256] : Fin 4 → ℕ) a ≤ S1x8x128x256.size a) (f : Bf (F := F) c M)
    (h : S1x1x128x256.ShapeCasts S128x256) (hc) :
    concatenate (α := F .bf16) S144x256 0 [⟨S128x256, @shapeCast S1x1x128x256 (F .bf16) S128x256
        (View.readAt (Elt F) M.view (Rect.unit (s := S1x8x128x256) ![0, j, 0, 0] ![1, 1, 128, 256] hb).toLoadRect f) h⟩,
        ⟨S16x256, broadcast S16x256 (FloatOps.ofBits .bf16 16256#16)⟩] hc = onesT (tile (M.view.read (Elt F) f) j) :=
  congrArg onesT (read_tile_v c M j hb f h)

/-- The values of tile `kv` over rows of ones, times those weights: what one step adds to the accumulator. -/
def stepT (Q K : S1x8x256x128.Idx → Elt F .bf16) (V : S1x8x128x256.Idx → Elt F .bf16) (B : S1x8x256x256.Idx → Elt F .f32)
    (qi kv d : ℕ) (cc : Fin 2) : FVec F S144x256 .f32 :=
  matmul dot_S144x256_S256x256_S144x256_1_0_0_1_n_n none
    (onesT (tile V kv)) (probT Q K B qi kv d cc) (constant S144x256 .f32 0#32)

/-- The accumulator of tile `qi` after the steps `d = 0 … n`. -/
def accT (Q K : S1x8x256x128.Idx → Elt F .bf16) (V : S1x8x128x256.Idx → Elt F .bf16) (B : S1x8x256x256.Idx → Elt F .f32)
    (qi : ℕ) (cc : Fin 2) : ℕ → FVec F S144x256 .f32
  | 0 => stepT Q K V B qi qi 0 cc
  | n + 1 => addf (accT Q K V B qi cc n) (stepT Q K V B qi (qi - (n + 1)) (n + 1) cc)

/-- The exponential of the inner product of two of the four vectors. -/
def expDot (A B : S1x64.Idx → Elt F .f32) : FVec F S1x1 .f32 :=
  exp (broadcast S1x1 (extractAt ![0, 0, 0] (shapeCast S1x1x1 (multiReduction .add [1, 2] S1
    (shapeCast S1x1x64 (mulf A B) shapeCasts_S1x64_S1x1x64) 0#32 reduces_S1x1x64_S1 (.inl rfl) rfl) shapeCasts_S1_S1x1x1) inpos_S1x1x1_p0_0_0))

/-- The factor of the second chain. -/
def lamT (L1 L2 L3 L4 : S1x64.Idx → Elt F .f32) : FVec F S1x1 .f32 :=
  addf (subf (expDot L1 L2) (expDot L3 L4)) (broadcast S1x1 (FloatOps.ofBits .f32 1045220557#32))

/-- An accumulator's values over its sum of weights. -/
def normT (A : FVec F S144x256 .f32) : FVec F S128x256 .f32 :=
  divf (extractStridedSlice S128x256 ![0, 0] A slices_S144x256_o0_0_S128x256)
    (broadcastTo S128x256 (extractStridedSlice S1x256 ![128, 0] A slices_S144x256_o128_0_S1x256) broadcasts_S1x256_S128x256)

/-- The root-mean-square norm over the 128 values of a query, its gain, and the factor after it. -/
def rmsT (O : FVec F S128x256 .f32) (G : S128x1.Idx → Elt F .f32) : FVec F S128x256 .f32 :=
  mulf (mulf (mulf O (broadcastTo S128x256 (rsqrt (addf (divf (shapeCast S1x256 (multiReduction .add [0] S256 (mulf O O) 0#32 reduces_S128x256_S256 (.inl rfl) rfl)
      shapeCasts_S256_S1x256) (broadcast S1x256 (FloatOps.ofBits .f32 1124073472#32))) (broadcast S1x256 (FloatOps.ofBits .f32 897988541#32))))
      broadcasts_S1x256_S128x256)) (broadcastTo S128x256 G broadcasts_S128x1_S128x256)) (broadcast S128x256 (FloatOps.ofBits .f32 1061997773#32))

/-- The difference of the two chains' attentions, before the norm. -/
def diffT (Q K : S1x8x256x128.Idx → Elt F .bf16) (V : S1x8x128x256.Idx → Elt F .bf16) (B : S1x8x256x256.Idx → Elt F .f32)
    (L1 L2 L3 L4 : S1x64.Idx → Elt F .f32) (qi : ℕ) : FVec F S128x256 .f32 :=
  subf (normT (accT Q K V B qi 0 qi)) (mulf (broadcastTo S128x256 (lamT L1 L2 L3 L4) broadcasts_S1x1_S128x256) (normT (accT Q K V B qi 1 qi)))

/-- Tile `qi` of the result. -/
def outT (Q K : S1x8x256x128.Idx → Elt F .bf16) (V : S1x8x128x256.Idx → Elt F .bf16) (B : S1x8x256x256.Idx → Elt F .f32)
    (L1 L2 L3 L4 : S1x64.Idx → Elt F .f32) (G : S128x1.Idx → Elt F .f32) (qi : ℕ) : FVec F S256x128 .bf16 :=
  truncf .bf16 (transpose S256x128 [1, 0] (rmsT (diffT Q K V B L1 L2 L3 L4 qi) G) transposes_S128x256_p1_0_S256x128) bitsLt_bf16_f32

/-- Eight tiles, as the kernel writes them one after the other into the result's block, the last first. -/
def outPieces (O : ℕ → FVec F S256x128 .bf16) : List (View.Piece (Elt F) S1x8x256x128 .bf16) :=
  [⟨Rect.unit (s := S1x8x256x128) ![0, 7, 0, 0] S1x1x256x128.size inb_S1x8x256x128_S1x1x256x128_0_7_0_0, shapeCast S1x1x256x128 (O 7) shapeCasts_S256x128_S1x1x256x128⟩,
   ⟨Rect.unit (s := S1x8x256x128) ![0, 6, 0, 0] S1x1x256x128.size inb_S1x8x256x128_S1x1x256x128_0_6_0_0, shapeCast S1x1x256x128 (O 6) shapeCasts_S256x128_S1x1x256x128⟩,
   ⟨Rect.unit (s := S1x8x256x128) ![0, 5, 0, 0] S1x1x256x128.size inb_S1x8x256x128_S1x1x256x128_0_5_0_0, shapeCast S1x1x256x128 (O 5) shapeCasts_S256x128_S1x1x256x128⟩,
   ⟨Rect.unit (s := S1x8x256x128) ![0, 4, 0, 0] S1x1x256x128.size inb_S1x8x256x128_S1x1x256x128_0_4_0_0, shapeCast S1x1x256x128 (O 4) shapeCasts_S256x128_S1x1x256x128⟩,
   ⟨Rect.unit (s := S1x8x256x128) ![0, 3, 0, 0] S1x1x256x128.size inb_S1x8x256x128_S1x1x256x128_0_3_0_0, shapeCast S1x1x256x128 (O 3) shapeCasts_S256x128_S1x1x256x128⟩,
   ⟨Rect.unit (s := S1x8x256x128) ![0, 2, 0, 0] S1x1x256x128.size inb_S1x8x256x128_S1x1x256x128_0_2_0_0, shapeCast S1x1x256x128 (O 2) shapeCasts_S256x128_S1x1x256x128⟩,
   ⟨Rect.unit (s := S1x8x256x128) ![0, 1, 0, 0] S1x1x256x128.size inb_S1x8x256x128_S1x1x256x128_0_1_0_0, shapeCast S1x1x256x128 (O 1) shapeCasts_S256x128_S1x1x256x128⟩,
   ⟨Rect.unit (s := S1x8x256x128) ![0, 0, 0, 0] S1x1x256x128.size inb_S1x8x256x128_S1x1x256x128_0_0_0_0, shapeCast S1x1x256x128 (O 0) shapeCasts_S256x128_S1x1x256x128⟩]

end Cert.Proof.KernelIdeal

end
-- ==== Proof.Pieces.lean ====
module

public import proofs.«01_k».proof.Proof.Tiles
public import Idealize.ShloMosaic.Lib.Pipeline.FrameBody
public import Idealize.ShloMosaic.Lib.Pipeline.ReadBack
public import Idealize.ShloMosaic.Lib.Pipeline.Value
public import Idealize.ShloMosaic.Lib.ValueIdxCore

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL

variable {F : FTy → Type} [FloatOps F] [Named F]

open runBounded.sl in
set_option maxHeartbeats 0 in
/-- What the result's buffer holds after the bounded arm, tile by tile. -/
theorem pieces_out (c : Dev nD)
    (M2 : Memref sig .tc .smem S1 .i32) (M3 : Memref sig .tc .vmem S1x64 .f32) (M4 : Memref sig .tc .vmem S1x64 .f32) (M5 : Memref sig .tc .vmem S1x64 .f32) (M6 : Memref sig .tc .vmem S1x64 .f32) (M7 : Memref sig .tc .vmem S128x1 .f32) (M8 : Memref sig .tc .vmem S1x8x256x128 .bf16) (M9 : Memref sig .tc .vmem S1x8x256x128 .bf16) (M10 : Memref sig .tc .vmem S1x8x128x256 .bf16) (M11 : Memref sig .tc .vmem S1x8x256x256 .f32) (M12 : Memref sig .tc .vmem S1x8x256x128 .bf16) (M13 : Memref sig .tc .vmem S8x2x256x128 .bf16) (M14 : Memref sig .tc .vmem S2x2x256x256 .f32) (M15 : Memref sig .tc .vmem S8x2x256x256 .bf16) (M16 : Memref sig .tc .vmem S8x2x144x256 .f32)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11)
    : H12_8 c M3 M4 M5 M6 M7 M8 M9 M10 M11 M13 M15 M16 f3 f4 f5 f6 f7 f8 f9 f10 f11
      = outPieces (outT (M8.view.read (Elt F) f8) (M9.view.read (Elt F) f9) (M10.view.read (Elt F) f10) (M11.view.read (Elt F) f11)
          (M3.view.read (Elt F) f3) (M4.view.read (Elt F) f4) (M5.view.read (Elt F) f5) (M6.view.read (Elt F) f6) (M7.view.read (Elt F) f7)) := by
  simp (disch := decide) only [View.readCov_skip, View.readCov_cons_toLoadRect, shapeCast_shapeCast, k0_pay1,
    read_tile_qk, read_ones, read_tile_b, read_all_l, read_all_g,
    H12_5, H12_4, H12_8, H12_7, H12_1, H12_2, H12_3, H12_6, H13_3, H13_6, H13_10, H13_14, H13_16, H15_1, H15_3, H15_5, H15_6, H15_8, H15_10, H15_12, H15_14, H15_16,
    H15_17, H15_18, H15_19, H15_20, H15_21, H15_22, H15_23, H15_24, H15_25, H15_26, H15_27, H15_28, H15_29, H15_30, H15_31, H15_32, H15_33, H15_34, H15_35, H15_36,
    H15_37, H15_38, H15_39, H15_40, H15_41, H15_42, H15_43, H15_44, H15_45, H15_46, H15_47, H15_48, H15_49, H15_50, H15_51, H15_52, H15_53, H15_54, H15_55, H15_56,
    H15_57, H15_58, H15_59, H15_60, H15_61, H15_62, H15_63, H15_64, H15_65, H15_66, H15_67, H15_68, H15_69, H15_70, H15_71, H15_72, H16_3, H16_5, H16_8, H16_10, H16_12,
    H16_15, H16_16, H16_17, H16_18, H16_19, H16_20, H16_21, H16_22, H16_23, H16_24, H16_25, H16_26, H16_27, H16_28, H16_29, H16_30, H16_31, H16_32, H16_33, H16_34,
    H16_35, H16_36, H16_37, H16_38, H16_39, H16_40, H16_41, H16_42, H16_43, H16_44, H16_45, H16_46, H16_47, H16_48, H16_49, H16_50, H16_51, H16_52, H16_53, H16_54,
    H16_55, H16_56, H16_57, H16_58, H16_59, H16_60, H16_61, H16_62, H16_63, H16_64, H16_65, H16_66, H16_67, H16_68, H16_69, H16_70, H16_71, H16_72, cst, cst_121, cst_389,
    cst_394, cst_619, cst_629, cst_630, cst_633, r_1, r_2, r_3, v8, v9, v10, v11, v13, v16, v19, v22, v24, v29, v32, v35, v38, v40, v45, v48, v51, v54, v56, v61, v64,
    v67, v70, v72, v77, v80, v83, v86, v88, v93, v96, v99, v102, v104, v109, v112, v115, v118, v120, v125, v128, v131, v134, v136, v137, v138, v139, v141, v142, v143,
    v144, v147, v149, v150, v151, v152, v155, v156, v157, v160, v162, v163, v164, v165, v168, v169, v170, v173, v176, v177, v178, v181, v182, v183, v186, v188, v189,
    v190, v191, v194, v195, v196, v199, v202, v203, v204, v207, v208, v209, v212, v214, v215, v216, v217, v220, v221, v222, v225, v228, v229, v230, v233, v234, v235,
    v238, v240, v241, v242, v243, v246, v247, v248, v251, v254, v255, v256, v259, v260, v261, v264, v266, v267, v268, v269, v272, v273, v274, v277, v280, v281, v282,
    v285, v286, v287, v290, v292, v293, v294, v295, v298, v299, v300, v303, v306, v307, v308, v311, v312, v313, v316, v318, v319, v320, v321, v324, v325, v326, v329,
    v332, v333, v334, v337, v338, v339, v342, v344, v345, v346, v347, v348, v349, v352, v357, v358, v359, v362, v364, v366, v367, v368, v369, v372, v374, v376, v377,
    v378, v379, v382, v384, v386, v387, v388, v389, v392, v397, v398, v399, v402, v404, v406, v407, v408, v409, v412, v417, v418, v419, v422, v424, v426, v427, v428,
    v429, v432, v437, v438, v439, v442, v444, v446, v447, v448, v449, v452, v457, v458, v459, v462, v464, v466, v467, v468, v469, v472, v477, v478, v479, v482, v484,
    v486, v487, v488, v489, v492, v494, v496, v497, v498, v499, v502, v505, v506, v507, v508, v509, v510, v511, v514, v515, v516, v517, v518, v519, v520, v521, v522,
    v523, v524, v525, v526, v527, v528, v529, v530, v531, v532, v533, v534, v535, v536, v537, v538, v539, v540, v541, v542, v543, v544, v545, v546, v547, v548, v550,
    v551, v552, v553, v554, v555, v558, v563, v565, v566, v567, v568, v571, v576, v579, v580, v581, v584, v589, v592, v593, v594, v597, v602, v605, v606, v607, v610,
    v615, v618, v619, v620, v623, v628, v631, v632, v633, v636, v641, v644, v645, v646, v649, v654, v657, v658, v659, v662, v667, v670, v671, v672, v675, v680, v683,
    v684, v685, v688, v693, v696, v697, v698, v701, v706, v709, v710, v711, v714, v719, v722, v723, v724, v727, v732, v735, v736, v737, v740, v745, v746, v747, v748,
    v749, v750, v753, v758, v759, v760, v761, v762, v763, v766, v771, v772, v773, v774, v775, v776, v779, v784, v785, v786, v787, v788, v789, v792, v797, v798, v799,
    v800, v801, v802, v805, v810, v811, v812, v813, v814, v815, v818, v823, v824, v825, v826, v827, v828, v831, v836, v837, v838, v839, v840, v841, v844, v849, v850,
    v851, v852, v853, v854, v857, v862, v863, v864, v865, v866, v867, v870, v875, v876, v877, v878, v879, v880, v883, v888, v889, v890, v891, v892, v893, v896, v901,
    v902, v903, v904, v905, v906, v909, v914, v915, v916, v917, v918, v919, v922, v944, v945, v946, v947, v948, v949, v950, v951, v952, v953, v954, v955, v957, v958,
    v959, v960, v961, v963, v965, v966, v967, v968, v971, v973, v974, v975, v978, v983, v985, v986, v987, v988, v991, v996, v999, v1000, v1001, v1004, v1009, v1012,
    v1013, v1014, v1017, v1022, v1025, v1026, v1027, v1030, v1035, v1038, v1039, v1040, v1043, v1048, v1051, v1052, v1053, v1056, v1061, v1064, v1065, v1066, v1069,
    v1074, v1077, v1078, v1079, v1082, v1087, v1090, v1091, v1092, v1095, v1100, v1103, v1104, v1105, v1108, v1113, v1116, v1117, v1118, v1121, v1126, v1129, v1130,
    v1131, v1134, v1139, v1140, v1141, v1142, v1143, v1144, v1147, v1152, v1153, v1154, v1155, v1156, v1157, v1160, v1165, v1166, v1167, v1168, v1169, v1170, v1173,
    v1178, v1179, v1180, v1181, v1182, v1183, v1186, v1191, v1192, v1193, v1194, v1195, v1196, v1199, v1204, v1205, v1206, v1207, v1208, v1209, v1212, v1217, v1218,
    v1219, v1220, v1221, v1222, v1225, v1230, v1231, v1232, v1233, v1234, v1235, v1238, v1243, v1244, v1245, v1246, v1247, v1248, v1251, v1256, v1257, v1258, v1259,
    v1260, v1261, v1264, v1269, v1270, v1271, v1272, v1273, v1274, v1277, v1282, v1283, v1284, v1285, v1286, v1287, v1290, v1312, v1313, v1314, v1315, v1316, v1317,
    v1318, v1319, v1320, v1321, v1322, v1323, v1325, v1326, v1327, v1328, v1329, v1331, v1333, v1334, v1335, v1336, v1339, v1341, v1342, v1343, v1346, v1351, v1353,
    v1354, v1355, v1356, v1359, v1364, v1367, v1368, v1369, v1372, v1377, v1380, v1381, v1382, v1385, v1390, v1393, v1394, v1395, v1398, v1403, v1406, v1407, v1408,
    v1411, v1416, v1419, v1420, v1421, v1424, v1429, v1432, v1433, v1434, v1437, v1442, v1445, v1446, v1447, v1450, v1455, v1458, v1459, v1460, v1463, v1468, v1471,
    v1472, v1473, v1476, v1481, v1482, v1483, v1484, v1485, v1486, v1489, v1494, v1495, v1496, v1497, v1498, v1499, v1502, v1507, v1508, v1509, v1510, v1511, v1512,
    v1515, v1520, v1521, v1522, v1523, v1524, v1525, v1528, v1533, v1534, v1535, v1536, v1537, v1538, v1541, v1546, v1547, v1548, v1549, v1550, v1551, v1554, v1559,
    v1560, v1561, v1562, v1563, v1564, v1567, v1572, v1573, v1574, v1575, v1576, v1577, v1580, v1585, v1586, v1587, v1588, v1589, v1590, v1593, v1598, v1599, v1600,
    v1601, v1602, v1603, v1606, v1628, v1629, v1630, v1631, v1632, v1633, v1634, v1635, v1636, v1637, v1638, v1639, v1641, v1642, v1643, v1644, v1645, v1647, v1649,
    v1650, v1651, v1652, v1655, v1657, v1658, v1659, v1662, v1667, v1669, v1670, v1671, v1672, v1675, v1680, v1683, v1684, v1685, v1688, v1693, v1696, v1697, v1698,
    v1701, v1706, v1709, v1710, v1711, v1714, v1719, v1722, v1723, v1724, v1727, v1732, v1735, v1736, v1737, v1740, v1745, v1748, v1749, v1750, v1753, v1758, v1761,
    v1762, v1763, v1766, v1771, v1772, v1773, v1774, v1775, v1776, v1779, v1784, v1785, v1786, v1787, v1788, v1789, v1792, v1797, v1798, v1799, v1800, v1801, v1802,
    v1805, v1810, v1811, v1812, v1813, v1814, v1815, v1818, v1823, v1824, v1825, v1826, v1827, v1828, v1831, v1836, v1837, v1838, v1839, v1840, v1841, v1844, v1849,
    v1850, v1851, v1852, v1853, v1854, v1857, v1862, v1863, v1864, v1865, v1866, v1867, v1870, v1892, v1893, v1894, v1895, v1896, v1897, v1898, v1899, v1900, v1901,
    v1902, v1903, v1905, v1906, v1907, v1908, v1909, v1911, v1913, v1914, v1915, v1916, v1919, v1921, v1922, v1923, v1926, v1931, v1933, v1934, v1935, v1936, v1939,
    v1944, v1947, v1948, v1949, v1952, v1957, v1960, v1961, v1962, v1965, v1970, v1973, v1974, v1975, v1978, v1983, v1986, v1987, v1988, v1991, v1996, v1999, v2000,
    v2001, v2004, v2009, v2010, v2011, v2012, v2013, v2014, v2017, v2022, v2023, v2024, v2025, v2026, v2027, v2030, v2035, v2036, v2037, v2038, v2039, v2040, v2043,
    v2048, v2049, v2050, v2051, v2052, v2053, v2056, v2061, v2062, v2063, v2064, v2065, v2066, v2069, v2074, v2075, v2076, v2077, v2078, v2079, v2082, v2104, v2105,
    v2106, v2107, v2108, v2109, v2110, v2111, v2112, v2113, v2114, v2115, v2117, v2118, v2119, v2120, v2121, v2123, v2125, v2126, v2127, v2128, v2131, v2133, v2134,
    v2135, v2138, v2143, v2145, v2146, v2147, v2148, v2151, v2156, v2159, v2160, v2161, v2164, v2169, v2172, v2173, v2174, v2177, v2182, v2185, v2186, v2187, v2190,
    v2195, v2196, v2197, v2198, v2199, v2200, v2203, v2208, v2209, v2210, v2211, v2212, v2213, v2216, v2221, v2222, v2223, v2224, v2225, v2226, v2229, v2234, v2235,
    v2236, v2237, v2238, v2239, v2242, v2264, v2265, v2266, v2267, v2268, v2269, v2270, v2271, v2272, v2273, v2274, v2275, v2277, v2278, v2279, v2280, v2281, v2283,
    v2285, v2286, v2287, v2288, v2291, v2293, v2294, v2295, v2298, v2303, v2305, v2306, v2307, v2308, v2311, v2316, v2319, v2320, v2321, v2324, v2329, v2330, v2331,
    v2332, v2333, v2334, v2337, v2342, v2343, v2344, v2345, v2346, v2347, v2350, v2372, v2373, v2374, v2375, v2376, v2377, v2378, v2379, v2380, v2381, v2382, v2383,
    v2385, v2386, v2387, v2388, v2389, v2391, v2393, v2394, v2395, v2396, v2399, v2401, v2402, v2403]
  rfl

end Cert.Proof.KernelIdeal

end
-- ==== Proof.ReadOut.lean ====
module

public import proofs.«01_k».proof.Proof.Pieces
public import proofs.«01_k».proof.Proof.LaunchKernelIdeal
public import Idealize.ShloMosaic.Lib.WholeRead

@[expose] public section

set_option maxRecDepth 16384

noncomputable section

/-!
# A block of the result

What the arm for bounded gains leaves in the result's staging buffer, element by element: row `r` and column `e` of query tile
`t` is that tile's value at (`r`, `e`), of the blocks staged at the point.
-/

namespace Cert.Proof.KernelIdeal

open Cert.KernelIdeal Cert.KernelIdeal.Gen
open Idealize.ShloMosaic Idealize.ShloMosaic.TcCoe Idealize.ShloMosaic.Tactic Idealize.ShloMosaic.ValueIdx
open Idealize.SL

variable {F : FTy → Type} [FloatOps F] [Named F]

/-- A stored tile is the function of the whole block that takes the tile's number off the index. -/
theorem piece_apply (O : ℕ → FVec F S256x128 .bf16) (n : ℕ) (inb : ∀ a, (![0, n, 0, 0] : Fin 4 → ℕ) a + S1x1x256x128.size a ≤ S1x8x256x128.size a)
    (x : S1x1x256x128.Idx) :
    shapeCast S1x1x256x128 (O n) shapeCasts_S256x128_S1x1x256x128 x
      = (fun i : S1x8x256x128.Idx => O (i 1).val (ix2 (i 2) (i 3)))
          ((Rect.unit (s := S1x8x256x128) ![0, n, 0, 0] S1x1x256x128.size inb).emb x) := by
  obtain ⟨a, b, r, e, rfl⟩ : ∃ (a b : Fin 1) (r : Fin 256) (e : Fin 128), x = ix4 a b r e := ⟨_, _, _, _, eq_ix4 x⟩
  have h1 : (((Rect.unit (s := S1x8x256x128) ![0, n, 0, 0] S1x1x256x128.size inb).emb (ix4 a b r e)) 1).val = n := by
    show n + 1 * b.val = n
    omega
  have h2 : (((Rect.unit (s := S1x8x256x128) ![0, n, 0, 0] S1x1x256x128.size inb).emb (ix4 a b r e)) 2) = r := by
    apply Fin.ext; show 0 + 1 * r.val = r.val; omega
  have h3 : (((Rect.unit (s := S1x8x256x128) ![0, n, 0, 0] S1x1x256x128.size inb).emb (ix4 a b r e)) 3) = e := by
    apply Fin.ext; show 0 + 1 * e.val = e.val; omega
  show _ = O _ (ix2 _ _)
  rw [h1, h2, h3]
  refine shapeCast_apply _ _ _ (ix2 r e) ?_
  rw [Shape.rowMajor_val_two, Shape.rowMajor_val_four]
  show r.val * 128 + e.val = ((a.val * 1 + b.val) * 256 + r.val) * 128 + e.val
  omega

/-- The eight tiles, read back. -/
theorem canon_outPieces (O : ℕ → FVec F S256x128 .bf16) (y : S1x8x256x128.Idx) :
    View.canon (outPieces O) y = O (y 1).val (ix2 (y 2) (y 3)) := by
  refine View.canon_apply_of_pieces (Val := Elt F) (e := .bf16) (fun i : S1x8x256x128.Idx => O (i 1).val (ix2 (i 2) (i 3))) _ ?_ y ?_
  · intro p hp
    simp only [outPieces, List.mem_cons, List.not_mem_nil, or_false] at hp
    rcases hp with rfl | rfl | rfl | rfl | rfl | rfl | rfl | rfl
    · exact piece_apply O 7 inb_S1x8x256x128_S1x1x256x128_0_7_0_0
    · exact piece_apply O 6 inb_S1x8x256x128_S1x1x256x128_0_6_0_0
    · exact piece_apply O 5 inb_S1x8x256x128_S1x1x256x128_0_5_0_0
    · exact piece_apply O 4 inb_S1x8x256x128_S1x1x256x128_0_4_0_0
    · exact piece_apply O 3 inb_S1x8x256x128_S1x1x256x128_0_3_0_0
    · exact piece_apply O 2 inb_S1x8x256x128_S1x1x256x128_0_2_0_0
    · exact piece_apply O 1 inb_S1x8x256x128_S1x1x256x128_0_1_0_0
    · exact piece_apply O 0 inb_S1x8x256x128_S1x1x256x128_0_0_0_0
  · obtain ⟨a, t, r, e, rfl⟩ : ∃ (a : Fin 1) (t : Fin 8) (r : Fin 256) (e : Fin 128), y = ix4 a t r e := ⟨_, _, _, _, eq_ix4 y⟩
    have hmem : ∀ (n : ℕ) (inb : ∀ a, (![0, n, 0, 0] : Fin 4 → ℕ) a + S1x1x256x128.size a ≤ S1x8x256x128.size a), t.val = n →
        (ix4 a t r e : S1x8x256x128.Idx) ∈ (Rect.unit (s := S1x8x256x128) ![0, n, 0, 0] S1x1x256x128.size inb).set := by
      intro n inb hn
      rw [Rect.mem_set_unit]
      intro i
      match i with
      | ⟨0, _⟩ => show 0 ≤ a.val ∧ a.val < 0 + 1; omega
      | ⟨1, _⟩ => show n ≤ t.val ∧ t.val < n + 1; omega
      | ⟨2, _⟩ => show 0 ≤ r.val ∧ r.val < 0 + 256; omega
      | ⟨3, _⟩ => show 0 ≤ e.val ∧ e.val < 0 + 128; omega
    have ht : t.val < 8 := t.isLt
    have hc : t.val = 7 ∨ t.val = 6 ∨ t.val = 5 ∨ t.val = 4 ∨ t.val = 3 ∨ t.val = 2 ∨ t.val = 1 ∨ t.val = 0 := by omega
    unfold outPieces
    simp only [List.exists_mem_cons_iff]
    rcases hc with h | h | h | h | h | h | h | h
    · exact .inl (hmem _ _ h)
    · exact .inr (.inl (hmem _ _ h))
    · exact .inr (.inr (.inl (hmem _ _ h)))
    · exact .inr (.inr (.inr (.inl (hmem _ _ h))))
    · exact .inr (.inr (.inr (.inr (.inl (hmem _ _ h)))))
    · exact .inr (.inr (.inr (.inr (.inr (.inl (hmem _ _ h))))))
    · exact .inr (.inr (.inr (.inr (.inr (.inr (.inl (hmem _ _ h)))))))
    · exact .inr (.inr (.inr (.inr (.inr (.inr (.inr (.inl (hmem _ _ h))))))))

/-- What the arm for bounded gains leaves in the result's buffer, of what the other buffers hold. -/
theorem runBounded_apply (c : Dev nD) (i : grid0.Coords)
    (M2 : Memref sig .tc .smem S1 .i32) (h2 : M2.IsWhole) (M3 : Memref sig .tc .vmem S1x64 .f32) (h3 : M3.IsWhole) (M4 : Memref sig .tc .vmem S1x64 .f32) (h4 : M4.IsWhole) (M5 : Memref sig .tc .vmem S1x64 .f32) (h5 : M5.IsWhole) (M6 : Memref sig .tc .vmem S1x64 .f32) (h6 : M6.IsWhole) (M7 : Memref sig .tc .vmem S128x1 .f32) (h7 : M7.IsWhole) (M8 : Memref sig .tc .vmem S1x8x256x128 .bf16) (h8 : M8.IsWhole) (M9 : Memref sig .tc .vmem S1x8x256x128 .bf16) (h9 : M9.IsWhole) (M10 : Memref sig .tc .vmem S1x8x128x256 .bf16) (h10 : M10.IsWhole) (M11 : Memref sig .tc .vmem S1x8x256x256 .f32) (h11 : M11.IsWhole) (M12 : Memref sig .tc .vmem S1x8x256x128 .bf16) (h12 : M12.IsWhole) (M13 : Memref sig .tc .vmem S8x2x256x128 .bf16) (h13 : M13.IsWhole) (M14 : Memref sig .tc .vmem S2x2x256x256 .f32) (h14 : M14.IsWhole) (M15 : Memref sig .tc .vmem S8x2x256x256 .bf16) (h15 : M15.IsWhole) (M16 : Memref sig .tc .vmem S8x2x144x256 .f32) (h16 : M16.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11)
    (hb : Scalar.cmpi .ne (Scalar.extui (Scalar.cmpi .sgt (flag c M2 f2) 0#32)) 0#32 = 1#1)
    (y : S1x8x256x128.Idx) :
    M12.view.read (Elt F) (runBounded c i M2 h2 M3 h3 M4 h4 M5 h5 M6 h6 M7 h7 M8 h8 M9 h9 M10 h10 M11 h11 M12 h12 M13 h13 M14 h14 M15 h15 M16 h16 f2 f3 f4 f5 f6 f7 f8 f9 f10 f11 hb).1 y
      = outT (M8.view.read (Elt F) f8) (M9.view.read (Elt F) f9) (M10.view.read (Elt F) f10) (M11.view.read (Elt F) f11)
          (M3.view.read (Elt F) f3) (M4.view.read (Elt F) f4) (M5.view.read (Elt F) f5) (M6.view.read (Elt F) f6) (M7.view.read (Elt F) f7)
          (y 1).val (ix2 (y 2) (y 3)) := by
  have e : (runBounded c i M2 h2 M3 h3 M4 h4 M5 h5 M6 h6 M7 h7 M8 h8 M9 h9 M10 h10 M11 h11 M12 h12 M13 h13 M14 h14 M15 h15 M16 h16 f2 f3 f4 f5 f6 f7 f8 f9 f10 f11 hb).1 = M12.view.writes (Elt F) M12.view.junk
      (runBounded.sl.H12_8 c M3 M4 M5 M6 M7 M8 M9 M10 M11 M13 M15 M16 f3 f4 f5 f6 f7 f8 f9 f10 f11) := by
    delta runBounded; dsimp only
  rw [e, View.read_writes_junk_apply_eq_canon, pieces_out c M2 M3 M4 M5 M6 M7 M8 M9 M10 M11 M12 M13 M14 M15 M16, canon_outPieces]

variable (m : (ℓ : Loc nD τ sig) → Buf (Elt F) ℓ)

/-- What the arm for bounded gains leaves, of the blocks staged. -/
theorem outBlock_apply (c : Dev nD) (t : Fin cfg0.N) (h : Taken (word m c t)) (y : S1x8x256x128.Idx) :
    outBlock m c t h y = outT (F := F) (iblk m c 6 t) (iblk m c 7 t) (iblk m c 8 t) (iblk m c 9 t)
      (iblk m c 1 t) (iblk m c 2 t) (iblk m c 3 t) (iblk m c 4 t) (iblk m c 5 t) (y 1).val (ix2 (y 2) (y 3)) := by
  unfold outBlock
  refine (runBounded_apply c _ _ _ _ _ _ _ _ _ _ _ _ _ _ _ _ _ _ _ _ _ _ _ _ _ _ _ _ _ _ _ _ _ _ _ _ _ _ _ _ _ h y).trans ?_
  simp only [Memref.IsWhole.read_unread]

end Cert.Proof.KernelIdeal

end
-- ==== Proof.KerIndex.lean ====
module

public import proofs.«01_k».proof.Proof.Tiles
public import proofs.«01_k».proof.Proof.Core
public import Idealize.ShloMosaic.Lib.MatmulPlain
public import Idealize.ShloMosaic.Lib.ValueIdx
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.ValueIdx
open Cert.Proof.Core

/-! ## The kernel's tiles over the extended reals, read at an index -/

variable (Q K : S1x8x256x128.Idx → EReal) (V : S1x8x128x256.Idx → EReal) (B : S1x8x256x256.Idx → EReal)
  (L1 L2 L3 L4 : S1x64.Idx → EReal) (G : S128x1.Idx → EReal)

/-- A lane belongs to chain `cc` when its half of the lanes does. -/
theorem lanes_apply (cc : Fin 2) (l : Fin 128) :
    IntOp.cmpi (lanes cc) (BitVec.ofNat 32 l.val) 64#32 = if l.val / 64 = cc.val then 1#1 else 0#1 := by
  revert cc l
  decide +kernel

/-- A query of one chain: zero off the chain's lanes. -/
theorem qM_apply (qi : Fin 8) (cc : Fin 2) (r : Fin 256) (l : Fin 128) :
    qM (F := Ideal) Q qi.val cc (ix2 r l) = if l.val / 64 = cc.val then Q (ix4 0 qi r l) else (0 : EReal) := by
  have e : cmpi (lanes cc) (iota .tc S256x128 32 [1] iota_S256x128_d1_w32) (broadcast S256x128 64#32) (ix2 r l)
      = IntOp.cmpi (lanes cc) (BitVec.ofNat 32 l.val) 64#32 := by
    show IntOp.cmpi (lanes cc) (iota .tc S256x128 32 [1] iota_S256x128_d1_w32 (ix2 r l)) 64#32 = _
    rw [iota_single_apply]
  have e2 : tile (α := EReal) Q qi.val (ix2 r l) = Q (ix4 0 qi r l) := by
    show Q (ix4 0 (Fin.ofNat 8 qi.val) r l) = _
    rw [Fin.ofNat_val_eq_self]
  have e3 : (FloatOps.ofBits .bf16 0#16 : Ideal .bf16) = (0 : EReal) := by
    show Ideal.ofBits .bf16 0#16 = 0
    simp [Ideal.ofBits, Ideal.ieee]
  unfold qM
  rw [select_apply, e, lanes_apply, broadcast_apply]
  by_cases h : l.val / 64 = cc.val
  · rw [if_pos h, if_pos h, select_one]; exact e2
  · rw [if_neg h, if_neg h, select_zero]; exact e3

/-- An inner product over 128 lanes with a query of one chain is one over that chain's 64 lanes. -/
theorem sum_lanes (f g : Fin 128 → EReal) (cc : Fin 2) :
    ∑ l : Fin 128, f l * (if l.val / 64 = cc.val then g l else (0 : EReal))
      = ∑ d : Fin 64, g ⟨cc.val * 64 + d.val, by omega⟩ * f ⟨cc.val * 64 + d.val, by omega⟩ := by
  rw [Fin.sum_univ_add (a := 64) (b := 64)]
  have hz : ∀ x : Fin 64, ((Fin.castAdd 64 x : Fin (64 + 64)) : ℕ) / 64 = 0 := fun x => by
    rw [Fin.val_castAdd]; omega
  have ho : ∀ x : Fin 64, ((Fin.natAdd 64 x : Fin (64 + 64)) : ℕ) / 64 = 1 := fun x => by
    rw [Fin.val_natAdd]; omega
  match cc with
  | 0 =>
    simp only [hz, ho]
    simp only [Fin.val_zero, if_true, one_ne_zero, if_false, mul_zero, Finset.sum_const_zero, add_zero]
    refine Finset.sum_congr rfl fun d _ => ?_
    have e : (Fin.castAdd 64 d : Fin 128) = ⟨0 * 64 + d.val, by omega⟩ := Fin.ext (by rw [Fin.val_castAdd]; simp)
    rw [mul_comm]
    exact congrArg (fun i => g i * f i) e
  | 1 =>
    simp only [hz, ho]
    simp only [Fin.val_one, if_true, zero_ne_one, if_false, mul_zero, Finset.sum_const_zero, zero_add]
    refine Finset.sum_congr rfl fun d _ => ?_
    have e : (Fin.natAdd 64 d : Fin 128) = ⟨1 * 64 + d.val, by omega⟩ := Fin.ext (by rw [Fin.val_natAdd])
    rw [mul_comm]
    exact congrArg (fun i => g i * f i) e

/-- An unnormalised weight: two to the logit plus the bias. -/
theorem probT_apply (qi kv d : Fin 8) (cc : Fin 2) (j r : Fin 256) :
    probT (F := Ideal) Q K B qi.val kv.val d.val cc (ix2 j r)
      = Ideal.exp2 ((∑ x : Fin 64, Q (ix4 0 qi r ⟨cc.val * 64 + x.val, by omega⟩) * K (ix4 0 kv j ⟨cc.val * 64 + x.val, by omega⟩))
        + B (ix4 0 d j r)) := by
  have e : FloatOps.matmul dot_S256x128_S256x128_S256x256_1_1_0_0_n_n none (tile (α := Ideal .bf16) K kv.val) (qM (F := Ideal) Q qi.val cc)
      (constant (F := Ideal) S256x256 .f32 0#32) (ix2 j r)
      = ∑ x : Fin 64, Q (ix4 0 qi r ⟨cc.val * 64 + x.val, by omega⟩) * K (ix4 0 kv j ⟨cc.val * 64 + x.val, by omega⟩) := by
    refine (Ideal.matmul_transposedRhs_apply (M := 256) (K := 128) (N := 256) none (tile (α := Ideal .bf16) K kv.val) (qM (F := Ideal) Q qi.val cc)
      (constant (F := Ideal) S256x256 .f32 0#32) j r).trans ?_
    have ez : constant (F := Ideal) S256x256 .f32 0#32 (ix2 j r) = (0 : EReal) := Ideal.ofBits_zero_f32
    rw [ez, zero_add]
    have ek : ∀ l : Fin 128, tile (α := Ideal .bf16) K kv.val (ix2 j l) = K (ix4 0 kv j l) := fun l => by
      show K (ix4 0 (Fin.ofNat 8 kv.val) j l) = _
      rw [Fin.ofNat_val_eq_self]
    simp only [qM_apply, ek]
    exact sum_lanes (fun l => K (ix4 0 kv j l)) (fun l => Q (ix4 0 qi r l)) cc
  have eb : tile (α := Ideal .f32) B d.val (ix2 j r) = B (ix4 0 d j r) := by
    show B (ix4 0 (Fin.ofNat 8 d.val) j r) = _
    rw [Fin.ofNat_val_eq_self]
  show Ideal.exp2 (FloatOps.matmul dot_S256x128_S256x128_S256x256_1_1_0_0_n_n none (tile (α := Ideal .bf16) K kv.val) (qM (F := Ideal) Q qi.val cc)
      (constant (F := Ideal) S256x256 .f32 0#32) (ix2 j r) + tile (α := Ideal .f32) B d.val (ix2 j r)) = _
  rw [e, eb]

/-- Values over rows of ones. -/
theorem onesT_value (kv : Fin 8) (e : Fin 128) (j : Fin 256) :
    onesT (F := Ideal) (tile (α := EReal) V kv.val) (ix2 ⟨e.val, by omega⟩ j) = V (ix4 0 kv e j) := by
  unfold onesT
  refine (concatenate_apply_piece (t := S144x256) 0 _ _ (ix2 ⟨e.val, by omega⟩ j) 0 (by simp) S128x256 (tile (α := EReal) V kv.val) rfl rfl 0 rfl (ix2 e j)
    (fun b hb => by match b with | ⟨0, _⟩ => exact absurd rfl hb | ⟨1, _⟩ => rfl) (Nat.zero_add _)).trans ?_
  show V (ix4 0 (Fin.ofNat 8 kv.val) e j) = _
  rw [Fin.ofNat_val_eq_self]

theorem onesT_one (X : FVec Ideal S128x256 .bf16) (j : Fin 256) :
    onesT (F := Ideal) X (ix2 ⟨128, by omega⟩ j) = ((1 : ℝ) : EReal) := by
  unfold onesT
  refine (concatenate_apply_piece (t := S144x256) 0 _ _ (ix2 ⟨128, by omega⟩ j) 1 (by simp) S16x256 (broadcast S16x256 (FloatOps.ofBits .bf16 16256#16)) rfl rfl 128 rfl
    (ix2 ⟨0, by omega⟩ j)
    (fun b hb => by match b with | ⟨0, _⟩ => exact absurd rfl hb | ⟨1, _⟩ => rfl) rfl).trans ?_
  show Ideal.ofBits .bf16 16256#16 = _
  simp [Ideal.ofBits, Ideal.ieee, -EReal.coe_mul]
  norm_num

/-- One step's sum over the keys of a tile. -/
theorem stepT_apply (qi kv d : ℕ) (cc : Fin 2) (row : Fin 144) (r : Fin 256) :
    stepT (F := Ideal) Q K V B qi kv d cc (ix2 row r)
      = ∑ j : Fin 256, (onesT (F := Ideal) (tile (α := EReal) V kv) (ix2 row j) : EReal) * (probT (F := Ideal) Q K B qi kv d cc (ix2 j r) : EReal) := by
  refine (Ideal.matmul_plain_apply (M := 144) (K := 256) (N := 256) none (onesT (F := Ideal) (tile (α := EReal) V kv)) (probT (F := Ideal) Q K B qi kv d cc)
      (constant (F := Ideal) S144x256 .f32 0#32) row r).trans ?_
  have ez : constant (F := Ideal) S144x256 .f32 0#32 (ix2 row r) = (0 : EReal) := Ideal.ofBits_zero_f32
  rw [ez, zero_add]

/-- The accumulator is the sum of its steps. -/
theorem accT_apply (qi : ℕ) (cc : Fin 2) (n : ℕ) (row : Fin 144) (r : Fin 256) :
    (accT (F := Ideal) Q K V B qi cc n (ix2 row r) : EReal)
      = ∑ d ∈ Finset.range (n + 1), (stepT (F := Ideal) Q K V B qi (qi - d) d cc (ix2 row r) : EReal) := by
  induction n with
  | zero =>
    rw [Finset.sum_range_one]
    rfl
  | succ n ih =>
    rw [Finset.sum_range_succ, ← ih]
    rfl

/-- The exponential of an inner product. -/
theorem expDot_apply (i : S1x1.Idx) : (expDot (F := Ideal) L1 L2 i : EReal) = Ideal.exp (∑ j, L1 j * L2 j) := by
  have e : multiReduction .add [1, 2] S1 (shapeCast S1x1x64 (mulf (F := Ideal) (φ := .f32) L1 L2) shapeCasts_S1x64_S1x1x64) 0#32
      reduces_S1x1x64_S1 (.inl rfl) rfl = fun _ => ∑ j : S1x64.Idx, L1 j * L2 j := by
    funext j
    refine (Ideal.multiReduction_add_total (shapeCast S1x1x64 (mulf (F := Ideal) (φ := .f32) L1 L2) shapeCasts_S1x64_S1x1x64) 0#32
      reduces_S1x1x64_S1 (fun b => by match b with | ⟨0, _⟩ => rfl) (.inl rfl) rfl j).trans ?_
    have hs : ∀ c : Fin 64, (shapeCast S1x1x64 (mulf (F := Ideal) (φ := .f32) L1 L2) shapeCasts_S1x64_S1x1x64 (ix3 0 0 c) : EReal)
        = L1 (ix2 0 c) * L2 (ix2 0 c) := fun c =>
      shapeCast_apply (mulf (F := Ideal) (φ := .f32) L1 L2) _ (ix3 0 0 c) (ix2 0 c) (by
        rw [Shape.rowMajor_val_three, Shape.rowMajor_val_two]
        rfl)
    let E : S1x1x64.Idx ≃ S1x64.Idx :=
      { toFun := fun i => (ix2 0 ⟨(i 2).val, (i 2).isLt⟩ : S1x64.Idx)
        invFun := fun i => (ix3 0 0 ⟨(i 1).val, (i 1).isLt⟩ : S1x1x64.Idx)
        left_inv := fun i => by
          obtain ⟨a, b, c, rfl⟩ : ∃ (a : Fin 1) (b : Fin 1) (c : Fin 64), i = ix3 a b c := ⟨_, _, _, eq_ix3 i⟩
          rw [Subsingleton.elim a 0, Subsingleton.elim b 0]
        right_inv := fun i => by
          obtain ⟨a, b, rfl⟩ : ∃ (a : Fin 1) (b : Fin 64), i = ix2 a b := ⟨_, _, eq_ix2 i⟩
          rw [Subsingleton.elim a 0] }
    refine Fintype.sum_equiv E _ _ fun i => ?_
    obtain ⟨a, b, c, rfl⟩ : ∃ (a : Fin 1) (b : Fin 1) (c : Fin 64), i = ix3 a b c := ⟨_, _, _, eq_ix3 i⟩
    rw [Subsingleton.elim a 0, Subsingleton.elim b 0]
    exact hs c
  unfold expDot
  rw [e]
  rfl

theorem lamT_apply (i : S1x1.Idx) : (lamT (F := Ideal) L1 L2 L3 L4 i : EReal)
    = Ideal.exp (∑ j, L1 j * L2 j) - Ideal.exp (∑ j, L3 j * L4 j) + Ideal.ofBits .f32 1045220557#32 := by
  show (expDot (F := Ideal) L1 L2 i : EReal) - (expDot (F := Ideal) L3 L4 i : EReal) + Ideal.ofBits .f32 1045220557#32 = _
  rw [expDot_apply, expDot_apply]

/-- The values over the sum of the weights. -/
theorem normT_apply (A : FVec Ideal S144x256 .f32) (e : Fin 128) (r : Fin 256) :
    (normT A (ix2 e r) : EReal) = Ideal.div (A (ix2 ⟨e.val, by omega⟩ r)) (A (ix2 ⟨128, by omega⟩ r)) := by
  have e1 : extractStridedSlice S128x256 ![0, 0] A slices_S144x256_o0_0_S128x256 (ix2 e r) = A (ix2 ⟨e.val, by omega⟩ r) :=
    extractStridedSlice_apply _ _ _ _ _ (fun a => by match a with | ⟨0, _⟩ => exact (Nat.zero_add _).symm | ⟨1, _⟩ => exact (Nat.zero_add _).symm)
  have e2 : broadcastTo S128x256 (extractStridedSlice S1x256 ![128, 0] A slices_S144x256_o128_0_S1x256) broadcasts_S1x256_S128x256 (ix2 e r)
      = A (ix2 ⟨128, by omega⟩ r) := by
    rw [broadcastTo_apply _ _ _ (ix2 0 r) (fun a => by match a with | ⟨0, _⟩ => rfl | ⟨1, _⟩ => rfl)]
    exact extractStridedSlice_apply _ _ _ _ _ (fun a => by match a with | ⟨0, _⟩ => rfl | ⟨1, _⟩ => exact (Nat.zero_add _).symm)
  show Ideal.div (extractStridedSlice S128x256 ![0, 0] A slices_S144x256_o0_0_S128x256 (ix2 e r))
    (broadcastTo S128x256 (extractStridedSlice S1x256 ![128, 0] A slices_S144x256_o128_0_S1x256) broadcasts_S1x256_S128x256 (ix2 e r)) = _
  rw [e1, e2]

/-- The root-mean-square norm of a query. -/
theorem rmsT_apply (O : FVec Ideal S128x256 .f32) (e : Fin 128) (r : Fin 256) :
    (rmsT O G (ix2 e r) : EReal)
      = (O (ix2 e r) : EReal) * Ideal.rsqrt (Ideal.div (∑ i : Fin 128, (O (ix2 i r) : EReal) * (O (ix2 i r) : EReal)) (Ideal.ofBits .f32 1124073472#32)
        + Ideal.ofBits .f32 897988541#32) * G (ix2 e 0) * Ideal.ofBits .f32 1061997773#32 := by
  have hr : ∀ k : Fin 128, reduces_S128x256_S256.lift (ix1 r) k = (ix2 k r : S128x256.Idx) := fun k => by
    funext a; apply Fin.ext; match a with | ⟨0, _⟩ => rfl | ⟨1, _⟩ => rfl
  have es : (shapeCast S1x256 (multiReduction .add [0] S256 (mulf (F := Ideal) O O) 0#32 reduces_S128x256_S256 (.inl rfl) rfl) shapeCasts_S256_S1x256 (ix2 0 r) : EReal)
      = ∑ i : Fin 128, (O (ix2 i r) : EReal) * (O (ix2 i r) : EReal) := by
    rw [shapeCast_apply _ _ (ix2 0 r) (ix1 r) (by
      rw [Shape.rowMajor_val_one, Shape.rowMajor_val_two]
      show r.val = 0 * 256 + r.val
      omega)]
    refine (Ideal.multiReduction_add_single (mulf (F := Ideal) O O) 0#32 reduces_S128x256_S256 (.inl rfl) rfl (ix1 r)).trans ?_
    exact Finset.sum_congr rfl fun k _ => by rw [hr k]; rfl
  have eb : broadcastTo S128x256 (rsqrt (F := Ideal) (addf (divf (shapeCast S1x256 (multiReduction .add [0] S256 (mulf (F := Ideal) O O) 0#32 reduces_S128x256_S256 (.inl rfl) rfl)
      shapeCasts_S256_S1x256) (broadcast S1x256 (FloatOps.ofBits .f32 1124073472#32))) (broadcast S1x256 (FloatOps.ofBits .f32 897988541#32))))
      broadcasts_S1x256_S128x256 (ix2 e r)
      = Ideal.rsqrt (Ideal.div (∑ i : Fin 128, (O (ix2 i r) : EReal) * (O (ix2 i r) : EReal)) (Ideal.ofBits .f32 1124073472#32)
        + Ideal.ofBits .f32 897988541#32) := by
    rw [broadcastTo_apply _ _ _ (ix2 0 r) (fun a => by match a with | ⟨0, _⟩ => rfl | ⟨1, _⟩ => rfl), ← es]
    rfl
  have eg : (broadcastTo S128x256 G broadcasts_S128x1_S128x256 (ix2 e r) : EReal) = G (ix2 e 0) :=
    broadcastTo_apply _ _ _ _ (fun a => by match a with | ⟨0, _⟩ => rfl | ⟨1, _⟩ => rfl)
  rw [← eb, ← eg]
  rfl

/-- A tile of the result is the norm's, transposed. -/
theorem outT_apply (qi : ℕ) (r : Fin 256) (e : Fin 128) :
    (outT (F := Ideal) Q K V B L1 L2 L3 L4 G qi (ix2 r e) : EReal)
      = rmsT (F := Ideal) (diffT (F := Ideal) Q K V B L1 L2 L3 L4 qi) G (ix2 e r) :=
  transpose_apply (α := EReal) [1, 0] (rmsT (F := Ideal) (diffT (F := Ideal) Q K V B L1 L2 L3 L4 qi) G) transposes_S128x256_p1_0_S256x128 (ix2 r e) (ix2 e r)
    (fun b => by match b with | ⟨0, _⟩ => rfl | ⟨1, _⟩ => rfl)

/-- The difference of the chains at an index. -/
theorem diffT_apply (qi : ℕ) (e : Fin 128) (r : Fin 256) :
    (diffT (F := Ideal) Q K V B L1 L2 L3 L4 qi (ix2 e r) : EReal)
      = Ideal.div (accT (F := Ideal) Q K V B qi 0 qi (ix2 ⟨e.val, by omega⟩ r)) (accT (F := Ideal) Q K V B qi 0 qi (ix2 ⟨128, by omega⟩ r))
        - (lamT (F := Ideal) L1 L2 L3 L4 (ix2 0 0) : EReal)
          * Ideal.div (accT (F := Ideal) Q K V B qi 1 qi (ix2 ⟨e.val, by omega⟩ r)) (accT (F := Ideal) Q K V B qi 1 qi (ix2 ⟨128, by omega⟩ r)) := by
  rw [← normT_apply, ← normT_apply]
  have el : (broadcastTo S128x256 (lamT (F := Ideal) L1 L2 L3 L4) broadcasts_S1x1_S128x256 (ix2 e r) : EReal) = lamT (F := Ideal) L1 L2 L3 L4 (ix2 0 0) :=
    broadcastTo_apply _ _ _ _ (fun a => by match a with | ⟨0, _⟩ => rfl | ⟨1, _⟩ => rfl)
  rw [← el]
  rfl

end Cert.Proof.KernelIdeal
-- ==== Proof.KerValue.lean ====
module

public import proofs.«01_k».proof.Proof.KerIndex
public import proofs.«01_k».proof.Proof.Spec

@[expose] public section

noncomputable section

namespace Cert.Proof.KernelIdeal

open Cert.KernelIdeal Cert.KernelIdeal.Gen
open Idealize.ShloMosaic Idealize.ShloMosaic.TcCoe Idealize.ShloMosaic.ValueIdx
open Cert.Proof.Core Cert.Proof.Ref

/-! ## A tile of the kernel's result is the formula -/

/-- The blocks of one grid point, batch entry `b` and head `h`: the queries' and the keys' 128 columns, the values' 128 rows,
    the head's bias tiles. -/
structure Blocks (x6 : S32x8x256x2048.Idx → EReal) (x7 : S32x8x1024x256.Idx → EReal) (x8 : S12x8x256x256.Idx → EReal) (b : Fin 32) (h : Fin 4)
    (Q K : S1x8x256x128.Idx → EReal) (V : S1x8x128x256.Idx → EReal) (B : S1x8x256x256.Idx → EReal) : Prop where
  q : ∀ (t : Fin 8) (r : Fin 256) (l : Fin 128), Q (ix4 0 t r l) = x6 (ix4 b t r ⟨h.val * 128 + l.val, by omega⟩)
  k : ∀ (t : Fin 8) (r : Fin 256) (l : Fin 128), K (ix4 0 t r l) = x6 (ix4 b t r ⟨512 + (h.val * 128 + l.val), by omega⟩)
  v : ∀ (t : Fin 8) (e : Fin 128) (r : Fin 256), V (ix4 0 t e r) = x7 (ix4 b t ⟨h.val * 128 + e.val, by omega⟩ r)
  b : ∀ (d : Fin 8) (k q : Fin 256), B (ix4 0 d k q) = x8 (ix4 ⟨h.val, by omega⟩ d k q)

variable {x1 x2 x3 x4 : S1x64.Idx → EReal} {x5 : S128x1.Idx → EReal} {x6 : S32x8x256x2048.Idx → EReal} {x7 : S32x8x1024x256.Idx → EReal}
  {x8 : S12x8x256x256.Idx → EReal} {b : Fin 32} {h : Fin 4}
  {Q K : S1x8x256x128.Idx → EReal} {V : S1x8x128x256.Idx → EReal} {B : S1x8x256x256.Idx → EReal}

/-- A logit of a tile plus its bias is the formula's: the inner products agree, and a key that is not seen has bias −∞. -/
theorem tile_logit (H : Fine x1 x2 x3 x4 x6 x7 x8) (W : Blocks x6 x7 x8 b h Q K V B) (qi kv d : Fin 8) (hd : kv.val + d.val = qi.val)
    (cc : Fin 2) (j r : Fin 256) (s k : Fin 2048) (hs : s.val = qi.val * 256 + r.val) (hk : k.val = kv.val * 256 + j.val) :
    (∑ x : Fin 64, Q (ix4 0 qi r ⟨cc.val * 64 + x.val, by omega⟩) * K (ix4 0 kv j ⟨cc.val * 64 + x.val, by omega⟩)) + B (ix4 0 d j r)
      = logit x6 x8 b h cc s k := by
  have e1 : tl s = qi := Fin.ext (by show s.val / 256 = qi.val; omega)
  have e2 : pl s = r := Fin.ext (by show s.val % 256 = r.val; omega)
  have e3 : tl k = kv := Fin.ext (by show k.val / 256 = kv.val; omega)
  have e4 : pl k = j := Fin.ext (by show k.val % 256 = j.val; omega)
  have e5 : (⟨(tl s).val - (tl k).val, by omega⟩ : Fin 8) = d := Fin.ext (by show s.val / 256 - k.val / 256 = d.val; omega)
  rw [W.b]
  by_cases hks : k.val ≤ s.val
  · rw [logit, if_pos hks, e5]
    simp only [e1, e2, e3, e4, W.q, W.k, Nat.add_assoc]
  · rw [logit, if_neg hks, H.unseen _ _ _ _ (by omega), EReal.add_bot]

/-- The accumulator at a row whose entries are `u` key by key: the weighted sum over all keys. -/
theorem acc_value (H : Fine x1 x2 x3 x4 x6 x7 x8) (W : Blocks x6 x7 x8 b h Q K V B) (qi : Fin 8) (cc : Fin 2) (r : Fin 256) (s : Fin 2048)
    (hs : s.val = qi.val * 256 + r.val) (row : Fin 144) (u : Fin 2048 → ℝ)
    (hu : ∀ (kv : Fin 8) (j : Fin 256), (onesT (F := Ideal) (tile (α := EReal) V kv.val) (ix2 row j) : EReal) = (u ⟨kv.val * 256 + j.val, by omega⟩ : EReal)) :
    (accT (F := Ideal) Q K V B qi.val cc qi.val (ix2 row r) : EReal) = ((∑ k, wt (logit x6 x8 b h cc s k) * u k : ℝ) : EReal) := by
  let f : ℕ → ℝ := fun k => if hk : k < 2048 then wt (logit x6 x8 b h cc s ⟨k, hk⟩) * u ⟨k, hk⟩ else 0
  have hf : ∀ k, (qi.val + 1) * 256 ≤ k → f k = 0 := fun k hk => by
    show (if hk : k < 2048 then wt (logit x6 x8 b h cc s ⟨k, hk⟩) * u ⟨k, hk⟩ else 0) = 0
    by_cases hk' : k < 2048
    · rw [dif_pos hk', logit, if_neg (by show ¬ k ≤ s.val; omega), wt_bot, zero_mul]
    · rw [dif_neg hk']
  have hfin : ∑ k : Fin 2048, f k.val = ∑ k, wt (logit x6 x8 b h cc s k) * u k := Finset.sum_congr rfl fun k _ => by
    show (if hk : k.val < 2048 then wt (logit x6 x8 b h cc s ⟨k.val, hk⟩) * u ⟨k.val, hk⟩ else 0) = _
    rw [dif_pos k.isLt]
  rw [accT_apply, ← hfin, ← sum_tiles f qi.val qi.isLt hf, coe_sum]
  refine Finset.sum_congr rfl fun d hd => ?_
  have hd' : d < qi.val + 1 := Finset.mem_range.1 hd
  have hq := qi.isLt
  rw [stepT_apply, coe_sum]
  refine Finset.sum_congr rfl fun j _ => ?_
  have hj := j.isLt
  have hb : (qi.val - d) * 256 + j.val < 2048 := by omega
  have hp := probT_apply Q K B qi ⟨qi.val - d, by omega⟩ ⟨d, by omega⟩ cc j r
  rw [tile_logit H W qi ⟨qi.val - d, by omega⟩ ⟨d, by omega⟩ (by show qi.val - d + d = qi.val; omega) cc j r s ⟨(qi.val - d) * 256 + j.val, hb⟩ hs rfl,
    exp2_eq (H.logit_ne_top _ _ _ _ _)] at hp
  have hu' := hu ⟨qi.val - d, by omega⟩ j
  have hfj : f ((qi.val - d) * 256 + j.val) = wt (logit x6 x8 b h cc s ⟨(qi.val - d) * 256 + j.val, hb⟩) * u ⟨(qi.val - d) * 256 + j.val, hb⟩ :=
    dif_pos hb
  rw [hfj, EReal.coe_mul, mul_comm]
  exact congrArg₂ (fun a b : EReal => a * b) hp hu'

/-- One chain's attention. -/
theorem att_value (H : Fine x1 x2 x3 x4 x6 x7 x8) (W : Blocks x6 x7 x8 b h Q K V B) (qi : Fin 8) (cc : Fin 2) (r : Fin 256) (s : Fin 2048)
    (hs : s.val = qi.val * 256 + r.val) (e : Fin 128) :
    Ideal.div (accT (F := Ideal) Q K V B qi.val cc qi.val (ix2 ⟨e.val, by omega⟩ r)) (accT (F := Ideal) Q K V B qi.val cc qi.val (ix2 ⟨128, by omega⟩ r))
      = (att (logit x6 x8 b h cc s) (value x7 b h e) : EReal) := by
  have e1 := acc_value H W qi cc r s hs ⟨e.val, by omega⟩ (value x7 b h e) (fun kv j => by
    rw [onesT_value, W.v, ← H.value]
    have t1 : tl ⟨kv.val * 256 + j.val, by omega⟩ = kv := Fin.ext (by show (kv.val * 256 + j.val) / 256 = kv.val; omega)
    have t2 : pl ⟨kv.val * 256 + j.val, by omega⟩ = j := Fin.ext (by show (kv.val * 256 + j.val) % 256 = j.val; omega)
    rw [t1, t2])
  have e2 := acc_value H W qi cc r s hs ⟨128, by omega⟩ (fun _ => 1) (fun kv j => onesT_one _ j)
  simp only [mul_one] at e2
  rw [e1, e2, div_real (sum_wt_pos _ (H.logit_self b h cc s) (H.logit_ne_top b h cc s)).ne', att]

/-- A tile of the result, at an index. -/
theorem tile_value (H : Fine x1 x2 x3 x4 x6 x7 x8) (W : Blocks x6 x7 x8 b h Q K V B) (qi : Fin 8) (r : Fin 256) (s : Fin 2048)
    (hs : s.val = qi.val * 256 + r.val) (e : Fin 128) :
    (outT (F := Ideal) Q K V B x1 x2 x3 x4 x5 qi.val (ix2 r e) : EReal) = norm (diff x1 x2 x3 x4 x6 x7 x8 b h s) x5 e := by
  have hd : ∀ i : Fin 128, (diffT (F := Ideal) Q K V B x1 x2 x3 x4 qi.val (ix2 i r) : EReal) = diff x1 x2 x3 x4 x6 x7 x8 b h s i := fun i => by
    rw [diffT_apply, att_value H W qi 0 r s hs i, att_value H W qi 1 r s hs i, lamT_apply]
    rfl
  rw [outT_apply, rmsT_apply]
  simp only [hd]
  rfl

end Cert.Proof.KernelIdeal
-- ==== Proof.Result.lean ====
module

public import proofs.«01_k».proof.Proof.ReadOut
public import proofs.«01_k».proof.Proof.KerValue
public import Idealize.ShloMosaic.Lib.Pipeline.ArrRel
public import Idealize.ShloMosaic.Lib.Pipeline.ValueKit.Geometry

@[expose] public section

set_option maxRecDepth 16384

noncomputable section

/-!
# The result array of the kernel

The blocks staged at a grid point are cut out of the arguments: point (`h`, `b`) works on head `h` of batch row `b`. With what
the arm for bounded gains leaves at each point, the result array is the formula of the specification at every index.
-/

namespace Cert.Proof.KernelIdeal

open Cert.KernelIdeal Cert.KernelIdeal.Gen Cert.Proof.Ref
open Idealize.ShloMosaic Idealize.ShloMosaic.TcCoe Idealize.ShloMosaic.Tactic Idealize.ShloMosaic.ValueIdx Idealize.ShloMosaic.Pipeline
open Idealize.SL

/-- The result at an index: batch row, tile, row in the tile, and column, of which the head and the component are taken off. -/
def target (x1 x2 x3 x4 : S1x64.Idx → EReal) (x5 : S128x1.Idx → EReal) (x6 : S32x8x256x2048.Idx → EReal)
    (x7 : S32x8x1024x256.Idx → EReal) (x8 : S12x8x256x256.Idx → EReal) (i : S32x8x256x512.Idx) : EReal :=
  norm (diff x1 x2 x3 x4 x6 x7 x8 (i 0)
      ⟨(i 3).val / 128, by have h : (i 3).val < 512 := (i 3).isLt; omega⟩
      ⟨(i 1).val * 256 + (i 2).val, by have h1 : (i 1).val < 8 := (i 1).isLt; have h2 : (i 2).val < 256 := (i 2).isLt; omega⟩)
    x5 ⟨(i 3).val % 128, by omega⟩

theorem target_at {x1 x2 x3 x4 : S1x64.Idx → EReal} {x5 : S128x1.Idx → EReal} {x6 : S32x8x256x2048.Idx → EReal}
    {x7 : S32x8x1024x256.Idx → EReal} {x8 : S12x8x256x256.Idx → EReal} (i : S32x8x256x512.Idx)
    (b : Fin 32) (h : Fin 4) (t : Fin 8) (r : Fin 256) (e : Fin 128)
    (h0 : (i 0).val = b.val) (h1 : (i 1).val = t.val) (h2 : (i 2).val = r.val) (h3 : (i 3).val = h.val * 128 + e.val) :
    target x1 x2 x3 x4 x5 x6 x7 x8 i = norm (diff x1 x2 x3 x4 x6 x7 x8 b h ⟨t.val * 256 + r.val, by omega⟩) x5 e := by
  have e0 : (i 0 : Fin 32) = b := Fin.ext h0
  have e1 : (⟨(i 3).val / 128, by have h : (i 3).val < 512 := (i 3).isLt; omega⟩ : Fin 4) = h := Fin.ext (by show (i 3).val / 128 = h.val; omega)
  have e2 : (⟨(i 1).val * 256 + (i 2).val, by have h1 : (i 1).val < 8 := (i 1).isLt; have h2 : (i 2).val < 256 := (i 2).isLt; omega⟩ : Fin 2048)
      = ⟨t.val * 256 + r.val, by omega⟩ := Fin.ext (by show (i 1).val * 256 + (i 2).val = t.val * 256 + r.val; omega)
  have e3 : (⟨(i 3).val % 128, by omega⟩ : Fin 128) = e := Fin.ext (by show (i 3).val % 128 = e.val; omega)
  unfold target
  rw [e0, e1, e2, e3]

/-! ## Where the blocks lie -/

theorem at0 : ∀ t : Fin grid0.N, win0_0.index t = ![0] := by decide +kernel
theorem at1 : ∀ t : Fin grid0.N, win0_1.index t = ![0, 0] := by decide +kernel
theorem at2 : ∀ t : Fin grid0.N, win0_2.index t = ![0, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![0, 0] := by decide +kernel
theorem at6 : ∀ t : Fin grid0.N, win0_6.index t = ![(grid0.coords t 1).val, 0, 0, (grid0.coords t 0).val] := by decide +kernel
theorem at7 : ∀ t : Fin grid0.N, win0_7.index t = ![(grid0.coords t 1).val, 0, 0, 4 + (grid0.coords t 0).val] := by decide +kernel
theorem at8 : ∀ t : Fin grid0.N, win0_8.index t = ![(grid0.coords t 1).val, 0, (grid0.coords t 0).val, 0] := by decide +kernel
theorem at9 : ∀ t : Fin grid0.N, win0_9.index t = ![(grid0.coords t 0).val, 0, 0, 0] := by decide +kernel
theorem at10 : ∀ t : Fin grid0.N, win0_10.index t = ![(grid0.coords t 1).val, 0, 0, (grid0.coords t 0).val] := by decide +kernel

variable (m : (ℓ : Loc nD τ sig) → Buf (Elt Ideal) ℓ)

/-- The arguments of one core, by the names of the specification. -/
abbrev a0 (c : Dev nD) : S1.Idx → BitVec 32 := m ((c : Thread nD τ).loc main_arg0)
abbrev a1 (c : Dev nD) : S1x64.Idx → EReal := m ((c : Thread nD τ).loc main_arg1)
abbrev a2 (c : Dev nD) : S1x64.Idx → EReal := m ((c : Thread nD τ).loc main_arg2)
abbrev a3 (c : Dev nD) : S1x64.Idx → EReal := m ((c : Thread nD τ).loc main_arg3)
abbrev a4 (c : Dev nD) : S1x64.Idx → EReal := m ((c : Thread nD τ).loc main_arg4)
abbrev a5 (c : Dev nD) : S128x1.Idx → EReal := m ((c : Thread nD τ).loc main_arg5)
abbrev a6 (c : Dev nD) : S32x8x256x2048.Idx → EReal := m ((c : Thread nD τ).loc main_arg6)
abbrev a7 (c : Dev nD) : S32x8x1024x256.Idx → EReal := m ((c : Thread nD τ).loc main_arg7)
abbrev a8 (c : Dev nD) : S12x8x256x256.Idx → EReal := m ((c : Thread nD τ).loc main_arg8)

theorem whole1 (c : Dev nD) (t : Fin cfg0.N) : iblk m c 1 t = a1 m c := by funext y; blk_ext [iblk, at1 t]
theorem whole2 (c : Dev nD) (t : Fin cfg0.N) : iblk m c 2 t = a2 m c := by funext y; blk_ext [iblk, at2 t]
theorem whole3 (c : Dev nD) (t : Fin cfg0.N) : iblk m c 3 t = a3 m c := by funext y; blk_ext [iblk, at3 t]
theorem whole4 (c : Dev nD) (t : Fin cfg0.N) : iblk m c 4 t = a4 m c := by funext y; blk_ext [iblk, at4 t]
theorem whole5 (c : Dev nD) (t : Fin cfg0.N) : iblk m c 5 t = a5 m c := by funext y; blk_ext [iblk, at5 t]

/-- The four blocks staged at a point are those of its batch row and head. -/
theorem blocks (c : Dev nD) (t : Fin cfg0.N) :
    Blocks (a6 m c) (a7 m c) (a8 m c) (grid0.coords t 1) (grid0.coords t 0) (iblk m c 6 t) (iblk m c 7 t) (iblk m c 8 t) (iblk m c 9 t) where
  q u r l := by blk_ext [iblk, at6 t]
  k u r l := by
    blk_ext [iblk, at7 t]
    show (4 + (grid0.coords t 0).val) * 128 + l.val = 512 + ((grid0.coords t 0).val * 128 + l.val)
    omega
  v u e r := by blk_ext [iblk, at8 t]
  b d k q := by blk_ext [iblk, at9 t]

/-- The word staged is the first argument's. -/
theorem word_eq (c : Dev nD) (t : Fin cfg0.N) : word m c t = a0 m c (ix1 0) := by
  have hu : ∀ {M : Memref sig .tc .smem S1 .i32} (hM : M.IsWhole) (X : S1.Idx → BitVec 32),
      flag (F := Ideal) c M (hM.unread (Val := Elt Ideal) X) = X (ix1 0) := fun {M} hM X => by
    show M.view.read (Elt Ideal) (hM.unread X) _ = _
    rw [hM.read_unread]
    exact congrArg X (by funext a; match a with | ⟨0, _⟩ => rfl)
  refine (hu _ _).trans ?_
  blk_ext [iblk, at0 t]

/-- The result array, of finite arguments, when the word is positive. -/
theorem array_eq (c : Dev nD) (H : Fine (a1 m c) (a2 m c) (a3 m c) (a4 m c) (a6 m c) (a7 m c) (a8 m c)) (hT : Taken (a0 m c (ix1 0)))
    (after : (w : Fin cfg0.W) → Fin cfg0.N → (cfg0.win w).block.Idx → Elt Ideal (cfg0.win w).elt)
    (hL : ∀ (w : Fin cfg0.W) (u : Fin cfg0.N), (cfg0.win w).flush u = true → ((dats m 0 c).toRRel fgt (Rl m c)).Leaves w u (after w u)) :
    (((dats m 0 c).toRRel fgt (Rl m c)).withAfter after).arrAt 10 cfg0.N
      = target (a1 m c) (a2 m c) (a3 m c) (a4 m c) (a5 m c) (a6 m c) (a7 m c) (a8 m c) := by
  refine Dat.arrAt_eq_of_covers _ 10 _ (by decide +kernel) fun t hf y => ?_
  have h := (word_eq m c t).symm ▸ hT
  have hX : after 10 t = outBlock m c t h := Dat.toRRel_leaves (dat := dats m 0 c) (w := 10) rfl (hL 10 t hf) h
  obtain ⟨a, u, r, e, rfl⟩ : ∃ (a : Fin 1) (u : Fin 8) (r : Fin 256) (e : Fin 128), y = ix4 a u r e := ⟨_, _, _, _, eq_ix4 y⟩
  refine (congrFun hX _).trans ((outBlock_apply m c t h _).trans ?_)
  rw [whole1, whole2, whole3, whole4, whole5]
  refine (tile_value H (blocks m c t) u r ⟨u.val * 256 + r.val, by omega⟩ rfl e).trans (target_at _ _ _ _ _ _ ?_ ?_ ?_ ?_).symm
  all_goals blk_simp [at10 t]
  all_goals first | rfl | (simp; omega) | omega

end Cert.Proof.KernelIdeal

end
-- ==== Proof.RefValue.lean ====
module

public import proofs.«01_k».proof.Proof.Spec
public import Idealize.ShloMosaic.Lib.KernelVsHost

@[expose] public section

noncomputable section

namespace Cert.Proof.Ref

open Cert.ReferenceIdeal Cert.ReferenceIdeal.Gen Cert.ReferenceIdeal.Read
open Idealize.ShloMosaic Idealize.ShloMosaic.TcCoe Idealize.ShloMosaic.ValueIdx Cert.Proof.Core

variable {x1 x2 x3 x4 : FVec Ideal S1x64 .f32} {x5 : FVec Ideal S128x1 .f32} {x6 : FVec Ideal S32x8x256x2048 .bf16}
  {x7 : FVec Ideal S32x8x1024x256 .bf16} {x8 : FVec Ideal S12x8x256x256 .f32}

theorem word_bot : Ideal.ofBits .f32 0xFF800000#32 = ⊥ := by simp [Ideal.ofBits, Ideal.ieee]

theorem word_two : Ideal.ofBits .f32 0x40000000#32 = ((2 : ℝ) : EReal) := by
  simp [Ideal.ofBits, Ideal.ieee, -EReal.coe_mul]
  norm_num

/-- The masked logits. -/
theorem logits_apply (b : Fin 32) (h : Fin 4) (c : Fin 2) (s k : Fin 2048) :
    val_main_v52 (F := Ideal) x6 x8 (ix5 b h c s k) = logit x6 x8 b h c s k := by
  have e1 : idx_main_call0_v1 (ix5 b h c s k) = ix2 s k := by
    funext a; apply Fin.ext; match a with | ⟨0, _⟩ => rfl | ⟨1, _⟩ => rfl
  have e2 : idx_main_v49 (idx_main_v50 (ix5 b h c s k)) = ix3 h s k := by
    funext a; apply Fin.ext; match a with | ⟨0, _⟩ => rfl | ⟨1, _⟩ => rfl | ⟨2, _⟩ => rfl
  have e3 : ∀ d : Fin 64, lidx_main_v46 (ix5 b h c s k) d = ix5 b h c s d := fun d => by
    funext a; apply Fin.ext; match a with | ⟨0, _⟩ => rfl | ⟨1, _⟩ => rfl | ⟨2, _⟩ => rfl | ⟨3, _⟩ => rfl | ⟨4, _⟩ => rfl
  have e4 : ∀ d : Fin 64, ridx_main_v46 (ix5 b h c s k) d = ix5 b h c k d := fun d => by
    funext a; apply Fin.ext; match a with | ⟨0, _⟩ => rfl | ⟨1, _⟩ => rfl | ⟨2, _⟩ => rfl | ⟨3, _⟩ => rfl | ⟨4, _⟩ => rfl
  rw [val_main_v52_apply, val_main_call0_v1_apply, e1, seen_apply, val_main_v51_apply, val_main_v46_apply, val_main_v50_apply,
    val_main_v49_apply, e2, b_apply, val_main_call0_v2_apply, val_main_call0_v0_apply, val_main_cst_5_apply]
  simp only [e3, e4, q_apply, k_apply]
  by_cases hk : k.val ≤ s.val
  · rw [if_pos hk, select_one, logit, if_pos hk]
    rfl
  · rw [if_neg hk, select_zero, logit, if_neg hk]
    exact word_bot

/-- The largest entry along the last axis. -/
theorem greatest (x : FVec Ideal S32x4x2x2048x2048 .f32) (i : S32x4x2x2048.Idx) :
    Host.reduce FloatOps.maximumf x (constant (F := Ideal) S_ .f32 0xFF800000#32) reducesTo_S32x4x2x2048x2048_S32x4x2x2048_d4 h_S_ i
      = Finset.univ.fold max (⊥ : EReal) fun k : Fin 2048 => x (ix5 (i 0) (i 1) (i 2) (i 3) k) := by
  have hr : S32x4x2x2048x2048.Reduces [4] S32x4x2x2048 := by decide
  have e : ∀ k : Fin 2048, hr.lift i k = ix5 (i 0) (i 1) (i 2) (i 3) k := fun k => by
    funext a; apply Fin.ext; match a with | ⟨0, _⟩ => rfl | ⟨1, _⟩ => rfl | ⟨2, _⟩ => rfl | ⟨3, _⟩ => rfl | ⟨4, _⟩ => rfl
  have e0 : (FloatOps.ofBits .f32 0xFF800000#32 : Ideal .f32) = (⊥ : EReal) := word_bot
  refine (congrFun (hostReduce_maximumf_eq_multiReduction x _ reducesTo_S32x4x2x2048x2048_S32x4x2x2048_d4 h_S_ hr (.inl rfl) rfl) i).trans ?_
  refine (Ideal.multiReduction_maximumf_single x 0xFF800000#32 hr (.inl rfl) rfl i).trans ?_
  rw [e0]
  exact congrArg (Finset.fold max (⊥ : EReal) · Finset.univ) (funext fun k => congrArg x (e k))

/-- The greatest logit of a query. -/
theorem max_apply (b : Fin 32) (h : Fin 4) (c : Fin 2) (s : Fin 2048) :
    val_main_v53 (F := Ideal) x6 x8 (ix4 b h c s) = Finset.univ.fold max (⊥ : EReal) (logit x6 x8 b h c s) := by
  unfold val_main_v53
  refine (greatest _ _).trans ?_
  exact congrArg (Finset.fold max (⊥ : EReal) · Finset.univ) (funext fun k => logits_apply b h c s k)

/-- An unnormalised weight. -/
theorem power_apply (b : Fin 32) (h : Fin 4) (c : Fin 2) (s k : Fin 2048) :
    val_main_v58 (F := Ideal) x6 x8 (ix5 b h c s k)
      = Ideal.pow ((2 : ℝ) : EReal) (logit x6 x8 b h c s k - Finset.univ.fold max (⊥ : EReal) (logit x6 x8 b h c s)) := by
  have e1 : idx_main_v54 (idx_main_v55 (ix5 b h c s k)) = ix4 b h c s := by
    funext a; apply Fin.ext; match a with | ⟨0, _⟩ => rfl | ⟨1, _⟩ => rfl | ⟨2, _⟩ => rfl | ⟨3, _⟩ => rfl
  rw [val_main_v58_apply, val_main_v56_apply, logits_apply, val_main_v55_apply, val_main_v54_apply, e1, max_apply,
    val_main_v57_apply, val_main_cst_7_apply, ← word_two]
  rfl

/-- A weight of the softmax. -/
theorem weight_apply (H : Fine x1 x2 x3 x4 x6 x7 x8) (b : Fin 32) (h : Fin 4) (c : Fin 2) (s k : Fin 2048) :
    val_main_v62 (F := Ideal) x6 x8 (ix5 b h c s k)
      = ((wt (logit x6 x8 b h c s k) / ∑ j, wt (logit x6 x8 b h c s j) : ℝ) : EReal) := by
  have e1 : idx_main_v60 (idx_main_v61 (ix5 b h c s k)) = ix4 b h c s := by
    funext a; apply Fin.ext; match a with | ⟨0, _⟩ => rfl | ⟨1, _⟩ => rfl | ⟨2, _⟩ => rfl | ⟨3, _⟩ => rfl
  have e2 : ∀ j : Fin 2048, idx_main_v59 (ix4 b h c s) j = ix5 b h c s j := fun j => by
    funext a; apply Fin.ext; match a with | ⟨0, _⟩ => rfl | ⟨1, _⟩ => rfl | ⟨2, _⟩ => rfl | ⟨3, _⟩ => rfl | ⟨4, _⟩ => rfl
  have e3 : (val_main_cst_8 (F := Ideal)) (Shape.Idx.first h_S_) = (0 : EReal) := by
    rw [val_main_cst_8_apply]; exact Ideal.ofBits_zero_f32
  rw [val_main_v62_apply, val_main_v61_apply, val_main_v60_apply, e1, val_main_v59_apply, e3, power_apply]
  simp only [e2, power_apply]
  rw [zero_add]
  exact softmax_eq _ (H.logit_self b h c s) (H.logit_ne_top b h c s) rfl k

/-- The factor of the second chain. -/
theorem lam_apply (i : S_.Idx) : val_main_v20 (F := Ideal) x1 x2 x3 x4 i = lam x1 x2 x3 x4 := by
  have e3 : (val_main_cst (F := Ideal)) (Shape.Idx.first h_S_) = (0 : EReal) := by
    rw [val_main_cst_apply]; exact Ideal.ofBits_zero_f32
  have e4 : (val_main_cst_0 (F := Ideal)) (Shape.Idx.first h_S_) = (0 : EReal) := by
    rw [val_main_cst_0_apply]; exact Ideal.ofBits_zero_f32
  rw [val_main_v20_apply, val_main_v19_apply, val_main_v15_apply, val_main_v18_apply, val_main_v14_apply, val_main_v17_apply,
    val_main_cst_1_apply, e3, e4, zero_add, zero_add]
  rfl

/-- The weights of one chain, cut out of those of both. -/
theorem idx64 (i : S32x4x2048x2048.Idx) : idx_main_v63 (idx_main_v64 i)
    = (ix5 ⟨(i 0).val, (i 0).isLt⟩ ⟨(i 1).val, (i 1).isLt⟩ 0 ⟨(i 2).val, (i 2).isLt⟩ ⟨(i 3).val, (i 3).isLt⟩ : S32x4x2x2048x2048.Idx) := by
  have h0 : (i 0).val < 32 := (i 0).isLt
  have h1 : (i 1).val < 4 := (i 1).isLt
  have h2 : (i 2).val < 2048 := (i 2).isLt
  have h3 : (i 3).val < 2048 := (i 3).isLt
  funext a; apply Fin.ext
  match a with
  | ⟨0, _⟩ => show _ = (i 0).val; dsimp only [idx_main_v63, idx_main_v64]; omega
  | ⟨1, _⟩ => show _ = (i 1).val; dsimp only [idx_main_v63, idx_main_v64]; omega
  | ⟨2, _⟩ => rfl
  | ⟨3, _⟩ => show _ = (i 2).val; dsimp only [idx_main_v63, idx_main_v64]; omega
  | ⟨4, _⟩ => show _ = (i 3).val; dsimp only [idx_main_v63, idx_main_v64]; omega

theorem idx66 (i : S32x4x2048x2048.Idx) : idx_main_v65 (idx_main_v66 i)
    = (ix5 ⟨(i 0).val, (i 0).isLt⟩ ⟨(i 1).val, (i 1).isLt⟩ 1 ⟨(i 2).val, (i 2).isLt⟩ ⟨(i 3).val, (i 3).isLt⟩ : S32x4x2x2048x2048.Idx) := by
  have h0 : (i 0).val < 32 := (i 0).isLt
  have h1 : (i 1).val < 4 := (i 1).isLt
  have h2 : (i 2).val < 2048 := (i 2).isLt
  have h3 : (i 3).val < 2048 := (i 3).isLt
  funext a; apply Fin.ext
  match a with
  | ⟨0, _⟩ => show _ = (i 0).val; dsimp only [idx_main_v65, idx_main_v66]; omega
  | ⟨1, _⟩ => show _ = (i 1).val; dsimp only [idx_main_v65, idx_main_v66]; omega
  | ⟨2, _⟩ => rfl
  | ⟨3, _⟩ => show _ = (i 2).val; dsimp only [idx_main_v65, idx_main_v66]; omega
  | ⟨4, _⟩ => show _ = (i 3).val; dsimp only [idx_main_v65, idx_main_v66]; omega

/-- The last reshape: a position is a tile and a place in it, a column a head and a component. -/
theorem idx88 (i : S32x8x256x512.Idx) : idx_main_v87 (idx_main_v88 i)
    = (ix4 ⟨(i 0).val, (i 0).isLt⟩ ⟨(i 3).val / 128, by have h3 : (i 3).val < 512 := (i 3).isLt; omega⟩
        ⟨(i 1).val * 256 + (i 2).val, by have h1 : (i 1).val < 8 := (i 1).isLt; have h2 : (i 2).val < 256 := (i 2).isLt; omega⟩
        ⟨(i 3).val % 128, by omega⟩ : S32x4x2048x128.Idx) := by
  have h0 : (i 0).val < 32 := (i 0).isLt
  have h1 : (i 1).val < 8 := (i 1).isLt
  have h2 : (i 2).val < 256 := (i 2).isLt
  have h3 : (i 3).val < 512 := (i 3).isLt
  funext a; apply Fin.ext
  match a with
  | ⟨0, _⟩ => show _ = (i 0).val; dsimp only [idx_main_v87, idx_main_v88]; omega
  | ⟨1, _⟩ => show _ = (i 3).val / 128; dsimp only [idx_main_v87, idx_main_v88]; omega
  | ⟨2, _⟩ => show _ = (i 1).val * 256 + (i 2).val; dsimp only [idx_main_v87, idx_main_v88]; omega
  | ⟨3, _⟩ => show _ = (i 3).val % 128; dsimp only [idx_main_v87, idx_main_v88]; omega

/-- The difference of the two chains' attentions. -/
theorem diff_apply (H : Fine x1 x2 x3 x4 x6 x7 x8) (b : Fin 32) (h : Fin 4) (s : Fin 2048) (e : Fin 128) :
    val_main_v70 (F := Ideal) x1 x2 x3 x4 x6 x7 x8 (ix4 b h s e) = diff x1 x2 x3 x4 x6 x7 x8 b h s e := by
  have e1 : ∀ k : Fin 2048, idx_main_v63 (idx_main_v64 (lidx_main_v70 (ix4 b h s e) k)) = ix5 b h 0 s k := fun k =>
    idx64 (lidx_main_v70 (ix4 b h s e) k)
  have e2 : ∀ k : Fin 2048, idx_main_v65 (idx_main_v66 (lidx_main_v70 (ix4 b h s e) k)) = ix5 b h 1 s k := fun k =>
    idx66 (lidx_main_v70 (ix4 b h s e) k)
  have e3 : ∀ k : Fin 2048, ridx_main_v70 (ix4 b h s e) k = ix4 b h k e := fun k => by
    funext a; apply Fin.ext; match a with | ⟨0, _⟩ => rfl | ⟨1, _⟩ => rfl | ⟨2, _⟩ => rfl | ⟨3, _⟩ => rfl
  obtain ⟨l, hl⟩ := H.lam
  rw [val_main_v70_apply, diff, hl, ← diff_eq]
  refine Finset.sum_congr rfl fun k _ => ?_
  rw [val_main_v69_apply, val_main_v64_apply, val_main_v63_apply, e1, weight_apply H, val_main_v68_apply, val_main_v67_apply, lam_apply, hl,
    val_main_v66_apply, val_main_v65_apply, e2, weight_apply H, e3, v_apply, H.value, Ideal.subf_def, Ideal.mulf_def]

/-- The norm of a query's 128 components, its gain and the factor after it. -/
theorem norm_apply (H : Fine x1 x2 x3 x4 x6 x7 x8) (b : Fin 32) (h : Fin 4) (s : Fin 2048) (e : Fin 128) :
    val_main_v86 (F := Ideal) x1 x2 x3 x4 x5 x6 x7 x8 (ix4 b h s e) = norm (diff x1 x2 x3 x4 x6 x7 x8 b h s) x5 e := by
  have e2 : idx_main_v73 (idx_main_v79 (ix4 b h s e)) = ix3 b h s := by
    funext a; apply Fin.ext; match a with | ⟨0, _⟩ => rfl | ⟨1, _⟩ => rfl | ⟨2, _⟩ => rfl
  have e3 : ∀ i : Fin 128, idx_main_v72 (ix3 b h s) i = ix4 b h s i := fun i => by
    funext a; apply Fin.ext; match a with | ⟨0, _⟩ => rfl | ⟨1, _⟩ => rfl | ⟨2, _⟩ => rfl | ⟨3, _⟩ => rfl
  have e4 : idx_main_v81 (idx_main_v82 (idx_main_v83 (ix4 b h s e))) = ix2 e 0 := by
    funext a; apply Fin.ext; match a with | ⟨0, _⟩ => exact Nat.div_one _ | ⟨1, _⟩ => rfl
  have e5 : (val_main_cst_9 (F := Ideal)) (Shape.Idx.first h_S_) = (0 : EReal) := by
    rw [val_main_cst_9_apply]; exact Ideal.ofBits_zero_f32
  rw [val_main_v86_apply, val_main_v85_apply, val_main_cst_12_apply,
    val_main_v84_apply, val_main_v83_apply, val_main_v82_apply, val_main_v81_apply, e4, val_main_v80_apply, diff_apply H,
    val_main_v79_apply, val_main_v78_apply, val_main_v77_apply, val_main_v76_apply, val_main_cst_11_apply, val_main_v75_apply,
    val_main_v74_apply, val_main_cst_10_apply, val_main_v73_apply, e2, val_main_v72_apply, e5, zero_add]
  have e6 : ∀ i : Fin 128, val_main_v71 (F := Ideal) x1 x2 x3 x4 x6 x7 x8 (idx_main_v72 (ix3 b h s) i)
      = diff x1 x2 x3 x4 x6 x7 x8 b h s i * diff x1 x2 x3 x4 x6 x7 x8 b h s i := fun i => by
    rw [e3, val_main_v71_apply, diff_apply H, Ideal.mulf_def]
  rw [Finset.sum_congr rfl fun i _ => e6 i]
  generalize diff x1 x2 x3 x4 x6 x7 x8 b h s = o
  unfold norm
  simp only [Ideal.mulf_def, Ideal.addf_def, Ideal.hostDivf_def, Ideal.hostUnary_rsqrt_def, Ideal.ofBits_def]

/-- The reference's result, at position `t`·256 + `r` and column `j`: head `j` / 128, component `j` % 128. -/
theorem result_apply (H : Fine x1 x2 x3 x4 x6 x7 x8) (b : Fin 32) (t : Fin 8) (r : Fin 256) (j : Fin 512) :
    val_main_v89 (F := Ideal) x1 x2 x3 x4 x5 x6 x7 x8 (ix4 b t r j)
      = norm (diff x1 x2 x3 x4 x6 x7 x8 b ⟨j.val / 128, by omega⟩ ⟨t.val * 256 + r.val, by omega⟩) x5 ⟨j.val % 128, by omega⟩ := by
  have e1 : idx_main_v87 (idx_main_v88 (ix4 b t r j))
      = ix4 b ⟨j.val / 128, by omega⟩ ⟨t.val * 256 + r.val, by omega⟩ ⟨j.val % 128, by omega⟩ := idx88 (ix4 b t r j)
  rw [val_main_v89_apply, val_main_v88_apply, val_main_v87_apply, e1, norm_apply H, Ideal.truncf_def]

end Cert.Proof.Ref
-- ==== Proof.Value.lean ====
module

public import proofs.«01_k».proof.Defs
public import proofs.«01_k».proof.Proof.Result
public import proofs.«01_k».proof.Proof.RefValue
public import proofs.«01_k».proof.Proof.Inputs
public import proofs.«01_k».proof.Proof.Gen.ReferenceIdeal.Run
public import proofs.«01_k».proof.Proof.Gen.ReferenceIdeal.Read

@[expose] public section

noncomputable section

/-!
# Kernel and reference agree

Of arguments that the precondition admits, both programs leave the array of the specification.
-/

namespace Cert.Proof

open Idealize.ShloMosaic Idealize.ShloMosaic.TcCoe Idealize.ShloMosaic.ValueIdx Idealize.ShloMosaic.Pipeline
open Idealize.SL Idealize.SL.Sem

/-- A positive word takes the arm for bounded gains. -/
theorem taken_of_positive {w : BitVec 32} (h : IntOp.cmpi .sgt w 0#32 = 1#1) : Cert.Proof.KernelIdeal.Taken w := by
  have e : Scalar.cmpi .sgt w 0#32 = 1#1 := h
  show Scalar.cmpi .ne (Scalar.extui (Scalar.cmpi .sgt w 0#32) : BitVec 32) 0#32 = 1#1
  rw [e]
  decide

/-- The reference's result array is the specification's. -/
theorem reference_eq {x1 x2 x3 x4 : Cert.ReferenceIdeal.S1x64.Idx → EReal} {x5 : Cert.ReferenceIdeal.S128x1.Idx → EReal}
    {x6 : Cert.ReferenceIdeal.S32x8x256x2048.Idx → EReal} {x7 : Cert.ReferenceIdeal.S32x8x1024x256.Idx → EReal}
    {x8 : Cert.ReferenceIdeal.S12x8x256x256.Idx → EReal} (H : Ref.Fine x1 x2 x3 x4 x6 x7 x8) :
    Cert.ReferenceIdeal.Read.val_main_v89 (F := Ideal) x1 x2 x3 x4 x5 x6 x7 x8
      = KernelIdeal.target x1 x2 x3 x4 x5 x6 x7 x8 := by
  funext i
  obtain ⟨b, t, r, j, rfl⟩ : ∃ (b : Fin 32) (t : Fin 8) (r : Fin 256) (j : Fin 512), i = ix4 b t r j := ⟨_, _, _, _, eq_ix4 i⟩
  exact Ref.result_apply H b t r j

/-- The ideal kernel's run, of arguments that the precondition admits. -/
theorem kernel_run (m : (ℓ : Loc Cert.KernelIdeal.nD Cert.KernelIdeal.τ Cert.KernelIdeal.sig) → Buf (Elt Ideal) ℓ)
    (g : Dev Cert.KernelIdeal.nD → PrngReg)
    (H : ∀ c, Ref.Fine (KernelIdeal.a1 m c) (KernelIdeal.a2 m c) (KernelIdeal.a3 m c) (KernelIdeal.a4 m c) (KernelIdeal.a6 m c)
      (KernelIdeal.a7 m c) (KernelIdeal.a8 m c))
    (hT : ∀ c, KernelIdeal.Taken (KernelIdeal.a0 m c (ix1 0))) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v0)
            = KernelIdeal.target (KernelIdeal.a1 m c) (KernelIdeal.a2 m c) (KernelIdeal.a3 m c) (KernelIdeal.a4 m c) (KernelIdeal.a5 m c)
                (KernelIdeal.a6 m c) (KernelIdeal.a7 m c) (KernelIdeal.a8 m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  KernelIdeal.run m g _ fun r h c => by
    obtain ⟨after, hL, hA⟩ := RDat.FramePost.exists_exact h.1 c
    exact ⟨(hA 10).trans (KernelIdeal.array_eq m c (H c) (hT c) after hL),
      RDat.FramePost.arr_in h.1 c 0 rfl, RDat.FramePost.arr_in h.1 c 1 rfl, RDat.FramePost.arr_in h.1 c 2 rfl,
      RDat.FramePost.arr_in h.1 c 3 rfl, RDat.FramePost.arr_in h.1 c 4 rfl, RDat.FramePost.arr_in h.1 c 5 rfl,
      RDat.FramePost.arr_in h.1 c 7 rfl, RDat.FramePost.arr_in h.1 c 8 rfl, RDat.FramePost.arr_in h.1 c 9 rfl⟩

/-- Kernel and reference compute the same function over the extended reals, of arguments that the precondition admits. -/
theorem values [hK : Cert.KernelIdeal.Facts] [hR : Cert.ReferenceIdeal.Facts] [hP : Cert.Pre_inputs.Facts] :
    Cert.algebraic_KernelIdeal_ReferenceIdeal_pre_inputs := by
  intro m g m' g' hpre hargs
  have hin : ∀ c, _ := fun c => Inputs.of_pre (hpre c)
  refine ⟨fun c => KernelIdeal.target (KernelIdeal.a1 m c) (KernelIdeal.a2 m c) (KernelIdeal.a3 m c) (KernelIdeal.a4 m c)
      (KernelIdeal.a5 m c) (KernelIdeal.a6 m c) (KernelIdeal.a7 m c) (KernelIdeal.a8 m c),
    kernel_run m g (fun c => (hin c).2) (fun c => taken_of_positive (hin c).1), ?_⟩
  refine (θ_run _ _ _).mono (fun r h c => ?_) (Cert.ReferenceIdeal.Value.run (F := Ideal) m' g')
  obtain ⟨hv, hrest⟩ := h c
  refine ⟨hv.trans ((Cert.ReferenceIdeal.Read.val_main_v89_eq (F := Ideal) m' c).trans ?_), hrest⟩
  obtain ⟨_, e1, e2, e3, e4, e5, e6, e7, e8⟩ := hargs c
  rw [e1, e2, e3, e4, e5, e6, e7, e8]
  exact reference_eq (hin c).2

/-- The reference ends without a fault, its arguments as they were and every counter at zero (it has none). -/
theorem reference_frame [hR : Cert.ReferenceIdeal.Facts] : Cert.quiescent_ReferenceIdeal := fun m g _ =>
  (θ_run _ _ _).mono (fun r h => ⟨fun c => (h c).2, Idealize.ShloMosaic.sem_eq_zero_of_no_sems (by decide) r.2⟩)
    (Cert.ReferenceIdeal.Value.run (F := Ideal) m g)

end Cert.Proof

end
-- ==== Proof.ProjSpec.lean ====
module

public import Idealize.ShloMosaic.PureOps.Ideal
public import Idealize.ShloMosaic.Lib.ValueIdx
public import Idealize.ShloMosaic.Lib.StackMember

@[expose] public section

noncomputable section

/-!
# The input projection, written over the extended reals

The formulas of the projection at one index, and the two facts of arithmetic that carry the kernel's to the reference's: a sum over
256 columns weighted by 1/64 on one head and by zero elsewhere is that head's mean, and the columns of the weights are permuted.
-/

namespace Cert.Proof.Proj

open Idealize.ShloMosaic Idealize.ShloMosaic.ValueIdx

/-- The small constant under the roots, as its word reads. -/
def eps : EReal := Ideal.ofBits .f32 0x358637BD#32

/-- The scale of the queries, as its word reads. -/
def scale : EReal := Ideal.ofBits .f32 0x3E38AA3B#32

/-- Component `d` of a normed row. -/
def hid (x g : Fin 1024 → EReal) (d : Fin 1024) : EReal :=
  x d * Ideal.rsqrt (Ideal.div (∑ j, x j * x j) (Ideal.ofBits .f32 0x44800000#32) + eps) * g d

/-- A normed row times one column of the weights. -/
def dot (x g w : Fin 1024 → EReal) : EReal := ∑ d, hid x g d * w d

/-- Component `e` of a head divided by the root of its mean square. -/
def headNorm (p : Fin 64 → EReal) (e : Fin 64) : EReal :=
  p e * Ideal.rsqrt (Ideal.div (∑ j, p j * p j) (Ideal.ofBits .f32 0x42800000#32) + eps)

/-- The column of the weights that holds column `j` of the queries, keys and values as the kernel orders them. -/
def perm (j : ℕ) : ℕ := if j < 1024 then j else if j < 2048 then j + 512 else if j < 2560 then j - 1024 else j

theorem perm_lt {j : ℕ} (h : j < 3072) : perm j < 3072 := by
  unfold perm
  split_ifs <;> omega

/-- The gain of one of the four kinds of head: the queries' gains are scaled. -/
def gainOf (gq gk mq mk : (⟨1, ![64]⟩ : Shape).Idx → EReal) (k : Fin 4) (e : Fin 64) : EReal :=
  match k with
  | 0 => gq (ix1 e) * scale
  | 1 => gk (ix1 e)
  | 2 => mq (ix1 e) * scale
  | 3 => mk (ix1 e)

/-- A row of the hidden states, normed, times one column of the weights. -/
def proj (x : (⟨3, ![32, 2048, 1024]⟩ : Shape).Idx → EReal) (g : (⟨1, ![1024]⟩ : Shape).Idx → EReal)
    (w : (⟨2, ![1024, 3072]⟩ : Shape).Idx → EReal) (b : Fin 32) (s : Fin 2048) (c : Fin 3072) : EReal :=
  dot (fun d => x (ix3 b s d)) (fun d => g (ix1 d)) (fun d => w (ix2 d c))

/-- The queries and keys at an index: row and column, of which the kind, the head and the component are taken off. -/
def qkTarget (x : (⟨3, ![32, 2048, 1024]⟩ : Shape).Idx → EReal) (g : (⟨1, ![1024]⟩ : Shape).Idx → EReal)
    (w : (⟨2, ![1024, 3072]⟩ : Shape).Idx → EReal) (gq gk mq mk : (⟨1, ![64]⟩ : Shape).Idx → EReal)
    (i : (⟨2, ![65536, 2048]⟩ : Shape).Idx) : EReal :=
  have h0 : (i 0).val < 65536 := (i 0).isLt
  have h1 : (i 1).val < 2048 := (i 1).isLt
  headNorm (fun e => proj x g w ⟨(i 0).val / 2048, by omega⟩ ⟨(i 0).val % 2048, by omega⟩ ⟨perm ((i 1).val / 64 * 64 + e.val), perm_lt (by omega)⟩)
      ⟨(i 1).val % 64, by omega⟩
    * gainOf gq gk mq mk ⟨(i 1).val / 512, by omega⟩ ⟨(i 1).val % 64, by omega⟩

/-- The values at an index: batch row, tile, column, and row in the tile. -/
def vTarget (x : (⟨3, ![32, 2048, 1024]⟩ : Shape).Idx → EReal) (g : (⟨1, ![1024]⟩ : Shape).Idx → EReal)
    (w : (⟨2, ![1024, 3072]⟩ : Shape).Idx → EReal) (i : (⟨4, ![32, 8, 1024, 256]⟩ : Shape).Idx) : EReal :=
  have h1 : (i 1).val < 8 := (i 1).isLt
  have h2 : (i 2).val < 1024 := (i 2).isLt
  have h3 : (i 3).val < 256 := (i 3).isLt
  proj x g w (i 0) ⟨(i 1).val * 256 + (i 3).val, by omega⟩ ⟨perm (2048 + (i 2).val), perm_lt (by omega)⟩

theorem ofBits_64 : Ideal.ofBits .f32 0x42800000#32 = ((64 : ℝ) : EReal) := by
  simp [Ideal.ofBits, Ideal.ieee, -EReal.coe_mul]
  norm_num

theorem ofBits_inv64 : Ideal.ofBits .bf16 15488#16 = ((1 / 64 : ℝ) : EReal) := by
  simp [Ideal.ofBits, Ideal.ieee, -EReal.coe_mul]
  norm_num

/-- A nonnegative real factor passes over a finite sum. -/
theorem sum_mul_coe {ι : Type} [Fintype ι] (f : ι → EReal) (c : ℝ) (hc : 0 ≤ c) :
    ∑ i, f i * (c : EReal) = (∑ i, f i) * (c : EReal) := by
  classical
  have h : ∀ s : Finset ι, ∑ i ∈ s, f i * (c : EReal) = (∑ i ∈ s, f i) * (c : EReal) := fun s => by
    induction s using Finset.induction_on with
    | empty => simp
    | insert a s ha ih =>
      rw [Finset.sum_insert ha, Finset.sum_insert ha, ih, mul_comm (f a), mul_comm (∑ i ∈ s, f i), mul_comm _ (c : EReal)]
      exact (EReal.left_distrib_of_nonneg_of_ne_top (EReal.coe_nonneg.mpr hc) (EReal.coe_ne_top c) _ _).symm
  exact h Finset.univ

theorem div_64 (x : EReal) : Ideal.div x (Ideal.ofBits .f32 0x42800000#32) = x * ((1 / 64 : ℝ) : EReal) := by
  rw [ofBits_64]
  unfold Ideal.div
  rw [if_neg (by exact_mod_cast (by norm_num : (64 : ℝ) ≠ 0)), ← EReal.coe_inv]
  norm_num

/-- A sum over 256 columns, each weighted by 1/64 when it lies in head `k` and by zero otherwise, is that head's mean. -/
theorem sum_head (f : Fin 256 → EReal) (k : Fin 4) :
    ∑ a : Fin 256, f a * (if a.val / 64 = k.val then ((1 / 64 : ℝ) : EReal) else 0)
      = Ideal.div (∑ j : Fin 64, f ⟨k.val * 64 + j.val, by omega⟩) (Ideal.ofBits .f32 0x42800000#32) := by
  rw [div_64, ← sum_mul_coe _ _ (by norm_num : (0 : ℝ) ≤ 1 / 64),
    ← Equiv.sum_comp (finProdFinEquiv (m := 4) (n := 64)), Fintype.sum_prod_type,
    Finset.sum_eq_single k]
  · refine Finset.sum_congr rfl fun j _ => ?_
    have e : (finProdFinEquiv (k, j) : Fin (4 * 64)) = (⟨k.val * 64 + j.val, by omega⟩ : Fin 256) :=
      Fin.ext (by show j.val + 64 * k.val = k.val * 64 + j.val; omega)
    rw [e, if_pos (by show (k.val * 64 + j.val) / 64 = k.val; omega)]
  · intro b _ hb
    refine Finset.sum_eq_zero fun j _ => ?_
    rw [if_neg (fun h => hb (Fin.ext (by
      have h' : (j.val + 64 * b.val) / 64 = k.val := h
      omega))), mul_zero]
  · intro h; exact absurd (Finset.mem_univ k) h

end Cert.Proof.Proj

end
-- ==== Proof.ProjGroup.lean ====
module

public import proofs.«01_k».proof.Kernel2Ideal

@[expose] public section

noncomputable section

/-!
# The averaging matrix of the projection, entry by entry

The constant matrix by which the projection averages squares over a head is 1/64 within a head's 64 columns and zero elsewhere.
Its entries are read off the table by evaluation, thirty-two rows at a time.
-/

namespace Cert.Proof.Proj

open Cert.Kernel2Ideal

/-- The entry at row `a` and column `b` is the word of 1/64 when both columns belong to one head, and zero otherwise. -/
def same (a b : ℕ) : Bool := Nat.beq (lit0t (a * 256 + b)).toNat (bif Nat.beq (a / 64) (b / 64) then 15488 else 0)

/-- The first `n` entries of row `a` are so. -/
def row (a n : ℕ) : Bool := Nat.rec true (fun b ih => bif same a b then ih else false) n

/-- The `n` rows from row `s` on are so. -/
def rows (s n : ℕ) : Bool := Nat.rec true (fun a ih => bif row (s + a) 256 then ih else false) n

theorem same_of_row {a n : ℕ} (h : row a n = true) {b : ℕ} (hb : b < n) : same a b = true := by
  induction n with
  | zero => omega
  | succ n ih =>
    have e : (bif same a n then row a n else false) = true := h
    cases hs : same a n with
    | false => rw [hs] at e; exact absurd (show false = true from e) Bool.false_ne_true
    | true =>
      rw [hs] at e
      rcases Nat.lt_succ_iff_lt_or_eq.mp hb with hlt | rfl
      · exact ih e hlt
      · exact hs

theorem row_of_rows {s n : ℕ} (h : rows s n = true) {a : ℕ} (ha : a < n) : row (s + a) 256 = true := by
  induction n with
  | zero => omega
  | succ n ih =>
    have e : (bif row (s + n) 256 then rows s n else false) = true := h
    cases hs : row (s + n) 256 with
    | false => rw [hs] at e; exact absurd (show false = true from e) Bool.false_ne_true
    | true =>
      rw [hs] at e
      rcases Nat.lt_succ_iff_lt_or_eq.mp ha with hlt | rfl
      · exact ih e hlt
      · exact hs

/-- Every entry of rows that were evaluated. -/
theorem same_of_rows {s n : ℕ} (h : rows s n = true) {a b : ℕ} (hs : s ≤ a) (ha : a < s + n) (hb : b < 256) : same a b = true := by
  have e := row_of_rows h (a := a - s) (by omega)
  rw [show s + (a - s) = a by omega] at e
  exact same_of_row e hb

end Cert.Proof.Proj

end
-- ==== Proof.ProjGroupLow.lean ====
module

public import proofs.«01_k».proof.Proof.ProjGroup

@[expose] public section

noncomputable section

/-! The first 128 rows of the averaging matrix, evaluated. -/

namespace Cert.Proof.Proj

theorem rows_0 : rows 0 32 = true := by decide +kernel
theorem rows_32 : rows 32 32 = true := by decide +kernel
theorem rows_64 : rows 64 32 = true := by decide +kernel
theorem rows_96 : rows 96 32 = true := by decide +kernel

end Cert.Proof.Proj

end
-- ==== Proof.ProjGroupHigh.lean ====
module

public import proofs.«01_k».proof.Proof.ProjGroup

@[expose] public section

noncomputable section

/-! The last 128 rows of the averaging matrix, evaluated. -/

namespace Cert.Proof.Proj

theorem rows_128 : rows 128 32 = true := by decide +kernel
theorem rows_160 : rows 160 32 = true := by decide +kernel
theorem rows_192 : rows 192 32 = true := by decide +kernel
theorem rows_224 : rows 224 32 = true := by decide +kernel

end Cert.Proof.Proj

end
-- ==== Proof.ProjArgs.lean ====
module

public import proofs.«01_k».proof.Proof.Gen.Kernel2Ideal.Frame
public import proofs.«01_k».proof.Proof.ProjSpec
public import proofs.«01_k».proof.Proof.ProjGroupLow
public import proofs.«01_k».proof.Proof.ProjGroupHigh
public import Idealize.ShloMosaic.Lib.ValueIdx
public import Idealize.ShloMosaic.Lib.Pipeline.Value
public import Idealize.ShloMosaic.Lib.Claim

@[expose] public section

set_option maxRecDepth 16384

noncomputable section

/-!
# What the projection's call is given

The arrays that the host code prepares for the call, read at an index: the hidden rows, the gains of the first norm, the weights with
their columns permuted, the gains per column of the queries and keys, and the averaging matrix.
-/

namespace Cert.Proof.Proj

open Cert.Kernel2Ideal Cert.Kernel2Ideal.Gen
open Idealize.ShloMosaic Idealize.ShloMosaic.TcCoe Idealize.ShloMosaic.ValueIdx Idealize.ShloMosaic.Pipeline
open Idealize.SL

/-- The weights with their columns in the order of the call. -/
def weights (w : S1024x3072.Idx → EReal) : S1024x3072.Idx → EReal :=
  concatenate S1024x3072 1 [⟨S1024x1024, extractStridedSlice S1024x1024 ![0, 0] w slices_S1024x3072_S1024x1024_0_0⟩,
    ⟨S1024x1024, extractStridedSlice S1024x1024 ![0, 1536] w slices_S1024x3072_S1024x1024_0_1536⟩,
    ⟨S1024x512, extractStridedSlice S1024x512 ![0, 1024] w slices_S1024x3072_S1024x512_0_1024⟩,
    ⟨S1024x512, extractStridedSlice S1024x512 ![0, 2560] w slices_S1024x3072_S1024x512_0_2560⟩] concatenates_S1024x1024_S1024x1024_S1024x512_S1024x512_S1024x3072_d1

/-- A head's gains, eight times over. -/
def eight (g : S64.Idx → EReal) : S512.Idx → EReal :=
  shapeCast S512 (broadcastInDim S8x64 ![0, 1] bcast_S1x64_S8x64_0_1 (shapeCast S1x64 g shapeCasts_S64_S1x64)) shapeCasts_S8x64_S512

/-- Gains times the scale of the queries. -/
def scaled (g : S64.Idx → EReal) : S64.Idx → EReal :=
  mulf (F := Ideal) (φ := .f32) g (broadcastInDim S64 ![] bcast_S_S64 (constant S_ .f32 0x3E38AA3B#32))

/-- The gains of the queries and keys, column by column. -/
def gains (gq gk mq mk : S64.Idx → EReal) : S1x2048.Idx → EReal :=
  broadcastInDim S1x2048 ![1] bcast_S2048_S1x2048_1 (concatenate S2048 0 [⟨S512, eight (scaled gq)⟩, ⟨S512, eight gk⟩, ⟨S512, eight (scaled mq)⟩, ⟨S512, eight mk⟩]
    concatenates_S512_S512_S512_S512_S2048_d0)

variable (m : (ℓ : Loc nD τ sig) → Buf (Elt Ideal) ℓ)

/-- The arguments of one core. -/
abbrev b0 (c : Dev nD) : S32x2048x1024.Idx → EReal := m ((c : Thread nD τ).loc main_arg0)
abbrev b1 (c : Dev nD) : S1024.Idx → EReal := m ((c : Thread nD τ).loc main_arg1)
abbrev b2 (c : Dev nD) : S1024x3072.Idx → EReal := m ((c : Thread nD τ).loc main_arg2)
abbrev b3 (c : Dev nD) : S64.Idx → EReal := m ((c : Thread nD τ).loc main_arg3)
abbrev b4 (c : Dev nD) : S64.Idx → EReal := m ((c : Thread nD τ).loc main_arg4)
abbrev b5 (c : Dev nD) : S64.Idx → EReal := m ((c : Thread nD τ).loc main_arg5)
abbrev b6 (c : Dev nD) : S64.Idx → EReal := m ((c : Thread nD τ).loc main_arg6)

/-! ## The arrays as the call finds them -/

theorem V_rows (c : Dev nD) : V m c main_v24 = shapeCast S65536x1024 (b0 m c) shapeCasts_S32x2048x1024_S65536x1024 := by
  entry_read
  rfl

theorem V_gain (c : Dev nD) : V m c main_v25 = broadcastInDim S1x1024 ![1] bcast_S1024_S1x1024_1 (b1 m c) := by
  entry_read
  rfl

set_option maxHeartbeats 2000000 in
theorem V_weights (c : Dev nD) : V m c main_v5 = weights (b2 m c) := by
  unfold_abbrev_sides
  after_results_simp <;> (try dsimp only [Matrix.cons_val]) <;> (try after_results_simp) <;> rfl

set_option maxHeartbeats 2000000 in
theorem V_gains (c : Dev nD) : V m c main_v23 = gains (b3 m c) (b4 m c) (b5 m c) (b6 m c) := by
  unfold_abbrev_sides
  after_results_simp <;> (try dsimp only [Matrix.cons_val]) <;> (try after_results_simp) <;> rfl

theorem V_matrix (c : Dev nD) : V m c main_cst = (fun i => Ideal.ofBits .bf16 (lit0 (S256x256.rowMajor i))) := by
  entry_read
  rfl

/-! ## … at an index -/

theorem rows_apply (x : S32x2048x1024.Idx → EReal) (n : Fin 65536) (d : Fin 1024) :
    shapeCast S65536x1024 x shapeCasts_S32x2048x1024_S65536x1024 (ix2 n d) = x (ix3 ⟨n.val / 2048, by omega⟩ ⟨n.val % 2048, by omega⟩ d) :=
  shapeCast_apply _ _ _ _ (by
    rw [Shape.rowMajor_val_three, Shape.rowMajor_val_two]
    show (n.val / 2048 * 2048 + n.val % 2048) * 1024 + d.val = n.val * 1024 + d.val
    omega)

theorem gain_apply (g : S1024.Idx → EReal) (d : Fin 1024) :
    broadcastInDim S1x1024 ![1] bcast_S1024_S1x1024_1 g (ix2 0 d) = g (ix1 d) :=
  broadcastInDim_apply _ _ _ _ _ (fun a => by match a with | ⟨0, _⟩ => rfl)

theorem weights_apply (w : S1024x3072.Idx → EReal) (d : Fin 1024) (j : Fin 3072) : weights w (ix2 d j) = w (ix2 d ⟨perm j.val, perm_lt j.isLt⟩) := by
  have hj := j.isLt
  unfold weights
  by_cases h1 : j.val < 1024
  · refine (concatenate_apply_piece (t := S1024x3072) 1 _ _ (ix2 d j) 0 (by simp) S1024x1024 (extractStridedSlice S1024x1024 ![0, 0] w slices_S1024x3072_S1024x1024_0_0) rfl rfl 0 rfl
      (ix2 d ⟨j.val, h1⟩) (fun b hb => by match b with | ⟨0, _⟩ => rfl | ⟨1, _⟩ => exact absurd rfl hb) (Nat.zero_add _)).trans ?_
    exact extractStridedSlice_apply _ _ _ _ _ (fun a => by
      match a with
      | ⟨0, _⟩ => show d.val = 0 + d.val; omega
      | ⟨1, _⟩ => show perm j.val = 0 + j.val; unfold perm; split_ifs; omega)
  by_cases h2 : j.val < 2048
  · refine (concatenate_apply_piece (t := S1024x3072) 1 _ _ (ix2 d j) 1 (by simp) S1024x1024 (extractStridedSlice S1024x1024 ![0, 1536] w slices_S1024x3072_S1024x1024_0_1536) rfl rfl 1024 rfl
      (ix2 d ⟨j.val - 1024, by omega⟩) (fun b hb => by match b with | ⟨0, _⟩ => rfl | ⟨1, _⟩ => exact absurd rfl hb) (by show 1024 + (j.val - 1024) = j.val; omega)).trans ?_
    exact extractStridedSlice_apply _ _ _ _ _ (fun a => by
      match a with
      | ⟨0, _⟩ => show d.val = 0 + d.val; omega
      | ⟨1, _⟩ => show perm j.val = 1536 + (j.val - 1024); unfold perm; split_ifs; omega)
  by_cases h3 : j.val < 2560
  · refine (concatenate_apply_piece (t := S1024x3072) 1 _ _ (ix2 d j) 2 (by simp) S1024x512 (extractStridedSlice S1024x512 ![0, 1024] w slices_S1024x3072_S1024x512_0_1024) rfl rfl 2048 rfl
      (ix2 d ⟨j.val - 2048, by omega⟩) (fun b hb => by match b with | ⟨0, _⟩ => rfl | ⟨1, _⟩ => exact absurd rfl hb) (by show 2048 + (j.val - 2048) = j.val; omega)).trans ?_
    exact extractStridedSlice_apply _ _ _ _ _ (fun a => by
      match a with
      | ⟨0, _⟩ => show d.val = 0 + d.val; omega
      | ⟨1, _⟩ => show perm j.val = 1024 + (j.val - 2048); unfold perm; split_ifs; omega)
  · refine (concatenate_apply_piece (t := S1024x3072) 1 _ _ (ix2 d j) 3 (by simp) S1024x512 (extractStridedSlice S1024x512 ![0, 2560] w slices_S1024x3072_S1024x512_0_2560) rfl rfl 2560 rfl
      (ix2 d ⟨j.val - 2560, by omega⟩) (fun b hb => by match b with | ⟨0, _⟩ => rfl | ⟨1, _⟩ => exact absurd rfl hb) (by show 2560 + (j.val - 2560) = j.val; omega)).trans ?_
    exact extractStridedSlice_apply _ _ _ _ _ (fun a => by
      match a with
      | ⟨0, _⟩ => show d.val = 0 + d.val; omega
      | ⟨1, _⟩ => show perm j.val = 2560 + (j.val - 2560); unfold perm; split_ifs; omega)

theorem eight_apply (g : S64.Idx → EReal) (j : Fin 512) : eight g (ix1 j) = g (ix1 ⟨j.val % 64, by omega⟩) := by
  have hj := j.isLt
  unfold eight
  refine (shapeCast_apply _ _ _ (ix2 ⟨j.val / 64, by omega⟩ ⟨j.val % 64, by omega⟩) (by
    rw [Shape.rowMajor_val_two, Shape.rowMajor_val_one]
    show j.val / 64 * 64 + j.val % 64 = j.val
    omega)).trans ?_
  refine (broadcastInDim_apply _ _ _ _ (ix2 0 ⟨j.val % 64, by omega⟩) (fun a => by match a with | ⟨0, _⟩ => rfl | ⟨1, _⟩ => rfl)).trans ?_
  exact shapeCast_apply _ _ _ _ (by
    rw [Shape.rowMajor_val_one, Shape.rowMajor_val_two]
    show j.val % 64 = 0 * 64 + j.val % 64
    omega)

theorem scaled_apply (g : S64.Idx → EReal) (e : Fin 64) : scaled g (ix1 e) = g (ix1 e) * scale := rfl

theorem gains_apply (gq gk mq mk : S64.Idx → EReal) (j : Fin 2048) :
    gains gq gk mq mk (ix2 0 j) = gainOf gq gk mq mk ⟨j.val / 512, by omega⟩ ⟨j.val % 64, by omega⟩ := by
  have hj := j.isLt
  unfold gains
  refine (broadcastInDim_apply _ _ _ _ (ix1 j) (fun a => by match a with | ⟨0, _⟩ => rfl)).trans ?_
  have key : ∀ (k : Fin 4) (g : S64.Idx → EReal) (r : Fin 512), r.val % 64 = j.val % 64 → eight g (ix1 r) = g (ix1 ⟨j.val % 64, by omega⟩) := fun k g r h => by
    rw [eight_apply]
    exact congrArg (fun z => g (ix1 z)) (Fin.ext h)
  rcases (by omega : j.val / 512 = 0 ∨ j.val / 512 = 1 ∨ j.val / 512 = 2 ∨ j.val / 512 = 3) with h | h | h | h
  · refine (concatenate_apply_piece (t := S2048) 0 _ _ (ix1 j) 0 (by simp) S512 (eight (scaled gq)) rfl rfl 0 rfl
      (ix1 ⟨j.val, by omega⟩) (fun b hb => by match b with | ⟨0, _⟩ => exact absurd rfl hb) (Nat.zero_add _)).trans ?_
    rw [key 0 _ _ rfl, scaled_apply, show (⟨j.val / 512, by omega⟩ : Fin 4) = 0 from Fin.ext h]
    rfl
  · refine (concatenate_apply_piece (t := S2048) 0 _ _ (ix1 j) 1 (by simp) S512 (eight gk) rfl rfl 512 rfl
      (ix1 ⟨j.val - 512, by omega⟩) (fun b hb => by match b with | ⟨0, _⟩ => exact absurd rfl hb) (by show 512 + (j.val - 512) = j.val; omega)).trans ?_
    rw [key 1 _ _ (by show (j.val - 512) % 64 = j.val % 64; omega), show (⟨j.val / 512, by omega⟩ : Fin 4) = 1 from Fin.ext h]
    rfl
  · refine (concatenate_apply_piece (t := S2048) 0 _ _ (ix1 j) 2 (by simp) S512 (eight (scaled mq)) rfl rfl 1024 rfl
      (ix1 ⟨j.val - 1024, by omega⟩) (fun b hb => by match b with | ⟨0, _⟩ => exact absurd rfl hb) (by show 1024 + (j.val - 1024) = j.val; omega)).trans ?_
    rw [key 2 _ _ (by show (j.val - 1024) % 64 = j.val % 64; omega), scaled_apply, show (⟨j.val / 512, by omega⟩ : Fin 4) = 2 from Fin.ext h]
    rfl
  · refine (concatenate_apply_piece (t := S2048) 0 _ _ (ix1 j) 3 (by simp) S512 (eight mk) rfl rfl 1536 rfl
      (ix1 ⟨j.val - 1536, by omega⟩) (fun b hb => by match b with | ⟨0, _⟩ => exact absurd rfl hb) (by show 1536 + (j.val - 1536) = j.val; omega)).trans ?_
    rw [key 3 _ _ (by show (j.val - 1536) % 64 = j.val % 64; omega), show (⟨j.val / 512, by omega⟩ : Fin 4) = 3 from Fin.ext h]
    rfl

/-- Every entry of the table is as `same` says. -/
theorem same_all {a b : ℕ} (ha : a < 256) (hb : b < 256) : same a b = true := by
  rcases (by omega : a < 32 ∨ 32 ≤ a ∧ a < 64 ∨ 64 ≤ a ∧ a < 96 ∨ 96 ≤ a ∧ a < 128 ∨ 128 ≤ a ∧ a < 160 ∨ 160 ≤ a ∧ a < 192 ∨ 192 ≤ a ∧ a < 224 ∨ 224 ≤ a)
    with h | h | h | h | h | h | h | h
  · exact same_of_rows rows_0 (by omega) (by omega) hb
  · exact same_of_rows rows_32 (by omega) (by omega) hb
  · exact same_of_rows rows_64 (by omega) (by omega) hb
  · exact same_of_rows rows_96 (by omega) (by omega) hb
  · exact same_of_rows rows_128 (by omega) (by omega) hb
  · exact same_of_rows rows_160 (by omega) (by omega) hb
  · exact same_of_rows rows_192 (by omega) (by omega) hb
  · exact same_of_rows rows_224 (by omega) (by omega) hb

theorem matrix_apply (a b : Fin 256) :
    Ideal.ofBits .bf16 (lit0 (S256x256.rowMajor (ix2 a b))) = if a.val / 64 = b.val / 64 then ((1 / 64 : ℝ) : EReal) else 0 := by
  have hs := same_all a.isLt b.isLt
  have hi : (S256x256.rowMajor (ix2 a b)).val = a.val * 256 + b.val := by rw [Shape.rowMajor_val_two]; rfl
  have hl : lit0 (S256x256.rowMajor (ix2 a b)) = lit0t (a.val * 256 + b.val) := by
    rw [← hi]
  have hn : (lit0t (a.val * 256 + b.val)).toNat = bif Nat.beq (a.val / 64) (b.val / 64) then 15488 else 0 := Nat.eq_of_beq_eq_true hs
  rw [hl]
  generalize lit0t (a.val * 256 + b.val) = z at hn
  by_cases h : a.val / 64 = b.val / 64
  · rw [if_pos h, ← ofBits_inv64]
    rw [show Nat.beq (a.val / 64) (b.val / 64) = true by rw [h]; exact Nat.beq_refl _] at hn
    exact congrArg (Ideal.ofBits .bf16) (BitVec.eq_of_toNat_eq hn)
  · rw [if_neg h]
    rw [show Nat.beq (a.val / 64) (b.val / 64) = false from Bool.eq_false_iff.mpr fun e => h (Nat.eq_of_beq_eq_true e)] at hn
    rw [show z = 0#16 from BitVec.eq_of_toNat_eq hn]
    simp [Ideal.ofBits, Ideal.ieee]

end Cert.Proof.Proj

end
-- ==== Proof.ProjTile.lean ====
module

public import proofs.«01_k».proof.Proof.Gen.Kernel2Ideal.Frame

@[expose] public section

set_option maxRecDepth 16384

noncomputable section

/-!
# The projection's tiles

Every tile that the input projection stores is one of two functions of what it loads: a tile of queries or keys, with a norm per
head, or a tile of values, transposed.
-/

namespace Cert.Proof.Proj

open Cert.Kernel2Ideal Cert.Kernel2Ideal.Gen
open Idealize.ShloMosaic Idealize.ShloMosaic.TcCoe Idealize.ShloMosaic.Pipeline
open Idealize.SL

variable {F : FTy → Type} [FloatOps F]

/-- Rows divided by the root of their mean square, times the gains. -/
def tNorm (X : Vec F S256x1024 .f32) (G : Vec F S1x1024 .f32) : FVec F S256x1024 .bf16 :=
  truncf .bf16 (mulf (mulf (shapeCast S256x1024 X shapeCasts_S256x1024_S256x1024)
      (broadcastTo S256x1024 (rsqrt (addf (divf (shapeCast S256x1
          (multiReduction .add [1] S256 (mulf (shapeCast S256x1024 X shapeCasts_S256x1024_S256x1024) (shapeCast S256x1024 X shapeCasts_S256x1024_S256x1024))
            0x00000000#32 reduces_S256x1024_S256 (.inl rfl) rfl) shapeCasts_S256_S256x1)
        (broadcast S256x1 (Scalar.ofBits .f32 0x44800000#32))) (broadcast S256x1 (Scalar.ofBits .f32 0x358637BD#32)))) broadcasts_S256x1_S256x1024))
    (broadcastTo S256x1024 (shapeCast S1x1024 G shapeCasts_S1x1024_S1x1024) broadcasts_S1x1024_S256x1024)) bitsLt_bf16_f32

/-- The product of normed rows and 256 columns of the weights. -/
def tMul (H : FVec F S256x1024 .bf16) (W : Vec F S1024x256 .bf16) : FVec F S256x256 .f32 :=
  matmul dot_S256x1024_S1024x256_S256x256_1_0_0_1_n_n none H (shapeCast S1024x256 W shapeCasts_S1024x256_S1024x256) (constant S256x256 .f32 0x00000000#32)

/-- A product's squares averaged by the matrix `A`, and the product divided by their root, times the gains. -/
def tHead (P : FVec F S256x256 .f32) (A : Vec F S256x256 .bf16) (g : Vec F S1x256 .f32) : FVec F S256x256 .bf16 :=
  truncf .bf16 (mulf (mulf P (rsqrt (addf
      (matmul dot_S256x256_S256x256_S256x256_1_0_0_1_n_n none (truncf .bf16 (mulf P P) bitsLt_bf16_f32) A (constant S256x256 .f32 0x00000000#32))
      (broadcast S256x256 (Scalar.ofBits .f32 0x358637BD#32)))))
    (broadcastTo S256x256 (shapeCast S1x256 g shapeCasts_S1x256_S1x256) broadcasts_S1x256_S256x256)) bitsLt_bf16_f32

/-- A tile of queries or keys. -/
def tQK (X : Vec F S256x1024 .f32) (G : Vec F S1x1024 .f32) (W : Vec F S1024x256 .bf16) (A : Vec F S256x256 .bf16) (g : Vec F S1x256 .f32) :
    FVec F S256x256 .bf16 := tHead (tMul (tNorm X G) W) A g

/-- A tile of values, transposed. -/
def tV (X : Vec F S256x1024 .f32) (G : Vec F S1x1024 .f32) (W : Vec F S1024x256 .bf16) : FVec F S1x1x256x256 .bf16 :=
  shapeCast S1x1x256x256 (truncf .bf16 (transpose S256x256 [1, 0] (tMul (tNorm X G) W) transposes_S256x256_p1_0_S256x256) bitsLt_bf16_f32)
    shapeCasts_S256x256_S1x1x256x256

set_option maxHeartbeats 4000000 in
/-- The queries and keys of a block are tiles of the first kind. -/
theorem out5_eq (x0 : Vec F S1024x1024 .f32) (x1 : Vec F S1x1024 .f32) (x2 : Vec F S1024x3072 .bf16) (x3 : Vec F S1x2048 .f32) (x4 : Vec F S256x256 .bf16) :
    out0_5 x0 x1 x2 x3 x4 = View.canon [⟨r0_69, tQK (View.ld x0 r0_4) (View.ld x1 r0_1) (View.ld x2 r0_25) (View.ld x4 r0_7) (View.ld x3 r0_29)⟩,
    ⟨r0_68, tQK (View.ld x0 r0_4) (View.ld x1 r0_1) (View.ld x2 r0_22) (View.ld x4 r0_7) (View.ld x3 r0_26)⟩,
    ⟨r0_67, tQK (View.ld x0 r0_4) (View.ld x1 r0_1) (View.ld x2 r0_19) (View.ld x4 r0_7) (View.ld x3 r0_23)⟩,
    ⟨r0_66, tQK (View.ld x0 r0_4) (View.ld x1 r0_1) (View.ld x2 r0_16) (View.ld x4 r0_7) (View.ld x3 r0_20)⟩,
    ⟨r0_65, tQK (View.ld x0 r0_4) (View.ld x1 r0_1) (View.ld x2 r0_13) (View.ld x4 r0_7) (View.ld x3 r0_17)⟩,
    ⟨r0_64, tQK (View.ld x0 r0_4) (View.ld x1 r0_1) (View.ld x2 r0_10) (View.ld x4 r0_7) (View.ld x3 r0_14)⟩,
    ⟨r0_63, tQK (View.ld x0 r0_4) (View.ld x1 r0_1) (View.ld x2 r0_6) (View.ld x4 r0_7) (View.ld x3 r0_11)⟩,
    ⟨r0_62, tQK (View.ld x0 r0_4) (View.ld x1 r0_1) (View.ld x2 r0_5) (View.ld x4 r0_7) (View.ld x3 r0_8)⟩,
    ⟨r0_57, tQK (View.ld x0 r0_3) (View.ld x1 r0_1) (View.ld x2 r0_25) (View.ld x4 r0_7) (View.ld x3 r0_29)⟩,
    ⟨r0_56, tQK (View.ld x0 r0_3) (View.ld x1 r0_1) (View.ld x2 r0_22) (View.ld x4 r0_7) (View.ld x3 r0_26)⟩,
    ⟨r0_55, tQK (View.ld x0 r0_3) (View.ld x1 r0_1) (View.ld x2 r0_19) (View.ld x4 r0_7) (View.ld x3 r0_23)⟩,
    ⟨r0_54, tQK (View.ld x0 r0_3) (View.ld x1 r0_1) (View.ld x2 r0_16) (View.ld x4 r0_7) (View.ld x3 r0_20)⟩,
    ⟨r0_53, tQK (View.ld x0 r0_3) (View.ld x1 r0_1) (View.ld x2 r0_13) (View.ld x4 r0_7) (View.ld x3 r0_17)⟩,
    ⟨r0_52, tQK (View.ld x0 r0_3) (View.ld x1 r0_1) (View.ld x2 r0_10) (View.ld x4 r0_7) (View.ld x3 r0_14)⟩,
    ⟨r0_51, tQK (View.ld x0 r0_3) (View.ld x1 r0_1) (View.ld x2 r0_6) (View.ld x4 r0_7) (View.ld x3 r0_11)⟩,
    ⟨r0_50, tQK (View.ld x0 r0_3) (View.ld x1 r0_1) (View.ld x2 r0_5) (View.ld x4 r0_7) (View.ld x3 r0_8)⟩,
    ⟨r0_45, tQK (View.ld x0 r0_2) (View.ld x1 r0_1) (View.ld x2 r0_25) (View.ld x4 r0_7) (View.ld x3 r0_29)⟩,
    ⟨r0_44, tQK (View.ld x0 r0_2) (View.ld x1 r0_1) (View.ld x2 r0_22) (View.ld x4 r0_7) (View.ld x3 r0_26)⟩,
    ⟨r0_43, tQK (View.ld x0 r0_2) (View.ld x1 r0_1) (View.ld x2 r0_19) (View.ld x4 r0_7) (View.ld x3 r0_23)⟩,
    ⟨r0_42, tQK (View.ld x0 r0_2) (View.ld x1 r0_1) (View.ld x2 r0_16) (View.ld x4 r0_7) (View.ld x3 r0_20)⟩,
    ⟨r0_41, tQK (View.ld x0 r0_2) (View.ld x1 r0_1) (View.ld x2 r0_13) (View.ld x4 r0_7) (View.ld x3 r0_17)⟩,
    ⟨r0_40, tQK (View.ld x0 r0_2) (View.ld x1 r0_1) (View.ld x2 r0_10) (View.ld x4 r0_7) (View.ld x3 r0_14)⟩,
    ⟨r0_39, tQK (View.ld x0 r0_2) (View.ld x1 r0_1) (View.ld x2 r0_6) (View.ld x4 r0_7) (View.ld x3 r0_11)⟩,
    ⟨r0_38, tQK (View.ld x0 r0_2) (View.ld x1 r0_1) (View.ld x2 r0_5) (View.ld x4 r0_7) (View.ld x3 r0_8)⟩,
    ⟨r0_30, tQK (View.ld x0 r0_0) (View.ld x1 r0_1) (View.ld x2 r0_25) (View.ld x4 r0_7) (View.ld x3 r0_29)⟩,
    ⟨r0_27, tQK (View.ld x0 r0_0) (View.ld x1 r0_1) (View.ld x2 r0_22) (View.ld x4 r0_7) (View.ld x3 r0_26)⟩,
    ⟨r0_24, tQK (View.ld x0 r0_0) (View.ld x1 r0_1) (View.ld x2 r0_19) (View.ld x4 r0_7) (View.ld x3 r0_23)⟩,
    ⟨r0_21, tQK (View.ld x0 r0_0) (View.ld x1 r0_1) (View.ld x2 r0_16) (View.ld x4 r0_7) (View.ld x3 r0_20)⟩,
    ⟨r0_18, tQK (View.ld x0 r0_0) (View.ld x1 r0_1) (View.ld x2 r0_13) (View.ld x4 r0_7) (View.ld x3 r0_17)⟩,
    ⟨r0_15, tQK (View.ld x0 r0_0) (View.ld x1 r0_1) (View.ld x2 r0_10) (View.ld x4 r0_7) (View.ld x3 r0_14)⟩,
    ⟨r0_12, tQK (View.ld x0 r0_0) (View.ld x1 r0_1) (View.ld x2 r0_6) (View.ld x4 r0_7) (View.ld x3 r0_11)⟩,
    ⟨r0_9, tQK (View.ld x0 r0_0) (View.ld x1 r0_1) (View.ld x2 r0_5) (View.ld x4 r0_7) (View.ld x3 r0_8)⟩] := rfl

set_option maxHeartbeats 4000000 in
/-- The values of a block are tiles of the second kind. -/
theorem out6_eq (x0 : Vec F S1024x1024 .f32) (x1 : Vec F S1x1024 .f32) (x2 : Vec F S1024x3072 .bf16) (x3 : Vec F S1x2048 .f32) (x4 : Vec F S256x256 .bf16) :
    out0_6 x0 x1 x2 x3 x4 = View.canon [⟨r0_73, tV (View.ld x0 r0_4) (View.ld x1 r0_1) (View.ld x2 r0_35)⟩,
    ⟨r0_72, tV (View.ld x0 r0_4) (View.ld x1 r0_1) (View.ld x2 r0_33)⟩,
    ⟨r0_71, tV (View.ld x0 r0_4) (View.ld x1 r0_1) (View.ld x2 r0_31)⟩,
    ⟨r0_70, tV (View.ld x0 r0_4) (View.ld x1 r0_1) (View.ld x2 r0_28)⟩,
    ⟨r0_61, tV (View.ld x0 r0_3) (View.ld x1 r0_1) (View.ld x2 r0_35)⟩,
    ⟨r0_60, tV (View.ld x0 r0_3) (View.ld x1 r0_1) (View.ld x2 r0_33)⟩,
    ⟨r0_59, tV (View.ld x0 r0_3) (View.ld x1 r0_1) (View.ld x2 r0_31)⟩,
    ⟨r0_58, tV (View.ld x0 r0_3) (View.ld x1 r0_1) (View.ld x2 r0_28)⟩,
    ⟨r0_49, tV (View.ld x0 r0_2) (View.ld x1 r0_1) (View.ld x2 r0_35)⟩,
    ⟨r0_48, tV (View.ld x0 r0_2) (View.ld x1 r0_1) (View.ld x2 r0_33)⟩,
    ⟨r0_47, tV (View.ld x0 r0_2) (View.ld x1 r0_1) (View.ld x2 r0_31)⟩,
    ⟨r0_46, tV (View.ld x0 r0_2) (View.ld x1 r0_1) (View.ld x2 r0_28)⟩,
    ⟨r0_37, tV (View.ld x0 r0_0) (View.ld x1 r0_1) (View.ld x2 r0_35)⟩,
    ⟨r0_36, tV (View.ld x0 r0_0) (View.ld x1 r0_1) (View.ld x2 r0_33)⟩,
    ⟨r0_34, tV (View.ld x0 r0_0) (View.ld x1 r0_1) (View.ld x2 r0_31)⟩,
    ⟨r0_32, tV (View.ld x0 r0_0) (View.ld x1 r0_1) (View.ld x2 r0_28)⟩] := rfl

end Cert.Proof.Proj

end
-- ==== Proof.ProjBlock.lean ====
module

public import proofs.«01_k».proof.Proof.ProjTile
public import proofs.«01_k».proof.Proof.ProjSpec
public import Idealize.ShloMosaic.Lib.MatmulPlain
public import Idealize.ShloMosaic.Lib.ValueIdx
public import Idealize.ShloMosaic.Lib.Pipeline.Value

@[expose] public section

set_option maxRecDepth 16384

noncomputable section

/-!
# The projection's blocks, read at an index

What one grid point stores, as formulas of what it loads: at every index of the block of queries and keys, and of the block of values.
-/

namespace Cert.Proof.Proj

open Cert.Kernel2Ideal Cert.Kernel2Ideal.Gen
open Idealize.ShloMosaic Idealize.ShloMosaic.TcCoe Idealize.ShloMosaic.ValueIdx Idealize.ShloMosaic.Pipeline
open Idealize.SL

/-! ## The tiles -/

/-- A normed row, component by component. -/
theorem tNorm_apply (X : S256x1024.Idx → EReal) (G : S1x1024.Idx → EReal) (r : Fin 256) (d : Fin 1024) :
    (tNorm (F := Ideal) X G (ix2 r d) : EReal) = hid (fun j => X (ix2 r j)) (fun j => G (ix2 0 j)) d := by
  have hr : ∀ k : Fin 1024, reduces_S256x1024_S256.lift (ix1 r) k = (ix2 r k : S256x1024.Idx) := fun k => by
    funext a; apply Fin.ext; match a with | ⟨0, _⟩ => rfl | ⟨1, _⟩ => rfl
  unfold tNorm
  rw [shapeCast_self, shapeCast_self]
  have es : (shapeCast S256x1 (multiReduction .add [1] S256 (mulf (F := Ideal) (φ := .f32) X X) 0#32 reduces_S256x1024_S256 (.inl rfl) rfl) shapeCasts_S256_S256x1 (ix2 r 0) : EReal)
      = ∑ j : Fin 1024, X (ix2 r j) * X (ix2 r j) := by
    rw [shapeCast_apply _ _ (ix2 r 0) (ix1 r) (by
      rw [Shape.rowMajor_val_one, Shape.rowMajor_val_two]
      show r.val = r.val * 1 + 0
      omega)]
    refine (Ideal.multiReduction_add_single (mulf (F := Ideal) (φ := .f32) X X) 0#32 reduces_S256x1024_S256 (.inl rfl) rfl (ix1 r)).trans ?_
    exact Finset.sum_congr rfl fun k _ => by rw [hr k]; rfl
  have eb : (broadcastTo S256x1024 (rsqrt (F := Ideal) (addf (divf (shapeCast S256x1 (multiReduction .add [1] S256 (mulf (F := Ideal) (φ := .f32) X X) 0#32 reduces_S256x1024_S256 (.inl rfl) rfl)
      shapeCasts_S256_S256x1) (broadcast S256x1 (Scalar.ofBits .f32 0x44800000#32))) (broadcast S256x1 (Scalar.ofBits .f32 0x358637BD#32))))
      broadcasts_S256x1_S256x1024 (ix2 r d) : EReal)
      = Ideal.rsqrt (Ideal.div (∑ j : Fin 1024, X (ix2 r j) * X (ix2 r j)) (Ideal.ofBits .f32 0x44800000#32) + eps) := by
    rw [broadcastTo_apply _ _ _ (ix2 r 0) (fun a => by match a with | ⟨0, _⟩ => rfl | ⟨1, _⟩ => rfl), ← es]
    rfl
  have eg : (broadcastTo S256x1024 G broadcasts_S1x1024_S256x1024 (ix2 r d) : EReal) = G (ix2 0 d) :=
    broadcastTo_apply _ _ _ _ (fun a => by match a with | ⟨0, _⟩ => rfl | ⟨1, _⟩ => rfl)
  show _ = X (ix2 r d) * Ideal.rsqrt (Ideal.div (∑ j : Fin 1024, X (ix2 r j) * X (ix2 r j)) (Ideal.ofBits .f32 0x44800000#32) + eps) * G (ix2 0 d)
  rw [← eb, ← eg]
  rfl

/-- The product at an index is a sum over the hidden components. -/
theorem tMul_apply (H : S256x1024.Idx → EReal) (W : S1024x256.Idx → EReal) (r c : Fin 256) :
    (tMul (F := Ideal) H W (ix2 r c) : EReal) = ∑ d : Fin 1024, H (ix2 r d) * W (ix2 d c) := by
  unfold tMul
  rw [shapeCast_self]
  refine (Ideal.matmul_plain_apply (M := 256) (K := 1024) (N := 256) (φ₁ := .bf16) (φ₂ := .bf16) none H W (constant (F := Ideal) S256x256 .f32 0#32) r c).trans ?_
  have ez : constant (F := Ideal) S256x256 .f32 0#32 (ix2 r c) = (0 : EReal) := Ideal.ofBits_zero_f32
  rw [ez, zero_add]

/-- The averaged squares at an index. -/
theorem squares_apply (P : S256x256.Idx → EReal) (A : S256x256.Idx → EReal) (r c : Fin 256) :
    (matmul (F := Ideal) (φ₁ := .bf16) (φ₂ := .bf16) dot_S256x256_S256x256_S256x256_1_0_0_1_n_n none (truncf .bf16 (mulf (F := Ideal) (φ := .f32) P P) bitsLt_bf16_f32) A
        (constant S256x256 .f32 0x00000000#32) (ix2 r c) : EReal)
      = ∑ a : Fin 256, P (ix2 r a) * P (ix2 r a) * A (ix2 a c) := by
  refine (Ideal.matmul_plain_apply (M := 256) (K := 256) (N := 256) (φ₁ := .bf16) (φ₂ := .bf16) none (truncf .bf16 (mulf (F := Ideal) (φ := .f32) P P) bitsLt_bf16_f32) A
    (constant (F := Ideal) S256x256 .f32 0#32) r c).trans ?_
  have ez : constant (F := Ideal) S256x256 .f32 0#32 (ix2 r c) = (0 : EReal) := Ideal.ofBits_zero_f32
  rw [ez, zero_add]
  rfl

/-- The norm per head at an index. -/
theorem tHead_apply (P : S256x256.Idx → EReal) (A : S256x256.Idx → EReal) (g : S1x256.Idx → EReal) (r c : Fin 256) :
    (tHead (F := Ideal) P A g (ix2 r c) : EReal)
      = P (ix2 r c) * Ideal.rsqrt (∑ a : Fin 256, P (ix2 r a) * P (ix2 r a) * A (ix2 a c) + eps) * g (ix2 0 c) := by
  unfold tHead
  rw [shapeCast_self, ← squares_apply]
  have eg : (broadcastTo S256x256 g broadcasts_S1x256_S256x256 (ix2 r c) : EReal) = g (ix2 0 c) :=
    broadcastTo_apply _ _ _ _ (fun a => by match a with | ⟨0, _⟩ => rfl | ⟨1, _⟩ => rfl)
  rw [← eg]
  rfl

/-- A product of normed rows at an index. -/
theorem tProd_apply (X : S256x1024.Idx → EReal) (G : S1x1024.Idx → EReal) (W : S1024x256.Idx → EReal) (r c : Fin 256) :
    (tMul (F := Ideal) (tNorm (F := Ideal) X G) W (ix2 r c) : EReal) = dot (fun j => X (ix2 r j)) (fun j => G (ix2 0 j)) (fun d => W (ix2 d c)) :=
  (tMul_apply _ W r c).trans (Finset.sum_congr rfl fun d _ => by rw [tNorm_apply])

/-- A tile of queries or keys at an index. -/
theorem tQK_apply (X : S256x1024.Idx → EReal) (G : S1x1024.Idx → EReal) (W : S1024x256.Idx → EReal) (A : S256x256.Idx → EReal) (g : S1x256.Idx → EReal)
    (r c : Fin 256) :
    (tQK (F := Ideal) X G W A g (ix2 r c) : EReal)
      = dot (fun j => X (ix2 r j)) (fun j => G (ix2 0 j)) (fun d => W (ix2 d c))
        * Ideal.rsqrt (∑ a : Fin 256, dot (fun j => X (ix2 r j)) (fun j => G (ix2 0 j)) (fun d => W (ix2 d a))
            * dot (fun j => X (ix2 r j)) (fun j => G (ix2 0 j)) (fun d => W (ix2 d a)) * A (ix2 a c) + eps) * g (ix2 0 c) := by
  unfold tQK
  refine (tHead_apply _ A g r c).trans ?_
  simp only [tProd_apply]

/-- A tile of values at an index: column first, then row. -/
theorem tV_apply (X : S256x1024.Idx → EReal) (G : S1x1024.Idx → EReal) (W : S1024x256.Idx → EReal) (a b : Fin 1) (c r : Fin 256) :
    (tV (F := Ideal) X G W (ix4 a b c r) : EReal) = dot (fun j => X (ix2 r j)) (fun j => G (ix2 0 j)) (fun d => W (ix2 d c)) := by
  unfold tV
  refine (shapeCast_apply _ _ _ (ix2 c r) (by
    rw [Shape.rowMajor_val_two, Shape.rowMajor_val_four]
    show c.val * 256 + r.val = ((a.val * 1 + b.val) * 256 + c.val) * 256 + r.val
    omega)).trans ?_
  exact (transpose_apply (α := EReal) [1, 0] (tMul (F := Ideal) (tNorm (F := Ideal) X G) W) transposes_S256x256_p1_0_S256x256 (ix2 c r) (ix2 r c)
    (fun b => by match b with | ⟨0, _⟩ => rfl | ⟨1, _⟩ => rfl)).trans (tProd_apply X G W r c)

/-! ## The blocks -/

variable (x0 : S1024x1024.Idx → EReal) (x1 : S1x1024.Idx → EReal) (x2 : S1024x3072.Idx → EReal) (x3 : S1x2048.Idx → EReal) (x4 : S256x256.Idx → EReal)

/-- A row of the block, normed, times a column of the weights. -/
def dotB (r : Fin 1024) (c : Fin 3072) : EReal := dot (fun j => x0 (ix2 r j)) (fun j => x1 (ix2 0 j)) (fun d => x2 (ix2 d c))

/-- The queries and keys of a block. -/
def blk5 (y : S1024x2048.Idx) : EReal :=
  have h : (y 1).val < 2048 := (y 1).isLt
  dotB x0 x1 x2 (y 0) ⟨(y 1).val, by omega⟩
    * Ideal.rsqrt (∑ a : Fin 256, dotB x0 x1 x2 (y 0) ⟨(y 1).val / 256 * 256 + a.val, by omega⟩
        * dotB x0 x1 x2 (y 0) ⟨(y 1).val / 256 * 256 + a.val, by omega⟩ * x4 (ix2 a ⟨(y 1).val % 256, by omega⟩) + eps) * x3 (ix2 0 (y 1))

/-- The values of a block. -/
def blk6 (y : S1x4x1024x256.Idx) : EReal :=
  have h1 : (y 1).val < 4 := (y 1).isLt
  have h2 : (y 2).val < 1024 := (y 2).isLt
  have h3 : (y 3).val < 256 := (y 3).isLt
  dotB x0 x1 x2 ⟨(y 1).val * 256 + (y 3).val, by omega⟩ ⟨2048 + (y 2).val, by omega⟩

/-- A loaded tile's product is the block's at the tile's place. -/
theorem dot_ld (T C : ℕ) (i0 : ∀ a, (![T, 0] : Fin 2 → ℕ) a + S256x1024.size a ≤ S1024x1024.size a)
    (iw : ∀ a, (![0, C] : Fin 2 → ℕ) a + S1024x256.size a ≤ S1024x3072.size a)
    (i1 : ∀ a, (![0, 0] : Fin 2 → ℕ) a + S1x1024.size a ≤ S1x1024.size a) (r c : Fin 256) (R : Fin 1024) (D : Fin 3072)
    (hR : R.val = T + r.val) (hD : D.val = C + c.val) :
    dot (fun j => (View.ld (Val := Elt Ideal) (e' := .f32) x0 (Rect.unit (s := S1024x1024) ![T, 0] S256x1024.size i0) : S256x1024.Idx → EReal) (ix2 r j))
        (fun j => (View.ld (Val := Elt Ideal) (e' := .f32) x1 (Rect.unit (s := S1x1024) ![0, 0] S1x1024.size i1) : S1x1024.Idx → EReal) (ix2 0 j))
        (fun d => (View.ld (Val := Elt Ideal) (e' := .bf16) x2 (Rect.unit (s := S1024x3072) ![0, C] S1024x256.size iw) : S1024x256.Idx → EReal) (ix2 d c)) = dotB x0 x1 x2 R D := by
  have e0 : ∀ j, (View.ld (Val := Elt Ideal) (e' := .f32) x0 (Rect.unit (s := S1024x1024) ![T, 0] S256x1024.size i0) : S256x1024.Idx → EReal) (ix2 r j) = x0 (ix2 R j) := fun j =>
    congrArg x0 (funext fun a => Fin.ext (by
      match a with
      | ⟨0, _⟩ => show T + 1 * r.val = R.val; omega
      | ⟨1, _⟩ => show 0 + 1 * j.val = j.val; omega))
  have e1 : ∀ j, (View.ld (Val := Elt Ideal) (e' := .f32) x1 (Rect.unit (s := S1x1024) ![0, 0] S1x1024.size i1) : S1x1024.Idx → EReal) (ix2 0 j) = x1 (ix2 0 j) := fun j =>
    congrArg x1 (funext fun a => Fin.ext (by
      match a with
      | ⟨0, _⟩ => rfl
      | ⟨1, _⟩ => show 0 + 1 * j.val = j.val; omega))
  have e2 : ∀ d, (View.ld (Val := Elt Ideal) (e' := .bf16) x2 (Rect.unit (s := S1024x3072) ![0, C] S1024x256.size iw) : S1024x256.Idx → EReal) (ix2 d c) = x2 (ix2 d D) := fun d =>
    congrArg x2 (funext fun a => Fin.ext (by
      match a with
      | ⟨0, _⟩ => show 0 + 1 * d.val = d.val; omega
      | ⟨1, _⟩ => show C + 1 * c.val = D.val; omega))
  unfold dotB
  rw [funext e0, funext e1, funext e2]

/-- One stored tile of queries or keys. -/
theorem piece5 (T C : ℕ) (hC : C % 256 = 0) (i0 : ∀ a, (![T, 0] : Fin 2 → ℕ) a + S256x1024.size a ≤ S1024x1024.size a)
    (iw : ∀ a, (![0, C] : Fin 2 → ℕ) a + S1024x256.size a ≤ S1024x3072.size a)
    (i1 : ∀ a, (![0, 0] : Fin 2 → ℕ) a + S1x1024.size a ≤ S1x1024.size a)
    (i4 : ∀ a, (![0, 0] : Fin 2 → ℕ) a + S256x256.size a ≤ S256x256.size a)
    (ig : ∀ a, (![0, C] : Fin 2 → ℕ) a + S1x256.size a ≤ S1x2048.size a)
    (io : ∀ a, (![T, C] : Fin 2 → ℕ) a + S256x256.size a ≤ S1024x2048.size a) (x : S256x256.Idx) :
    (tQK (F := Ideal) (View.ld (Val := Elt Ideal) (e' := .f32) x0 (Rect.unit (s := S1024x1024) ![T, 0] S256x1024.size i0)) (View.ld (Val := Elt Ideal) (e' := .f32) x1 (Rect.unit (s := S1x1024) ![0, 0] S1x1024.size i1))
        (View.ld (Val := Elt Ideal) (e' := .bf16) x2 (Rect.unit (s := S1024x3072) ![0, C] S1024x256.size iw)) (View.ld (Val := Elt Ideal) (e' := .bf16) x4 (Rect.unit (s := S256x256) ![0, 0] S256x256.size i4))
        (View.ld (Val := Elt Ideal) (e' := .f32) x3 (Rect.unit (s := S1x2048) ![0, C] S1x256.size ig)) x : EReal)
      = blk5 x0 x1 x2 x3 x4 ((Rect.unit (s := S1024x2048) ![T, C] S256x256.size io).emb x) := by
  obtain ⟨r, c, rfl⟩ : ∃ (r c : Fin 256), x = ix2 r c := ⟨_, _, eq_ix2 x⟩
  have b0 : T + 256 ≤ 1024 := io 0
  have b1 : C + 256 ≤ 2048 := io 1
  have hy : (Rect.unit (s := S1024x2048) ![T, C] S256x256.size io).emb (ix2 r c) = (ix2 ⟨T + r.val, by omega⟩ ⟨C + c.val, by omega⟩ : S1024x2048.Idx) :=
    funext fun a => Fin.ext (by
      match a with
      | ⟨0, _⟩ => show T + 1 * r.val = T + r.val; omega
      | ⟨1, _⟩ => show C + 1 * c.val = C + c.val; omega)
  have e3 : (View.ld (Val := Elt Ideal) (e' := .f32) x3 (Rect.unit (s := S1x2048) ![0, C] S1x256.size ig) : S1x256.Idx → EReal) (ix2 0 c) = x3 (ix2 0 ⟨C + c.val, by omega⟩) :=
    congrArg x3 (funext fun a => Fin.ext (by
      match a with
      | ⟨0, _⟩ => rfl
      | ⟨1, _⟩ => show C + 1 * c.val = C + c.val; omega))
  have e4 : ∀ a : Fin 256, (View.ld (Val := Elt Ideal) (e' := .bf16) x4 (Rect.unit (s := S256x256) ![0, 0] S256x256.size i4) : S256x256.Idx → EReal) (ix2 a c)
      = x4 (ix2 a ⟨(C + c.val) % 256, by omega⟩) := fun a =>
    congrArg x4 (funext fun b => Fin.ext (by
      match b with
      | ⟨0, _⟩ => show 0 + 1 * a.val = a.val; omega
      | ⟨1, _⟩ => show 0 + 1 * c.val = (C + c.val) % 256; omega))
  rw [hy]
  refine (tQK_apply _ _ _ _ _ r c).trans ?_
  rw [dot_ld x0 x1 x2 T C i0 iw i1 r c ⟨T + r.val, by omega⟩ ⟨C + c.val, by omega⟩ rfl rfl, e3]
  unfold blk5
  refine congrArg (fun z => dotB x0 x1 x2 ⟨T + r.val, by omega⟩ ⟨C + c.val, by omega⟩ * Ideal.rsqrt (z + eps) * x3 (ix2 0 ⟨C + c.val, by omega⟩)) ?_
  refine Finset.sum_congr rfl fun a _ => ?_
  rw [e4 a, dot_ld x0 x1 x2 T C i0 iw i1 r a ⟨T + r.val, by omega⟩ ⟨(C + c.val) / 256 * 256 + a.val, by omega⟩ rfl
    (by show (C + c.val) / 256 * 256 + a.val = C + a.val; omega)]

/-- One stored tile of values. -/
theorem piece6 (t C D : ℕ) (hD : D = 2048 + C) (i0 : ∀ a, (![256 * t, 0] : Fin 2 → ℕ) a + S256x1024.size a ≤ S1024x1024.size a)
    (iw : ∀ a, (![0, D] : Fin 2 → ℕ) a + S1024x256.size a ≤ S1024x3072.size a)
    (i1 : ∀ a, (![0, 0] : Fin 2 → ℕ) a + S1x1024.size a ≤ S1x1024.size a)
    (io : ∀ a, (![0, t, C, 0] : Fin 4 → ℕ) a + S1x1x256x256.size a ≤ S1x4x1024x256.size a) (x : S1x1x256x256.Idx) :
    (tV (F := Ideal) (View.ld (Val := Elt Ideal) (e' := .f32) x0 (Rect.unit (s := S1024x1024) ![256 * t, 0] S256x1024.size i0)) (View.ld (Val := Elt Ideal) (e' := .f32) x1 (Rect.unit (s := S1x1024) ![0, 0] S1x1024.size i1))
        (View.ld (Val := Elt Ideal) (e' := .bf16) x2 (Rect.unit (s := S1024x3072) ![0, D] S1024x256.size iw)) x : EReal)
      = blk6 x0 x1 x2 ((Rect.unit (s := S1x4x1024x256) ![0, t, C, 0] S1x1x256x256.size io).emb x) := by
  obtain ⟨a, b, c, r, rfl⟩ : ∃ (a b : Fin 1) (c r : Fin 256), x = ix4 a b c r := ⟨_, _, _, _, eq_ix4 x⟩
  have b1 : t + 1 ≤ 4 := io 1
  have b2 : C + 256 ≤ 1024 := io 2
  refine (tV_apply _ _ _ a b c r).trans ?_
  unfold blk6
  refine dot_ld x0 x1 x2 (256 * t) D i0 iw i1 r c _ _ ?_ ?_
  · show (t + 1 * b.val) * 256 + (0 + 1 * r.val) = 256 * t + r.val
    have := b.isLt
    omega
  · show 2048 + (C + 1 * c.val) = D + c.val
    omega

set_option maxHeartbeats 4000000 in
/-- The queries and keys that a grid point stores. -/
theorem out5_apply (y : S1024x2048.Idx) : (out0_5 (F := Ideal) x0 x1 x2 x3 x4 y : EReal) = blk5 x0 x1 x2 x3 x4 y := by
  rw [out5_eq]
  refine View.canon_apply_of_pieces (Val := Elt Ideal) (e := .bf16) (blk5 x0 x1 x2 x3 x4) _ ?_ y (cover0_5 (F := Ideal) _ _ _ _ _ _ _ _ _ _ _ _ _ _ _ _ _ _ _ _ _ _ _ _ _ _ _ _ _ _ _ _ y)
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact piece5 x0 x1 x2 x3 x4 768 1792 rfl _ _ _ _ _ inb_S1024x2048_S256x256_768_1792
    · exact piece5 x0 x1 x2 x3 x4 768 1536 rfl _ _ _ _ _ inb_S1024x2048_S256x256_768_1536
    · exact piece5 x0 x1 x2 x3 x4 768 1280 rfl _ _ _ _ _ inb_S1024x2048_S256x256_768_1280
    · exact piece5 x0 x1 x2 x3 x4 768 1024 rfl _ _ _ _ _ inb_S1024x2048_S256x256_768_1024
    · exact piece5 x0 x1 x2 x3 x4 768 768 rfl _ _ _ _ _ inb_S1024x2048_S256x256_768_768
    · exact piece5 x0 x1 x2 x3 x4 768 512 rfl _ _ _ _ _ inb_S1024x2048_S256x256_768_512
    · exact piece5 x0 x1 x2 x3 x4 768 256 rfl _ _ _ _ _ inb_S1024x2048_S256x256_768_256
    · exact piece5 x0 x1 x2 x3 x4 768 0 rfl _ _ _ _ _ inb_S1024x2048_S256x256_768_0
    · exact piece5 x0 x1 x2 x3 x4 512 1792 rfl _ _ _ _ _ inb_S1024x2048_S256x256_512_1792
    · exact piece5 x0 x1 x2 x3 x4 512 1536 rfl _ _ _ _ _ inb_S1024x2048_S256x256_512_1536
    · exact piece5 x0 x1 x2 x3 x4 512 1280 rfl _ _ _ _ _ inb_S1024x2048_S256x256_512_1280
    · exact piece5 x0 x1 x2 x3 x4 512 1024 rfl _ _ _ _ _ inb_S1024x2048_S256x256_512_1024
    · exact piece5 x0 x1 x2 x3 x4 512 768 rfl _ _ _ _ _ inb_S1024x2048_S256x256_512_768
    · exact piece5 x0 x1 x2 x3 x4 512 512 rfl _ _ _ _ _ inb_S1024x2048_S256x256_512_512
    · exact piece5 x0 x1 x2 x3 x4 512 256 rfl _ _ _ _ _ inb_S1024x2048_S256x256_512_256
    · exact piece5 x0 x1 x2 x3 x4 512 0 rfl _ _ _ _ _ inb_S1024x2048_S256x256_512_0
    · exact piece5 x0 x1 x2 x3 x4 256 1792 rfl _ _ _ _ _ inb_S1024x2048_S256x256_256_1792
    · exact piece5 x0 x1 x2 x3 x4 256 1536 rfl _ _ _ _ _ inb_S1024x2048_S256x256_256_1536
    · exact piece5 x0 x1 x2 x3 x4 256 1280 rfl _ _ _ _ _ inb_S1024x2048_S256x256_256_1280
    · exact piece5 x0 x1 x2 x3 x4 256 1024 rfl _ _ _ _ _ inb_S1024x2048_S256x256_256_1024
    · exact piece5 x0 x1 x2 x3 x4 256 768 rfl _ _ _ _ _ inb_S1024x2048_S256x256_256_768
    · exact piece5 x0 x1 x2 x3 x4 256 512 rfl _ _ _ _ _ inb_S1024x2048_S256x256_256_512
    · exact piece5 x0 x1 x2 x3 x4 256 256 rfl _ _ _ _ _ inb_S1024x2048_S256x256_256_256
    · exact piece5 x0 x1 x2 x3 x4 256 0 rfl _ _ _ _ _ inb_S1024x2048_S256x256_256_0
    · exact piece5 x0 x1 x2 x3 x4 0 1792 rfl _ _ _ _ _ inb_S1024x2048_S256x256_0_1792
    · exact piece5 x0 x1 x2 x3 x4 0 1536 rfl _ _ _ _ _ inb_S1024x2048_S256x256_0_1536
    · exact piece5 x0 x1 x2 x3 x4 0 1280 rfl _ _ _ _ _ inb_S1024x2048_S256x256_0_1280
    · exact piece5 x0 x1 x2 x3 x4 0 1024 rfl _ _ _ _ _ inb_S1024x2048_S256x256_0_1024
    · exact piece5 x0 x1 x2 x3 x4 0 768 rfl _ _ _ _ _ inb_S1024x2048_S256x256_0_768
    · exact piece5 x0 x1 x2 x3 x4 0 512 rfl _ _ _ _ _ inb_S1024x2048_S256x256_0_512
    · exact piece5 x0 x1 x2 x3 x4 0 256 rfl _ _ _ _ _ inb_S1024x2048_S256x256_0_256
    · exact piece5 x0 x1 x2 x3 x4 0 0 rfl _ _ _ _ _ inb_S1024x2048_S256x256_0_0

set_option maxHeartbeats 4000000 in
/-- The values that a grid point stores. -/
theorem out6_apply (y : S1x4x1024x256.Idx) : (out0_6 (F := Ideal) x0 x1 x2 x3 x4 y : EReal) = blk6 x0 x1 x2 y := by
  rw [out6_eq]
  refine View.canon_apply_of_pieces (Val := Elt Ideal) (e := .bf16) (blk6 x0 x1 x2) _ ?_ y (cover0_6 (F := Ideal) _ _ _ _ _ _ _ _ _ _ _ _ _ _ _ _ y)
  · intro p hp
    simp only [List.mem_cons, List.not_mem_nil, or_false] at hp
    rcases hp with rfl | rfl | rfl | rfl | rfl | rfl | rfl | rfl | rfl | rfl | rfl | rfl | rfl | rfl | rfl | rfl
    · exact piece6 x0 x1 x2 3 768 2816 rfl _ _ _ inb_S1x4x1024x256_S1x1x256x256_0_3_768_0
    · exact piece6 x0 x1 x2 3 512 2560 rfl _ _ _ inb_S1x4x1024x256_S1x1x256x256_0_3_512_0
    · exact piece6 x0 x1 x2 3 256 2304 rfl _ _ _ inb_S1x4x1024x256_S1x1x256x256_0_3_256_0
    · exact piece6 x0 x1 x2 3 0 2048 rfl _ _ _ inb_S1x4x1024x256_S1x1x256x256_0_3_0_0
    · exact piece6 x0 x1 x2 2 768 2816 rfl _ _ _ inb_S1x4x1024x256_S1x1x256x256_0_2_768_0
    · exact piece6 x0 x1 x2 2 512 2560 rfl _ _ _ inb_S1x4x1024x256_S1x1x256x256_0_2_512_0
    · exact piece6 x0 x1 x2 2 256 2304 rfl _ _ _ inb_S1x4x1024x256_S1x1x256x256_0_2_256_0
    · exact piece6 x0 x1 x2 2 0 2048 rfl _ _ _ inb_S1x4x1024x256_S1x1x256x256_0_2_0_0
    · exact piece6 x0 x1 x2 1 768 2816 rfl _ _ _ inb_S1x4x1024x256_S1x1x256x256_0_1_768_0
    · exact piece6 x0 x1 x2 1 512 2560 rfl _ _ _ inb_S1x4x1024x256_S1x1x256x256_0_1_512_0
    · exact piece6 x0 x1 x2 1 256 2304 rfl _ _ _ inb_S1x4x1024x256_S1x1x256x256_0_1_256_0
    · exact piece6 x0 x1 x2 1 0 2048 rfl _ _ _ inb_S1x4x1024x256_S1x1x256x256_0_1_0_0
    · exact piece6 x0 x1 x2 0 768 2816 rfl _ _ _ inb_S1x4x1024x256_S1x1x256x256_0_0_768_0
    · exact piece6 x0 x1 x2 0 512 2560 rfl _ _ _ inb_S1x4x1024x256_S1x1x256x256_0_0_512_0
    · exact piece6 x0 x1 x2 0 256 2304 rfl _ _ _ inb_S1x4x1024x256_S1x1x256x256_0_0_256_0
    · exact piece6 x0 x1 x2 0 0 2048 rfl _ _ _ inb_S1x4x1024x256_S1x1x256x256_0_0_0_0

end Cert.Proof.Proj

end
-- ==== Proof.ProjResult.lean ====
module

public import proofs.«01_k».proof.Proof.ProjArgs
public import proofs.«01_k».proof.Proof.ProjBlock
public import proofs.«01_k».proof.Proof.Gen.Kernel2Ideal.Value
public import Idealize.ShloMosaic.Lib.Pipeline.ArrRel
public import Idealize.ShloMosaic.Lib.Pipeline.ValueKit.Geometry

@[expose] public section

set_option maxRecDepth 16384

noncomputable section

/-!
# The result arrays of the projection

Grid point `t` works on rows `1024 t` to `1024 t + 1023`. With what each point stores, the two result arrays are the formulas of the
specification at every index.
-/

namespace Cert.Proof.Proj

open Cert.Kernel2Ideal Cert.Kernel2Ideal.Gen
open Idealize.ShloMosaic Idealize.ShloMosaic.TcCoe Idealize.ShloMosaic.Tactic Idealize.ShloMosaic.ValueIdx Idealize.ShloMosaic.Pipeline
open Idealize.SL

/-! ## Where the blocks lie -/

theorem at0 : ∀ t : Fin grid0.N, win0_0.index t = ![t.val, 0] := by decide +kernel
theorem at1 : ∀ t : Fin grid0.N, win0_1.index t = ![0, 0] := by decide +kernel
theorem at2 : ∀ t : Fin grid0.N, win0_2.index t = ![0, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![t.val, 0] := by decide +kernel
theorem at6 : ∀ t : Fin grid0.N, win0_6.index t = ![t.val / 2, t.val % 2, 0, 0] := by decide +kernel

variable (m : (ℓ : Loc nD τ sig) → Buf (Elt Ideal) ℓ)

theorem points (t : Fin cfg0.N) : t.val < 64 := t.isLt

theorem stage0 (c : Dev nD) (t : Fin cfg0.N) (r : Fin 1024) (d : Fin 1024) :
    (iblk m c 0 t : S1024x1024.Idx → EReal) (ix2 r d)
      = b0 m c (ix3 ⟨(t.val * 1024 + r.val) / 2048, by have := points t; omega⟩ ⟨(t.val * 1024 + r.val) % 2048, by omega⟩ d) := by
  have ht := points t
  have e : (iblk m c 0 t : S1024x1024.Idx → EReal) (ix2 r d) = V m c main_v24 (ix2 ⟨t.val * 1024 + r.val, by omega⟩ d : S65536x1024.Idx) := by
    blk_ext [iblk, at0 t]
  rw [e, V_rows]
  exact rows_apply _ _ _

theorem stage1 (c : Dev nD) (t : Fin cfg0.N) (d : Fin 1024) : (iblk m c 1 t : S1x1024.Idx → EReal) (ix2 0 d) = b1 m c (ix1 d) := by
  have e : (iblk m c 1 t : S1x1024.Idx → EReal) (ix2 0 d) = V m c main_v25 (ix2 0 d : S1x1024.Idx) := by
    blk_ext [iblk, at1 t]
  rw [e, V_gain]
  exact gain_apply _ _

theorem stage2 (c : Dev nD) (t : Fin cfg0.N) (d : Fin 1024) (j : Fin 3072) :
    (iblk m c 2 t : S1024x3072.Idx → EReal) (ix2 d j) = b2 m c (ix2 d ⟨perm j.val, perm_lt j.isLt⟩) := by
  have e : (iblk m c 2 t : S1024x3072.Idx → EReal) (ix2 d j) = V m c main_v5 (ix2 d j : S1024x3072.Idx) := by
    blk_ext [iblk, at2 t]
  rw [e, V_weights]
  exact weights_apply _ _ _

theorem stage3 (c : Dev nD) (t : Fin cfg0.N) (j : Fin 2048) :
    (iblk m c 3 t : S1x2048.Idx → EReal) (ix2 0 j)
      = gainOf (b3 m c) (b4 m c) (b5 m c) (b6 m c) ⟨j.val / 512, by omega⟩ ⟨j.val % 64, by omega⟩ := by
  have e : (iblk m c 3 t : S1x2048.Idx → EReal) (ix2 0 j) = V m c main_v23 (ix2 0 j : S1x2048.Idx) := by
    blk_ext [iblk, at3 t]
  rw [e, V_gains]
  exact gains_apply _ _ _ _ _

theorem stage4 (c : Dev nD) (t : Fin cfg0.N) (a b : Fin 256) :
    (iblk m c 4 t : S256x256.Idx → EReal) (ix2 a b) = if a.val / 64 = b.val / 64 then ((1 / 64 : ℝ) : EReal) else 0 := by
  have e : (iblk m c 4 t : S256x256.Idx → EReal) (ix2 a b) = V m c main_cst (ix2 a b : S256x256.Idx) := by
    blk_ext [iblk, at4 t]
  rw [e, V_matrix]
  exact matrix_apply a b

/-- A staged row's product with a column is the specification's. -/
theorem stage_dot (c : Dev nD) (t : Fin cfg0.N) (r : Fin 1024) (j : Fin 3072) :
    dotB (iblk m c 0 t) (iblk m c 1 t) (iblk m c 2 t) r j
      = proj (b0 m c) (b1 m c) (b2 m c) ⟨(t.val * 1024 + r.val) / 2048, by have := points t; omega⟩ ⟨(t.val * 1024 + r.val) % 2048, by omega⟩
          ⟨perm j.val, perm_lt j.isLt⟩ := by
  unfold dotB proj
  rw [funext (stage0 m c t r), funext (stage1 m c t), funext fun d => stage2 m c t d j]

/-- The queries and keys of a block are the specification's. -/
theorem block5 (c : Dev nD) (t : Fin cfg0.N) (r : Fin 1024) (j : Fin 2048) :
    blk5 (iblk m c 0 t) (iblk m c 1 t) (iblk m c 2 t) (iblk m c 3 t) (iblk m c 4 t) (ix2 r j)
      = qkTarget (b0 m c) (b1 m c) (b2 m c) (b3 m c) (b4 m c) (b5 m c) (b6 m c)
          (ix2 ⟨t.val * 1024 + r.val, by have := points t; omega⟩ j : S65536x2048.Idx) := by
  have ht := points t
  have hj := j.isLt
  have hsum : ∑ a : Fin 256, dotB (iblk m c 0 t) (iblk m c 1 t) (iblk m c 2 t) r ⟨j.val / 256 * 256 + a.val, by omega⟩
        * dotB (iblk m c 0 t) (iblk m c 1 t) (iblk m c 2 t) r ⟨j.val / 256 * 256 + a.val, by omega⟩
        * (iblk m c 4 t : S256x256.Idx → EReal) (ix2 a ⟨j.val % 256, by omega⟩)
      = Ideal.div (∑ e : Fin 64, dotB (iblk m c 0 t) (iblk m c 1 t) (iblk m c 2 t) r ⟨j.val / 64 * 64 + e.val, by omega⟩
          * dotB (iblk m c 0 t) (iblk m c 1 t) (iblk m c 2 t) r ⟨j.val / 64 * 64 + e.val, by omega⟩) (Ideal.ofBits .f32 0x42800000#32) := by
    simp only [stage4]
    refine (sum_head (fun a => dotB (iblk m c 0 t) (iblk m c 1 t) (iblk m c 2 t) r ⟨j.val / 256 * 256 + a.val, by omega⟩
        * dotB (iblk m c 0 t) (iblk m c 1 t) (iblk m c 2 t) r ⟨j.val / 256 * 256 + a.val, by omega⟩) ⟨j.val % 256 / 64, by omega⟩).trans ?_
    refine congrArg (fun z => Ideal.div z (Ideal.ofBits .f32 0x42800000#32)) (Finset.sum_congr rfl fun e _ => ?_)
    have hc : (⟨j.val / 256 * 256 + (j.val % 256 / 64 * 64 + e.val), by omega⟩ : Fin 3072) = ⟨j.val / 64 * 64 + e.val, by omega⟩ :=
      Fin.ext (by show j.val / 256 * 256 + (j.val % 256 / 64 * 64 + e.val) = j.val / 64 * 64 + e.val; omega)
    show dotB _ _ _ r ⟨j.val / 256 * 256 + (j.val % 256 / 64 * 64 + e.val), by omega⟩ * dotB _ _ _ r ⟨j.val / 256 * 256 + (j.val % 256 / 64 * 64 + e.val), by omega⟩ = _
    rw [hc]
  show dotB (iblk m c 0 t) (iblk m c 1 t) (iblk m c 2 t) r ⟨j.val, by omega⟩
    * Ideal.rsqrt (∑ a : Fin 256, dotB (iblk m c 0 t) (iblk m c 1 t) (iblk m c 2 t) r ⟨j.val / 256 * 256 + a.val, by omega⟩
        * dotB (iblk m c 0 t) (iblk m c 1 t) (iblk m c 2 t) r ⟨j.val / 256 * 256 + a.val, by omega⟩
        * (iblk m c 4 t : S256x256.Idx → EReal) (ix2 a ⟨j.val % 256, by omega⟩) + eps) * (iblk m c 3 t : S1x2048.Idx → EReal) (ix2 0 j) = _
  rw [hsum, stage3]
  simp only [stage_dot]
  unfold qkTarget headNorm
  have hp : (⟨perm j.val, perm_lt (by omega)⟩ : Fin 3072) = ⟨perm (j.val / 64 * 64 + j.val % 64), perm_lt (by omega)⟩ :=
    Fin.ext (by show perm j.val = perm (j.val / 64 * 64 + j.val % 64); rw [show j.val / 64 * 64 + j.val % 64 = j.val by omega])
  rw [hp]

/-- The values of a block are the specification's. -/
theorem block6 (c : Dev nD) (t : Fin cfg0.N) (a : Fin 1) (u : Fin 4) (j : Fin 1024) (r : Fin 256) :
    blk6 (iblk m c 0 t) (iblk m c 1 t) (iblk m c 2 t) (ix4 a u j r)
      = vTarget (b0 m c) (b1 m c) (b2 m c)
          (ix4 ⟨t.val / 2, by have := points t; omega⟩ ⟨t.val % 2 * 4 + u.val, by omega⟩ j r : S32x8x1024x256.Idx) := by
  have ht := points t
  show dotB (iblk m c 0 t) (iblk m c 1 t) (iblk m c 2 t) ⟨u.val * 256 + r.val, by omega⟩ ⟨2048 + j.val, by omega⟩ = _
  rw [stage_dot]
  show _ = proj (b0 m c) (b1 m c) (b2 m c) ⟨t.val / 2, by omega⟩ ⟨(t.val % 2 * 4 + u.val) * 256 + r.val, by omega⟩ ⟨perm (2048 + j.val), perm_lt (by omega)⟩
  have e1 : (⟨(t.val * 1024 + (u.val * 256 + r.val)) / 2048, by omega⟩ : Fin 32) = ⟨t.val / 2, by omega⟩ :=
    Fin.ext (by show (t.val * 1024 + (u.val * 256 + r.val)) / 2048 = t.val / 2; omega)
  have e2 : (⟨(t.val * 1024 + (u.val * 256 + r.val)) % 2048, by omega⟩ : Fin 2048) = ⟨(t.val % 2 * 4 + u.val) * 256 + r.val, by omega⟩ :=
    Fin.ext (by show (t.val * 1024 + (u.val * 256 + r.val)) % 2048 = (t.val % 2 * 4 + u.val) * 256 + r.val; omega)
  rw [← e1, ← e2]

/-- The first result array. -/
theorem array5 (c : Dev nD) : (dats m 0 c).arrAt 5 cfg0.N = qkTarget (b0 m c) (b1 m c) (b2 m c) (b3 m c) (b4 m c) (b5 m c) (b6 m c) := by
  refine Dat.arrAt_eq_of_covers _ 5 _ (by decide +kernel) fun t hf y => ?_
  obtain ⟨r, j, rfl⟩ : ∃ (r : Fin 1024) (j : Fin 2048), y = ix2 r j := ⟨_, _, eq_ix2 y⟩
  refine (congrFun (after0_5 m c t) _).trans ((out5_apply _ _ _ _ _ _).trans ((block5 m c t r j).trans ?_))
  refine congrArg (qkTarget (b0 m c) (b1 m c) (b2 m c) (b3 m c) (b4 m c) (b5 m c) (b6 m c)) ?_
  blk_ext [at5 t]

/-- The second result array. -/
theorem array6 (c : Dev nD) : (dats m 0 c).arrAt 6 cfg0.N = vTarget (b0 m c) (b1 m c) (b2 m c) := by
  refine Dat.arrAt_eq_of_covers _ 6 _ (by decide +kernel) fun t hf y => ?_
  obtain ⟨a, u, j, r, rfl⟩ : ∃ (a : Fin 1) (u : Fin 4) (j : Fin 1024) (r : Fin 256), y = ix4 a u j r := ⟨_, _, _, _, eq_ix4 y⟩
  refine (congrFun (after0_6 m c t) _).trans ((out6_apply _ _ _ _ _ _).trans ((block6 m c t a u j r).trans ?_))
  refine congrArg (vTarget (b0 m c) (b1 m c) (b2 m c)) ?_
  blk_ext [at6 t]

end Cert.Proof.Proj

end
-- ==== Proof.ProjRef.lean ====
module

public import proofs.«01_k».proof.Proof.ProjSpec
public import proofs.«01_k».proof.Proof.Gen.Reference2Ideal.Read
public import Idealize.ShloMosaic.Lib.ValueIdx
public import Idealize.ShloMosaic.Lib.Pipeline.Value

@[expose] public section

set_option maxRecDepth 16384

noncomputable section

/-!
# The reference of the projection, read at an index

The reference's two results are the formulas of the specification at every index.
-/

namespace Cert.Proof.Proj

open Cert.Reference2Ideal Cert.Reference2Ideal.Gen Cert.Reference2Ideal.Read
open Idealize.ShloMosaic Idealize.ShloMosaic.TcCoe Idealize.ShloMosaic.ValueIdx

/-! ## The layouts -/

section Layout

variable {α : Type}

theorem heads_apply (Y : S32x2048x512.Idx → α) (b : Fin 32) (s : Fin 2048) (h : Fin 8) (e : Fin 64) :
    shapeCast S32x2048x8x64 Y shapeCasts_S32x2048x512_S32x2048x8x64 (ix4 b s h e) = Y (ix3 b s ⟨h.val * 64 + e.val, by omega⟩) :=
  shapeCast_apply _ _ _ _ (by
    rw [Shape.rowMajor_val_three, Shape.rowMajor_val_four]
    show (b.val * 2048 + s.val) * 512 + (h.val * 64 + e.val) = ((b.val * 2048 + s.val) * 8 + h.val) * 64 + e.val
    omega)

theorem slice_apply (o : ℕ) (Y : S32x2048x3072.Idx → α) (H) (b : Fin 32) (s : Fin 2048) (c : Fin 512) (C : Fin 3072) (hC : C.val = o + c.val) :
    extractStridedSlice S32x2048x512 ![0, 0, o] Y H (ix3 b s c) = Y (ix3 b s C) :=
  extractStridedSlice_apply _ _ _ _ _ (fun a => by
    match a with
    | ⟨0, _⟩ => show b.val = 0 + b.val; omega
    | ⟨1, _⟩ => show s.val = 0 + s.val; omega
    | ⟨2, _⟩ => exact hC)

theorem perGain_apply (g : S64.Idx → α) (b : Fin 32) (s : Fin 2048) (h : Fin 8) (e : Fin 64) :
    broadcastInDim S32x2048x8x64 ![0, 1, 2, 3] bcast_S1x1x1x64_S32x2048x8x64_0_1_2_3 (broadcastInDim S1x1x1x64 ![3] bcast_S64_S1x1x1x64_3 g) (ix4 b s h e)
      = g (ix1 e) :=
  (broadcastInDim_apply _ _ _ _ (ix4 0 0 0 e) (fun a => by match a with | ⟨0, _⟩ => rfl | ⟨1, _⟩ => rfl | ⟨2, _⟩ => rfl | ⟨3, _⟩ => rfl)).trans
    (broadcastInDim_apply _ _ _ _ (ix1 e) (fun a => by match a with | ⟨0, _⟩ => rfl))

theorem perHead_apply (R : S32x2048x8x1.Idx → α) (b : Fin 32) (s : Fin 2048) (h : Fin 8) (e : Fin 64) :
    broadcastInDim S32x2048x8x64 ![0, 1, 2, 3] bcast_S32x2048x8x1_S32x2048x8x64_0_1_2_3 R (ix4 b s h e) = R (ix4 b s h 0) :=
  broadcastInDim_apply _ _ _ _ _ (fun a => by match a with | ⟨0, _⟩ => rfl | ⟨1, _⟩ => rfl | ⟨2, _⟩ => rfl | ⟨3, _⟩ => rfl)

theorem column_apply (R : S32x2048x8.Idx → α) (b : Fin 32) (s : Fin 2048) (h : Fin 8) :
    broadcastInDim S32x2048x8x1 ![0, 1, 2] bcast_S32x2048x8_S32x2048x8x1_0_1_2 R (ix4 b s h 0) = R (ix3 b s h) :=
  broadcastInDim_apply _ _ _ _ _ (fun a => by match a with | ⟨0, _⟩ => rfl | ⟨1, _⟩ => rfl | ⟨2, _⟩ => rfl)

end Layout

/-! ## The norm per head -/

section Generic

variable {F : FTy → Type} [FloatOps F]

/-- The reference's mean of squares per head, under the root. -/
def rMean (P : FVec F S32x2048x8x64 .f32) : FVec F S32x2048x8x1 .f32 :=
  Host.rsqrt (addf (Host.divf (broadcastInDim S32x2048x8x1 ![0, 1, 2] bcast_S32x2048x8_S32x2048x8x1_0_1_2
        (Host.reduceAdd (mulf P P) (constant S_ .f32 0x00000000#32) reducesTo_S32x2048x8x64_S32x2048x8_d3 h_S_))
      (broadcastInDim S32x2048x8x1 ![] bcast_S_S32x2048x8x1 (constant S_ .f32 0x42800000#32)))
    (broadcastInDim S32x2048x8x1 ![] bcast_S_S32x2048x8x1 (constant S_ .f32 0x358637BD#32)))

/-- The reference's norm per head, with its gains. -/
def rHead (P : FVec F S32x2048x8x64 .f32) (g : FVec F S64 .f32) : FVec F S32x2048x8x64 .f32 :=
  mulf (mulf P (broadcastInDim S32x2048x8x64 ![0, 1, 2, 3] bcast_S32x2048x8x1_S32x2048x8x64_0_1_2_3 (rMean P)))
    (broadcastInDim S32x2048x8x64 ![0, 1, 2, 3] bcast_S1x1x1x64_S32x2048x8x64_0_1_2_3 (broadcastInDim S1x1x1x64 ![3] bcast_S64_S1x1x1x64_3 g))

variable (x0 : FVec F S32x2048x1024 .f32) (x1 : FVec F S1024 .f32) (x2 : FVec F S1024x3072 .f32) (g : FVec F S64 .f32)

theorem v33_eq : val_main_v33 (F := F) x0 x1 x2 g = rHead (val_main_v20 (F := F) x0 x1 x2) g := rfl
theorem v49_eq : val_main_v49 (F := F) x0 x1 x2 g = rHead (val_main_v36 (F := F) x0 x1 x2) g := rfl
theorem v63_eq : val_main_v63 (F := F) x0 x1 x2 g = rHead (val_main_v50 (F := F) x0 x1 x2) g := rfl
theorem v79_eq : val_main_v79 (F := F) x0 x1 x2 g = rHead (val_main_v66 (F := F) x0 x1 x2) g := rfl

end Generic

/-- The sum of squares of a head. -/
theorem rSquares_apply (P : S32x2048x8x64.Idx → EReal) (b : Fin 32) (s : Fin 2048) (h : Fin 8) :
    (Host.reduceAdd (F := Ideal) (φ := .f32) (mulf (F := Ideal) (φ := .f32) P P) (constant S_ .f32 0x00000000#32) reducesTo_S32x2048x8x64_S32x2048x8_d3 h_S_ (ix3 b s h) : EReal)
      = ∑ e : Fin 64, P (ix4 b s h e) * P (ix4 b s h e) := by
  simp only [Host.reduceAdd, Ideal.hostReduceAdd_def]
  rw [Ideal.hostReduceAdd_single reducesTo_S32x2048x8x64_S32x2048x8_d3 (by decide)]
  have ez : (constant (F := Ideal) S_ .f32 0x00000000#32 (Shape.Idx.first h_S_) : EReal) = 0 := Ideal.ofBits_zero_f32
  refine (congrArg (· + _) ez).trans ((zero_add _).trans (Finset.sum_congr rfl fun e _ => ?_))
  exact congrArg (fun i => P i * P i) (funext fun a => Fin.ext (by
    match a with | ⟨0, _⟩ => rfl | ⟨1, _⟩ => rfl | ⟨2, _⟩ => rfl | ⟨3, _⟩ => rfl))

/-- The root of a head's mean square. -/
theorem rMean_apply (P : S32x2048x8x64.Idx → EReal) (b : Fin 32) (s : Fin 2048) (h : Fin 8) :
    (rMean (F := Ideal) P (ix4 b s h 0) : EReal)
      = Ideal.rsqrt (Ideal.div (∑ e : Fin 64, P (ix4 b s h e) * P (ix4 b s h e)) (Ideal.ofBits .f32 0x42800000#32) + eps) := by
  have e1 := (column_apply (Host.reduceAdd (F := Ideal) (φ := .f32) (mulf (F := Ideal) (φ := .f32) P P) (constant S_ .f32 0x00000000#32)
    reducesTo_S32x2048x8x64_S32x2048x8_d3 h_S_) b s h).trans (rSquares_apply P b s h)
  rw [← e1]
  rfl

/-- The norm per head at an index. -/
theorem rHead_apply (P : S32x2048x8x64.Idx → EReal) (g : S64.Idx → EReal) (b : Fin 32) (s : Fin 2048) (h : Fin 8) (e : Fin 64) :
    (rHead (F := Ideal) P g (ix4 b s h e) : EReal) = headNorm (fun j => P (ix4 b s h j)) e * g (ix1 e) := by
  have e1 := (perHead_apply (rMean (F := Ideal) P) b s h e).trans (rMean_apply P b s h)
  unfold headNorm
  show _ = P (ix4 b s h e) * Ideal.rsqrt (Ideal.div (∑ j : Fin 64, P (ix4 b s h j) * P (ix4 b s h j)) (Ideal.ofBits .f32 0x42800000#32) + eps) * g (ix1 e)
  rw [← e1, ← perGain_apply g b s h e]
  rfl

/-! ## The projection -/

variable (x : S32x2048x1024.Idx → EReal) (g1 : S1024.Idx → EReal) (w : S1024x3072.Idx → EReal)

theorem v12_apply (b : Fin 32) (s : Fin 2048) (d : Fin 1024) :
    (val_main_v12 (F := Ideal) x g1 (ix3 b s d) : EReal) = hid (fun j => x (ix3 b s j)) (fun j => g1 (ix1 j)) d := by
  have es : (val_main_v1 (F := Ideal) x (ix2 b s) : EReal) = ∑ j, x (ix3 b s j) * x (ix3 b s j) := by
    rw [val_main_v1_apply]
    have ez : (val_main_cst (F := Ideal) (Shape.Idx.first h_S_) : EReal) = 0 := Ideal.ofBits_zero_f32
    refine (congrArg (· + _) ez).trans ((zero_add _).trans (Finset.sum_congr rfl fun j _ => ?_))
    have hi : idx_main_v1 (ix2 b s) j = ix3 b s j := by
      funext a; apply Fin.ext
      match a with | ⟨0, _⟩ => rfl | ⟨1, _⟩ => rfl | ⟨2, _⟩ => rfl
    rw [hi]
    rfl
  have e2 : (val_main_v2 (F := Ideal) x (ix3 b s 0) : EReal) = ∑ j, x (ix3 b s j) * x (ix3 b s j) := by
    rw [val_main_v2_apply, ← es]
    exact congrArg (val_main_v1 (F := Ideal) x) (by funext a; apply Fin.ext; match a with | ⟨0, _⟩ => rfl | ⟨1, _⟩ => rfl)
  have e8 : (val_main_v8 (F := Ideal) x (ix3 b s d) : EReal)
      = Ideal.rsqrt (Ideal.div (∑ j, x (ix3 b s j) * x (ix3 b s j)) (Ideal.ofBits .f32 0x44800000#32) + eps) := by
    rw [val_main_v8_apply, ← e2]
    have hi : idx_main_v8 (ix3 b s d) = ix3 b s 0 := by
      funext a; apply Fin.ext
      match a with | ⟨0, _⟩ => rfl | ⟨1, _⟩ => rfl | ⟨2, _⟩ => rfl
    rw [hi]
    rfl
  have e11 : (val_main_v11 (F := Ideal) g1 (ix3 b s d) : EReal) = g1 (ix1 d) := by
    rw [val_main_v11_apply, val_main_v10_apply]
    exact congrArg g1 (by funext a; apply Fin.ext; match a with | ⟨0, _⟩ => rfl)
  unfold hid
  show _ = x (ix3 b s d) * Ideal.rsqrt (Ideal.div (∑ j, x (ix3 b s j) * x (ix3 b s j)) (Ideal.ofBits .f32 0x44800000#32) + eps) * g1 (ix1 d)
  rw [← e8, ← e11]
  rfl

theorem v13_apply (b : Fin 32) (s : Fin 2048) (c : Fin 3072) : (val_main_v13 (F := Ideal) x g1 w (ix3 b s c) : EReal) = proj x g1 w b s c := by
  rw [val_main_v13_apply]
  unfold proj dot
  refine Finset.sum_congr rfl fun d _ => ?_
  have hl : lidx_main_v13 (ix3 b s c) d = ix3 b s d := by
    funext a; apply Fin.ext
    match a with | ⟨0, _⟩ => rfl | ⟨1, _⟩ => rfl | ⟨2, _⟩ => rfl
  have hr : ridx_main_v13 (ix3 b s c) d = ix2 d c := by
    funext a; apply Fin.ext
    match a with | ⟨0, _⟩ => rfl | ⟨1, _⟩ => rfl
  rw [hl, hr, v12_apply]

/-- 512 columns of the projection, split into heads. -/
theorem part_apply (o : ℕ) (H) (b : Fin 32) (s : Fin 2048) (h : Fin 8) (e : Fin 64) (C : Fin 3072) (hC : C.val = o + (h.val * 64 + e.val)) :
    shapeCast S32x2048x8x64 (extractStridedSlice S32x2048x512 ![0, 0, o] (val_main_v13 (F := Ideal) x g1 w) H) shapeCasts_S32x2048x512_S32x2048x8x64 (ix4 b s h e)
      = proj x g1 w b s C :=
  (heads_apply _ b s h e).trans ((slice_apply o _ H b s _ C hC).trans (v13_apply x g1 w b s C))

/-! ## The results -/

variable (gq gk mq mk : S64.Idx → EReal)

/-- The four kinds of head, side by side. -/
theorem v80_apply (b : Fin 32) (s : Fin 2048) (j : Fin 2048) :
    (val_main_v80 (F := Ideal) x g1 w gq gk mq mk (ix4 b s ⟨j.val / 64, by omega⟩ ⟨j.val % 64, by omega⟩) : EReal)
      = headNorm (fun e => proj x g1 w b s ⟨perm (j.val / 64 * 64 + e.val), perm_lt (by omega)⟩) ⟨j.val % 64, by omega⟩
        * gainOf gq gk mq mk ⟨j.val / 512, by omega⟩ ⟨j.val % 64, by omega⟩ := by
  have hj := j.isLt
  unfold val_main_v80
  rcases (by omega : j.val / 512 = 0 ∨ j.val / 512 = 1 ∨ j.val / 512 = 2 ∨ j.val / 512 = 3) with h | h | h | h
  · refine (concatenate_apply_piece (t := S32x2048x32x64) 2 _ _ _ 0 (by simp) S32x2048x8x64 (val_main_v35 (F := Ideal) x g1 w gq) rfl rfl 0 rfl
      (ix4 b s ⟨j.val / 64, by omega⟩ ⟨j.val % 64, by omega⟩)
      (fun b hb => by match b with | ⟨0, _⟩ => rfl | ⟨1, _⟩ => rfl | ⟨2, _⟩ => exact absurd rfl hb | ⟨3, _⟩ => rfl) (Nat.zero_add _)).trans ?_
    rw [show (⟨j.val / 512, by omega⟩ : Fin 4) = 0 from Fin.ext h]
    show (val_main_v33 (F := Ideal) x g1 w gq (ix4 b s ⟨j.val / 64, by omega⟩ ⟨j.val % 64, by omega⟩) : EReal) * scale = _ * (gq (ix1 _) * scale)
    rw [v33_eq, ← mul_assoc]
    refine congrArg (· * scale) ((rHead_apply _ gq b s _ _).trans ?_)
    refine congrArg (fun f => headNorm f _ * gq (ix1 _)) (funext fun e => ?_)
    exact part_apply x g1 w 0 _ b s _ e _ (by show perm (j.val / 64 * 64 + e.val) = 0 + (j.val / 64 * 64 + e.val); unfold perm; split_ifs <;> omega)
  · refine (concatenate_apply_piece (t := S32x2048x32x64) 2 _ _ _ 1 (by simp) S32x2048x8x64 (val_main_v49 (F := Ideal) x g1 w gk) rfl rfl 8 rfl
      (ix4 b s ⟨j.val / 64 - 8, by omega⟩ ⟨j.val % 64, by omega⟩)
      (fun b hb => by match b with | ⟨0, _⟩ => rfl | ⟨1, _⟩ => rfl | ⟨2, _⟩ => exact absurd rfl hb | ⟨3, _⟩ => rfl)
      (by show 8 + (j.val / 64 - 8) = j.val / 64; omega)).trans ?_
    rw [show (⟨j.val / 512, by omega⟩ : Fin 4) = 1 from Fin.ext h, v49_eq]
    refine (rHead_apply _ gk b s _ _).trans ?_
    refine congrArg (fun f => headNorm f _ * gk (ix1 _)) (funext fun e => ?_)
    exact part_apply x g1 w 512 _ b s _ e _ (by show perm (j.val / 64 * 64 + e.val) = 512 + ((j.val / 64 - 8) * 64 + e.val); unfold perm; split_ifs <;> omega)
  · refine (concatenate_apply_piece (t := S32x2048x32x64) 2 _ _ _ 2 (by simp) S32x2048x8x64 (val_main_v65 (F := Ideal) x g1 w mq) rfl rfl 16 rfl
      (ix4 b s ⟨j.val / 64 - 16, by omega⟩ ⟨j.val % 64, by omega⟩)
      (fun b hb => by match b with | ⟨0, _⟩ => rfl | ⟨1, _⟩ => rfl | ⟨2, _⟩ => exact absurd rfl hb | ⟨3, _⟩ => rfl)
      (by show 16 + (j.val / 64 - 16) = j.val / 64; omega)).trans ?_
    rw [show (⟨j.val / 512, by omega⟩ : Fin 4) = 2 from Fin.ext h]
    show (val_main_v63 (F := Ideal) x g1 w mq (ix4 b s ⟨j.val / 64 - 16, by omega⟩ ⟨j.val % 64, by omega⟩) : EReal) * scale = _ * (mq (ix1 _) * scale)
    rw [v63_eq, ← mul_assoc]
    refine congrArg (· * scale) ((rHead_apply _ mq b s _ _).trans ?_)
    refine congrArg (fun f => headNorm f _ * mq (ix1 _)) (funext fun e => ?_)
    exact part_apply x g1 w 1536 _ b s _ e _ (by show perm (j.val / 64 * 64 + e.val) = 1536 + ((j.val / 64 - 16) * 64 + e.val); unfold perm; split_ifs <;> omega)
  · refine (concatenate_apply_piece (t := S32x2048x32x64) 2 _ _ _ 3 (by simp) S32x2048x8x64 (val_main_v79 (F := Ideal) x g1 w mk) rfl rfl 24 rfl
      (ix4 b s ⟨j.val / 64 - 24, by omega⟩ ⟨j.val % 64, by omega⟩)
      (fun b hb => by match b with | ⟨0, _⟩ => rfl | ⟨1, _⟩ => rfl | ⟨2, _⟩ => exact absurd rfl hb | ⟨3, _⟩ => rfl)
      (by show 24 + (j.val / 64 - 24) = j.val / 64; omega)).trans ?_
    rw [show (⟨j.val / 512, by omega⟩ : Fin 4) = 3 from Fin.ext h, v79_eq]
    refine (rHead_apply _ mk b s _ _).trans ?_
    refine congrArg (fun f => headNorm f _ * mk (ix1 _)) (funext fun e => ?_)
    exact part_apply x g1 w 2048 _ b s _ e _ (by show perm (j.val / 64 * 64 + e.val) = 2048 + ((j.val / 64 - 24) * 64 + e.val); unfold perm; split_ifs <;> omega)

/-- The reference's queries and keys. -/
theorem reference_qk : val_main_v84 (F := Ideal) x g1 w gq gk mq mk = qkTarget x g1 w gq gk mq mk := by
  funext i
  obtain ⟨n, j, rfl⟩ : ∃ (n : Fin 65536) (j : Fin 2048), i = ix2 n j := ⟨_, _, eq_ix2 i⟩
  have hn := n.isLt
  have hj := j.isLt
  have hi : idx_main_v81 (ix2 n j) = ix4 ⟨n.val / 2048, by omega⟩ ⟨n.val % 2048, by omega⟩ ⟨j.val / 64, by omega⟩ ⟨j.val % 64, by omega⟩ := by
    funext a; apply Fin.ext
    match a with
    | ⟨0, _⟩ => show (n.val * 2048 + j.val) / 4194304 = n.val / 2048; omega
    | ⟨1, _⟩ => show (n.val * 2048 + j.val) / 2048 % 2048 = n.val % 2048; omega
    | ⟨2, _⟩ => show (n.val * 2048 + j.val) / 64 % 32 = j.val / 64; omega
    | ⟨3, _⟩ => show (n.val * 2048 + j.val) % 64 = j.val % 64; omega
  show (val_main_v81 (F := Ideal) x g1 w gq gk mq mk (ix2 n j) : EReal) = _
  rw [val_main_v81_apply, hi]
  exact v80_apply x g1 w gq gk mq mk _ _ j

/-- The values of both kinds, side by side. -/
theorem v82_apply (b : Fin 32) (s : Fin 2048) (c : Fin 1024) :
    (val_main_v82 (F := Ideal) x g1 w (ix3 b s c) : EReal) = proj x g1 w b s ⟨perm (2048 + c.val), perm_lt (by omega)⟩ := by
  have hc := c.isLt
  unfold val_main_v82
  by_cases h : c.val < 512
  · refine (concatenate_apply_piece (t := S32x2048x1024) 2 _ _ _ 0 (by simp) S32x2048x512 (val_main_v16 (F := Ideal) x g1 w) rfl rfl 0 rfl
      (ix3 b s ⟨c.val, h⟩)
      (fun b hb => by match b with | ⟨0, _⟩ => rfl | ⟨1, _⟩ => rfl | ⟨2, _⟩ => exact absurd rfl hb) (Nat.zero_add _)).trans ?_
    exact (slice_apply 1024 _ _ b s _ _ (by show perm (2048 + c.val) = 1024 + c.val; unfold perm; split_ifs <;> omega)).trans (v13_apply x g1 w b s _)
  · refine (concatenate_apply_piece (t := S32x2048x1024) 2 _ _ _ 1 (by simp) S32x2048x512 (val_main_v19 (F := Ideal) x g1 w) rfl rfl 512 rfl
      (ix3 b s ⟨c.val - 512, by omega⟩)
      (fun b hb => by match b with | ⟨0, _⟩ => rfl | ⟨1, _⟩ => rfl | ⟨2, _⟩ => exact absurd rfl hb)
      (by show 512 + (c.val - 512) = c.val; omega)).trans ?_
    exact (slice_apply 2560 _ _ b s _ _ (by show perm (2048 + c.val) = 2560 + (c.val - 512); unfold perm; split_ifs <;> omega)).trans (v13_apply x g1 w b s _)

/-- The reference's values. -/
theorem reference_v : val_main_v86 (F := Ideal) x g1 w = vTarget x g1 w := by
  funext i
  obtain ⟨b, t, c, r, rfl⟩ : ∃ (b : Fin 32) (t : Fin 8) (c : Fin 1024) (r : Fin 256), i = ix4 b t c r := ⟨_, _, _, _, eq_ix4 i⟩
  have hi : idx_main_v83 (ix4 b t r c) = ix3 b ⟨t.val * 256 + r.val, by omega⟩ c := by
    funext a; apply Fin.ext
    match a with
    | ⟨0, _⟩ => show (((b.val * 8 + t.val) * 256 + r.val) * 1024 + c.val) / 2097152 = b.val; omega
    | ⟨1, _⟩ => show (((b.val * 8 + t.val) * 256 + r.val) * 1024 + c.val) / 1024 % 2048 = t.val * 256 + r.val; omega
    | ⟨2, _⟩ => show (((b.val * 8 + t.val) * 256 + r.val) * 1024 + c.val) % 1024 = c.val; omega
  have h5 : idx_main_v85 (ix4 b t c r) = ix4 b t r c := by
    funext a; apply Fin.ext
    match a with | ⟨0, _⟩ => rfl | ⟨1, _⟩ => rfl | ⟨2, _⟩ => rfl | ⟨3, _⟩ => rfl
  show (val_main_v85 (F := Ideal) x g1 w (ix4 b t c r) : EReal) = _
  rw [val_main_v85_apply, h5, val_main_v83_apply, hi]
  exact v82_apply x g1 w b _ c

end Cert.Proof.Proj

end
-- ==== Proof.ProjValue.lean ====
module

public import proofs.«01_k».proof.Defs
public import proofs.«01_k».proof.Proof.ProjResult
public import proofs.«01_k».proof.Proof.ProjRef
public import proofs.«01_k».proof.Proof.Gen.Kernel2Ideal.Value
public import proofs.«01_k».proof.Proof.Gen.Reference2Ideal.Run
public import proofs.«01_k».proof.Proof.Gen.Reference2Ideal.Read

@[expose] public section

noncomputable section

/-!
# Projection and reference agree

Of any arguments, both programs leave the two arrays of the specification.
-/

namespace Cert.Proof.Proj

open Idealize.ShloMosaic Idealize.ShloMosaic.TcCoe Idealize.ShloMosaic.ValueIdx Idealize.ShloMosaic.Pipeline
open Idealize.SL Idealize.SL.Sem

/-- Projection and reference compute the same function over the extended reals, of any arguments. -/
theorem values [hK : Cert.Kernel2Ideal.Facts] [hR : Cert.Reference2Ideal.Facts] : Cert.algebraic_Kernel2Ideal_Reference2Ideal := by
  intro m g m' g' _ hargs
  refine ⟨fun c => qkTarget (b0 m c) (b1 m c) (b2 m c) (b3 m c) (b4 m c) (b5 m c) (b6 m c), fun c => vTarget (b0 m c) (b1 m c) (b2 m c), ?_, ?_⟩
  · refine (θ_run _ _ _).mono (fun r h c => ?_) (Cert.Kernel2Ideal.Value.run_blocks (F := Ideal) m g)
    obtain ⟨h5, h6, hrest⟩ := h c
    exact ⟨h5.trans (array5 m c), h6.trans (array6 m c), hrest⟩
  · refine (θ_run _ _ _).mono (fun r h c => ?_) (Cert.Reference2Ideal.Value.run (F := Ideal) m' g')
    obtain ⟨hq, hv, hrest⟩ := h c
    obtain ⟨e0, e1, e2, e3, e4, e5, e6⟩ := hargs c
    refine ⟨hq.trans ((Cert.Reference2Ideal.Read.val_main_v84_eq (F := Ideal) m' c).trans ?_),
      hv.trans ((Cert.Reference2Ideal.Read.val_main_v86_eq (F := Ideal) _ _ _).trans ?_), hrest⟩
    · rw [e0, e1, e2, e3, e4, e5, e6]
      exact reference_qk _ _ _ _ _ _ _
    · rw [e0, e1, e2]
      exact reference_v _ _ _

/-- The reference ends without a fault, its arguments as they were and every counter at zero (it has none). -/
theorem reference_frame [hR : Cert.Reference2Ideal.Facts] : Cert.quiescent_Reference2Ideal := fun m g _ =>
  (θ_run _ _ _).mono (fun r h => ⟨fun c => (h c).2.2, Idealize.ShloMosaic.sem_eq_zero_of_no_sems (by decide) r.2⟩)
    (Cert.Reference2Ideal.Value.run (F := Ideal) m g)

end Cert.Proof.Proj

end
-- ==== Proof.BiasSpec.lean ====
module

public import Idealize.ShloMosaic.PureOps.Ideal.Laws
public import Idealize.ShloMosaic.Lib.ValueIdx
public import Mathlib.Analysis.Complex.Exponential
public import Mathlib.Analysis.SpecialFunctions.Log.Basic

@[expose] public section

noncomputable section

/-!
# The distance buckets

The row of the bias table that a distance reads: the distance itself below sixteen, and above it sixteen rows whose boundaries grow by
the sixteenth root of 128. The boundaries as whole numbers, and that the logarithm of the definition finds exactly these.
-/

namespace Cert.Proof.Bias

open Idealize.ShloMosaic Idealize.ShloMosaic.ValueIdx

/-- The row of the table for the distance `z`: how many of the boundaries 1, …, 16, 22, …, 1513 it reaches. -/
def bucket (z : ℤ) : ℕ :=
  if 1513 ≤ z then 31
  else if 1117 ≤ z then 30 else if 825 ≤ z then 29 else if 609 ≤ z then 28 else if 450 ≤ z then 27 else if 332 ≤ z then 26 else if 246 ≤ z then 25
  else if 182 ≤ z then 24 else if 134 ≤ z then 23 else if 99 ≤ z then 22 else if 73 ≤ z then 21 else if 54 ≤ z then 20 else if 40 ≤ z then 19
  else if 30 ≤ z then 18 else if 22 ≤ z then 17 else if 16 ≤ z then 16 else if 15 ≤ z then 15 else if 14 ≤ z then 14 else if 13 ≤ z then 13
  else if 12 ≤ z then 12 else if 11 ≤ z then 11 else if 10 ≤ z then 10 else if 9 ≤ z then 9 else if 8 ≤ z then 8 else if 7 ≤ z then 7
  else if 6 ≤ z then 6 else if 5 ≤ z then 5 else if 4 ≤ z then 4 else if 3 ≤ z then 3 else if 2 ≤ z then 2 else if 1 ≤ z then 1 else 0

/-- A choice of two numbers below thirty-two is below it. -/
theorem ite_lt (p : Prop) [Decidable p] (a b : ℕ) (ha : a < 32) (hb : b < 32) : (if p then a else b) < 32 := by
  split <;> assumption

theorem bucket_lt (z : ℤ) : bucket z < 32 := by
  unfold bucket
  exact ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (ite_lt _ _ _ (by norm_num) (by norm_num)))))))))))))))))))))))))))))))

/-- A row of values read at the bucket of a distance. -/
def row (f : ℕ → EReal) (z : ℤ) : EReal :=
  if 1513 ≤ z then f 31
  else if 1117 ≤ z then f 30 else if 825 ≤ z then f 29 else if 609 ≤ z then f 28 else if 450 ≤ z then f 27 else if 332 ≤ z then f 26 else if 246 ≤ z then f 25
  else if 182 ≤ z then f 24 else if 134 ≤ z then f 23 else if 99 ≤ z then f 22 else if 73 ≤ z then f 21 else if 54 ≤ z then f 20 else if 40 ≤ z then f 19
  else if 30 ≤ z then f 18 else if 22 ≤ z then f 17 else if 16 ≤ z then f 16 else if 15 ≤ z then f 15 else if 14 ≤ z then f 14 else if 13 ≤ z then f 13
  else if 12 ≤ z then f 12 else if 11 ≤ z then f 11 else if 10 ≤ z then f 10 else if 9 ≤ z then f 9 else if 8 ≤ z then f 8 else if 7 ≤ z then f 7
  else if 6 ≤ z then f 6 else if 5 ≤ z then f 5 else if 4 ≤ z then f 4 else if 3 ≤ z then f 3 else if 2 ≤ z then f 2 else if 1 ≤ z then f 1 else f 0

theorem row_eq (f : ℕ → EReal) (z : ℤ) : row f z = f (bucket z) := by
  unfold row bucket
  simp only [apply_ite f]

/-! ## What the tiles hold -/

/-- The bias of the distance `z` in base-two units, from the rows `f`; a negative distance is masked. -/
def biasAt (f : ℕ → EReal) (z : ℤ) : EReal :=
  if z < 0 then Ideal.ofBits .f32 0xF149F2CA#32 else f (bucket z) * Ideal.ofBits .f32 0x3FB8AA3B#32

/-- The distance of query `q` of a tile from key `k` of the tile `d` diagonals before it. -/
def dist (d k q : ℕ) : ℤ := d * 256 + q - k

/-- One head's rows of the table. -/
def tab (x : (⟨2, ![32, 12]⟩ : Shape).Idx → EReal) (h : Fin 12) (b : ℕ) : EReal := x (ix2 ⟨min b 31, by omega⟩ h)

/-- The bias tiles of a table: head, diagonal, key, query. -/
def target (x : (⟨2, ![32, 12]⟩ : Shape).Idx → EReal) : (⟨4, ![12, 8, 256, 256]⟩ : Shape).Idx → EReal := fun y =>
  biasAt (tab x ⟨(y 0).val, (y 0).isLt⟩) (dist (y 1).val (y 2).val (y 3).val)

/-! ## Words -/

/-- The word of a distance. -/
theorem word (c q k : ℕ) (hc : c < 2048) (hq : q < 256) (hk : k < 256) :
    IntOp.subi (IntOp.addi (BitVec.ofNat 32 c) (BitVec.ofNat 32 q)) (BitVec.ofNat 32 k) = BitVec.ofInt 32 ((c : ℤ) + q - k) := by
  show BitVec.ofNat 32 c + BitVec.ofNat 32 q - BitVec.ofNat 32 k = _
  apply BitVec.eq_of_toNat_eq
  simp only [BitVec.toNat_sub, BitVec.toNat_add, BitVec.toNat_ofNat, BitVec.toNat_ofInt]
  omega

theorem toInt_word (z : ℤ) (h0 : -256 ≤ z) (h1 : z < 2048) : (BitVec.ofInt 32 z).toInt = z :=
  BitVec.toInt_ofInt_eq_self (by norm_num) (by norm_num; omega) (by norm_num; omega)

theorem toInt_nat (t : ℕ) (h : t < 2048) : (BitVec.ofNat 32 t).toInt = t := by
  have := toInt_word t (by omega) (by omega)
  rwa [BitVec.ofInt_natCast] at this

/-- A choice by a boundary reached. -/
theorem sel_sge {α : Type} (z : ℤ) (h0 : -256 ≤ z) (h1 : z < 2048) (t : ℕ) (T : ℤ) (hT : (t : ℤ) = T) (ht : t < 2048) (u w : α) :
    Scalar.select (IntOp.cmpi .sge (BitVec.ofInt 32 z) (BitVec.ofNat 32 t)) u w = if T ≤ z then u else w := by
  show Scalar.select (BitVec.ofBool ((BitVec.ofNat 32 t).sle (BitVec.ofInt 32 z))) u w = _
  rw [BitVec.sle_eq_decide, toInt_word z h0 h1, toInt_nat t ht, hT]
  by_cases h : T ≤ z
  · rw [decide_eq_true h, if_pos h]
    rfl
  · rw [decide_eq_false h, if_neg h]
    rfl

/-- A choice by the sign. -/
theorem sel_slt {α : Type} (z : ℤ) (h0 : -256 ≤ z) (h1 : z < 2048) (u w : α) :
    Scalar.select (IntOp.cmpi .slt (BitVec.ofInt 32 z) (BitVec.ofNat 32 0)) u w = if z < 0 then u else w := by
  show Scalar.select (BitVec.ofBool ((BitVec.ofInt 32 z).slt (BitVec.ofNat 32 0))) u w = _
  rw [BitVec.slt_eq_decide, toInt_word z h0 h1, toInt_nat 0 (by norm_num)]
  by_cases h : z < 0
  · rw [if_pos h, decide_eq_true (by exact_mod_cast h)]
    rfl
  · rw [if_neg h, decide_eq_false (by exact_mod_cast h)]
    rfl

/-! ## The logarithm finds the boundaries -/

/-- The literal for the logarithm of 128. -/
def c128 : ℝ := 10175445 / 2097152

theorem c128_pos : 0 < c128 := by unfold c128; norm_num

/-- The logarithm of two from above, by the exponential series, -/
theorem log_two_lt : Real.log 2 < 0.6931471808 := by
  rw [Real.log_lt_iff_lt_exp (by norm_num)]
  refine lt_of_lt_of_le ?_ (Real.sum_le_exp_of_nonneg (by norm_num) 13)
  norm_num [Finset.sum_range_succ, Nat.factorial]

/-- and from below. -/
theorem log_two_gt : 0.6931471803 < Real.log 2 := by
  rw [Real.lt_log_iff_exp_lt (by norm_num)]
  refine lt_of_le_of_lt (Real.exp_bound' (by norm_num) (by norm_num) (n := 13) (by norm_num)) ?_
  norm_num [Finset.sum_range_succ, Nat.factorial]

/-- The literal is not below seven times the logarithm of two, -/
theorem c128_ge : 7 * Real.log 2 ≤ c128 := by
  have := log_two_lt
  unfold c128
  linarith

/-- nor more than sixteen thousandths of a millionth above it. -/
theorem c128_le : c128 ≤ 7 * Real.log 2 + 16 / 10 ^ 9 := by
  have := log_two_gt
  unfold c128
  linarith

/-- The sixteen logarithms of `n / 16`, with `7 j` logarithms of two taken off, are one logarithm. -/
theorem log_shift (n j : ℕ) (hn : 0 < n) :
    16 * Real.log ((n : ℝ) / 16) = Real.log ((n : ℝ) ^ 16 / 2 ^ (64 + 7 * j)) + 7 * j * Real.log 2 := by
  have hn' : (n : ℝ) ≠ 0 := by positivity
  rw [Real.log_div hn' (by norm_num), Real.log_div (by positivity) (by positivity), Real.log_pow, Real.log_pow,
    show (16 : ℝ) = 2 ^ 4 by norm_num, Real.log_pow]
  push_cast
  ring

/-- From the lower boundary on, the scaled logarithm is at least `j`. -/
theorem level_ge (n j lo : ℕ) (h0 : 0 < lo) (hlo : 2 ^ (64 + 7 * j) * 10 ^ 9 + lo ^ 16 * (16 * j) ≤ lo ^ 16 * 10 ^ 9) (hn : lo ≤ n) :
    (j : ℝ) * c128 ≤ 16 * Real.log ((n : ℝ) / 16) := by
  have hl : (0 : ℝ) < lo := by exact_mod_cast h0
  have hmono : Real.log ((lo : ℝ) / 16) ≤ Real.log ((n : ℝ) / 16) :=
    Real.log_le_log (by positivity) (by have : (lo : ℝ) ≤ n := by exact_mod_cast hn
                                        linarith)
  have h1 : 1 - ((lo : ℝ) ^ 16 / 2 ^ (64 + 7 * j))⁻¹ ≤ Real.log ((lo : ℝ) ^ 16 / 2 ^ (64 + 7 * j)) :=
    Real.one_sub_inv_le_log_of_pos (by positivity)
  have h2 : ((lo : ℝ) ^ 16 / 2 ^ (64 + 7 * j))⁻¹ ≤ 1 - 16 * (j : ℝ) / 10 ^ 9 := by
    have h : (2 : ℝ) ^ (64 + 7 * j) * 10 ^ 9 + (lo : ℝ) ^ 16 * (16 * j) ≤ (lo : ℝ) ^ 16 * 10 ^ 9 := by exact_mod_cast hlo
    rw [inv_div, div_le_iff₀ (by positivity)]
    have e : (1 - 16 * (j : ℝ) / 10 ^ 9) * (lo : ℝ) ^ 16 = ((lo : ℝ) ^ 16 * 10 ^ 9 - (lo : ℝ) ^ 16 * (16 * j)) / 10 ^ 9 := by field_simp
    rw [e, le_div_iff₀ (by positivity)]
    linarith
  have h3 := log_shift lo j h0
  have h4 : (j : ℝ) * c128 ≤ j * (7 * Real.log 2 + 16 / 10 ^ 9) := mul_le_mul_of_nonneg_left c128_le (by positivity)
  have h5 : (j : ℝ) * (7 * Real.log 2 + 16 / 10 ^ 9) = 7 * j * Real.log 2 + 16 * j / 10 ^ 9 := by ring
  linarith

/-- Up to the last distance before the next boundary, it is below `j + 1`. -/
theorem level_lt (n j hi : ℕ) (h0 : 0 < n) (hhi : hi ^ 16 < 2 ^ (64 + 7 * (j + 1))) (hn : n ≤ hi) :
    16 * Real.log ((n : ℝ) / 16) < ((j : ℝ) + 1) * c128 := by
  have hp : (0 : ℝ) < n := by exact_mod_cast h0
  have hlt : (n : ℝ) ^ 16 < 2 ^ (64 + 7 * (j + 1)) := by
    have : n ^ 16 < 2 ^ (64 + 7 * (j + 1)) := lt_of_le_of_lt (Nat.pow_le_pow_left hn 16) hhi
    exact_mod_cast this
  have h1 : Real.log ((n : ℝ) ^ 16 / 2 ^ (64 + 7 * (j + 1))) < 0 :=
    Real.log_neg (by positivity) (by rw [div_lt_one (by positivity)]; exact hlt)
  have h3 := log_shift n (j + 1) h0
  have h4 : ((j : ℝ) + 1) * (7 * Real.log 2) ≤ (j + 1) * c128 := mul_le_mul_of_nonneg_left c128_ge (by positivity)
  push_cast at h3
  linarith

/-- The word the definition computes from the logarithm of a distance `n`. -/
def large (n : ℕ) : BitVec 32 :=
  Ideal.fptosi 32 (Ideal.div (Ideal.log (Ideal.div ((n : ℝ) : EReal) (Ideal.ofBits .f32 0x41800000#32))) (Ideal.ofBits .f32 0x409B43D5#32)
    * Ideal.ofBits .f32 0x41800000#32)

theorem word16 : Ideal.ofBits .f32 0x41800000#32 = ((16 : ℝ) : EReal) := by
  simp [Ideal.ofBits, Ideal.ieee, -EReal.coe_mul]; norm_num

theorem word128 : Ideal.ofBits .f32 0x409B43D5#32 = ((c128 : ℝ) : EReal) := by
  unfold c128
  simp [Ideal.ofBits, Ideal.ieee, -EReal.coe_mul]; norm_num

theorem div_real (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- Between two boundaries the word is the number of boundaries passed. -/
theorem large_level (n j lo hi : ℕ) (h0 : 16 ≤ lo) (hj : j < 16) (hlo : 2 ^ (64 + 7 * j) * 10 ^ 9 + lo ^ 16 * (16 * j) ≤ lo ^ 16 * 10 ^ 9)
    (hhi : hi ^ 16 < 2 ^ (64 + 7 * (j + 1))) (h1 : lo ≤ n) (h2 : n ≤ hi) : large n = BitVec.ofNat 32 j := by
  have hn : (0 : ℝ) < (n : ℝ) / 16 := by have : (0 : ℝ) < n := by exact_mod_cast (by omega : 0 < n)
                                         positivity
  have hc := c128_pos
  have hge := level_ge n j lo (by omega) hlo h1
  have hlt := level_lt n j hi (by omega) hhi h2
  have hfl : ⌊Real.log ((n : ℝ) / 16) / c128 * 16⌋ = (j : ℤ) := by
    rw [Int.floor_eq_iff]
    have e : Real.log ((n : ℝ) / 16) / c128 * 16 = 16 * Real.log ((n : ℝ) / 16) / c128 := by ring
    rw [e, le_div_iff₀ hc, div_lt_iff₀ hc]
    exact ⟨by exact_mod_cast hge, by exact_mod_cast hlt⟩
  have hnn : 0 ≤ Real.log ((n : ℝ) / 16) / c128 * 16 := by
    have : (0 : ℤ) ≤ ⌊Real.log ((n : ℝ) / 16) / c128 * 16⌋ := by rw [hfl]; omega
    exact Int.floor_nonneg.mp this
  unfold large
  rw [word16, word128, div_real _ _ (by norm_num)]
  have hl : Ideal.log (((n : ℝ) / 16 : ℝ) : EReal) = ((Real.log ((n : ℝ) / 16) : ℝ) : EReal) := by
    show (if (n : ℝ) / 16 ≤ 0 then ⊥ else ((Real.log ((n : ℝ) / 16) : ℝ) : EReal)) = _
    rw [if_neg (not_le.mpr hn)]
  rw [hl, div_real _ _ hc.ne', ← EReal.coe_mul]
  show BitVec.ofInt 32 (max _ (min _ (if 0 ≤ Real.log ((n : ℝ) / 16) / c128 * 16 then ⌊Real.log ((n : ℝ) / 16) / c128 * 16⌋
    else ⌈Real.log ((n : ℝ) / 16) / c128 * 16⌉))) = _
  rw [if_pos hnn, hfl, min_eq_right (by norm_num; omega), max_eq_right (by norm_num)]
  rfl

/-- From sixteen on, the word is the bucket less sixteen. -/
theorem large_eq (n : ℕ) (h0 : 16 ≤ n) (h1 : n < 2048) : large n = BitVec.ofNat 32 (bucket n - 16) := by
  rcases lt_or_ge n 22 with h | h
  · rw [large_level n 0 16 21 (by norm_num) (by norm_num) (by norm_num) (by norm_num) (by omega) (by omega)]
    exact congrArg (BitVec.ofNat 32) (by unfold bucket; rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)])
  rcases lt_or_ge n 30 with h | h
  · rw [large_level n 1 22 29 (by norm_num) (by norm_num) (by norm_num) (by norm_num) (by omega) (by omega)]
    exact congrArg (BitVec.ofNat 32) (by unfold bucket; rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)])
  rcases lt_or_ge n 40 with h | h
  · rw [large_level n 2 30 39 (by norm_num) (by norm_num) (by norm_num) (by norm_num) (by omega) (by omega)]
    exact congrArg (BitVec.ofNat 32) (by unfold bucket; rw [if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)])
  rcases lt_or_ge n 54 with h | h
  · rw [large_level n 3 40 53 (by norm_num) (by norm_num) (by norm_num) (by norm_num) (by omega) (by omega)]
    exact congrArg (BitVec.ofNat 32) (by unfold bucket; rw [if_neg (by omega), if_neg (by omega), if_neg (by omega), if_neg (by omega), if_neg (by omega), if_neg (by omega), if_neg (by omega), if_neg (by omega), if_neg (by omega), if_neg (by omega), if_neg (by omega), if_neg (by omega), if_pos (by omega)])
  rcases lt_or_ge n 73 with h | h
  · rw [large_level n 4 54 72 (by norm_num) (by norm_num) (by norm_num) (by norm_num) (by omega) (by omega)]
    exact congrArg (BitVec.ofNat 32) (by unfold bucket; rw [if_neg (by omega), if_neg (by omega), if_neg (by omega), if_neg (by omega), if_neg (by omega), if_neg (by omega), if_neg (by omega), if_neg (by omega), if_neg (by omega), if_neg (by omega), if_neg (by omega), if_pos (by omega)])
  rcases lt_or_ge n 99 with h | h
  · rw [large_level n 5 73 98 (by norm_num) (by norm_num) (by norm_num) (by norm_num) (by omega) (by omega)]
    exact congrArg (BitVec.ofNat 32) (by unfold bucket; rw [if_neg (by omega), if_neg (by omega), if_neg (by omega), if_neg (by omega), if_neg (by omega), if_neg (by omega), if_neg (by omega), if_neg (by omega), if_neg (by omega), if_neg (by omega), if_pos (by omega)])
  rcases lt_or_ge n 134 with h | h
  · rw [large_level n 6 99 133 (by norm_num) (by norm_num) (by norm_num) (by norm_num) (by omega) (by omega)]
    exact congrArg (BitVec.ofNat 32) (by unfold bucket; rw [if_neg (by omega), if_neg (by omega), if_neg (by omega), if_neg (by omega), if_neg (by omega), if_neg (by omega), if_neg (by omega), if_neg (by omega), if_neg (by omega), if_pos (by omega)])
  rcases lt_or_ge n 182 with h | h
  · rw [large_level n 7 134 181 (by norm_num) (by norm_num) (by norm_num) (by norm_num) (by omega) (by omega)]
    exact congrArg (BitVec.ofNat 32) (by unfold bucket; rw [if_neg (by omega), if_neg (by omega), if_neg (by omega), if_neg (by omega), if_neg (by omega), if_neg (by omega), if_neg (by omega), if_neg (by omega), if_pos (by omega)])
  rcases lt_or_ge n 246 with h | h
  · rw [large_level n 8 182 245 (by norm_num) (by norm_num) (by norm_num) (by norm_num) (by omega) (by omega)]
    exact congrArg (BitVec.ofNat 32) (by unfold bucket; rw [if_neg (by omega), if_neg (by omega), if_neg (by omega), if_neg (by omega), if_neg (by omega), if_neg (by omega), if_neg (by omega), if_pos (by omega)])
  rcases lt_or_ge n 332 with h | h
  · rw [large_level n 9 246 331 (by norm_num) (by norm_num) (by norm_num) (by norm_num) (by omega) (by omega)]
    exact congrArg (BitVec.ofNat 32) (by unfold bucket; rw [if_neg (by omega), if_neg (by omega), if_neg (by omega), if_neg (by omega), if_neg (by omega), if_neg (by omega), if_pos (by omega)])
  rcases lt_or_ge n 450 with h | h
  · rw [large_level n 10 332 449 (by norm_num) (by norm_num) (by norm_num) (by norm_num) (by omega) (by omega)]
    exact congrArg (BitVec.ofNat 32) (by unfold bucket; rw [if_neg (by omega), if_neg (by omega), if_neg (by omega), if_neg (by omega), if_neg (by omega), if_pos (by omega)])
  rcases lt_or_ge n 609 with h | h
  · rw [large_level n 11 450 608 (by norm_num) (by norm_num) (by norm_num) (by norm_num) (by omega) (by omega)]
    exact congrArg (BitVec.ofNat 32) (by unfold bucket; rw [if_neg (by omega), if_neg (by omega), if_neg (by omega), if_neg (by omega), if_pos (by omega)])
  rcases lt_or_ge n 825 with h | h
  · rw [large_level n 12 609 824 (by norm_num) (by norm_num) (by norm_num) (by norm_num) (by omega) (by omega)]
    exact congrArg (BitVec.ofNat 32) (by unfold bucket; rw [if_neg (by omega), if_neg (by omega), if_neg (by omega), if_pos (by omega)])
  rcases lt_or_ge n 1117 with h | h
  · rw [large_level n 13 825 1116 (by norm_num) (by norm_num) (by norm_num) (by norm_num) (by omega) (by omega)]
    exact congrArg (BitVec.ofNat 32) (by unfold bucket; rw [if_neg (by omega), if_neg (by omega), if_pos (by omega)])
  rcases lt_or_ge n 1513 with h | h
  · rw [large_level n 14 1117 1512 (by norm_num) (by norm_num) (by norm_num) (by norm_num) (by omega) (by omega)]
    exact congrArg (BitVec.ofNat 32) (by unfold bucket; rw [if_neg (by omega), if_pos (by omega)])
  · rw [large_level n 15 1513 2047 (by norm_num) (by norm_num) (by norm_num) (by norm_num) (by omega) (by omega)]
    exact congrArg (BitVec.ofNat 32) (by unfold bucket; rw [if_pos (by omega)])

end Cert.Proof.Bias

end
-- ==== Proof.BiasTile.lean ====
module

public import proofs.«01_k».proof.Proof.BiasSpec
public import proofs.«01_k».proof.Proof.Gen.Kernel3Ideal.Frame
public import Idealize.ShloMosaic.Lib.ValueIdx
public import Idealize.ShloMosaic.Lib.Pipeline.Value

@[expose] public section

set_option maxRecDepth 16384

noncomputable section

/-!
# The tiles of the bias, read at an index

Each of the eight tiles starts from the row of its nearest distance and passes to the next row at every boundary within its reach. At
every index that is the row of the bucket.
-/

namespace Cert.Proof.Bias

open Cert.Kernel3Ideal Cert.Kernel3Ideal.Gen
open Idealize.ShloMosaic Idealize.ShloMosaic.TcCoe Idealize.ShloMosaic.ValueIdx Idealize.ShloMosaic.Pipeline

/-- The word of the distance, as the kernel forms it. -/
abbrev distWord (c : BitVec 32) (k q : Fin 256) : BitVec 32 :=
  IntOp.subi (IntOp.addi c (iota .tc S256x256 32 [1] iota_S256x256_d1_w32 (ix2 k q))) (iota .tc S256x256 32 [0] iota_S256x256_d0_w32 (ix2 k q))

theorem distWord_eq (c : ℕ) (hc : c < 2048) (k q : Fin 256) : distWord (BitVec.ofNat 32 c) k q = BitVec.ofInt 32 ((c : ℤ) + q.val - k.val) := by
  unfold distWord
  rw [iota_single_apply, iota_single_apply]
  exact word c q.val k.val hc q.isLt k.isLt

variable (f : ℕ → EReal) (a b : Fin 1) (k q : Fin 256)

/-- The tile's index among the elements of its plane. -/
theorem plane : (S256x256.rowMajor (ix2 k q)).val = (S1x1x256x256.rowMajor (ix4 a b k q)).val := by
  rw [Shape.rowMajor_val_two, Shape.rowMajor_val_four]
  have := a.isLt
  have := b.isLt
  show k.val * 256 + q.val = ((a.val * 1 + b.val) * 256 + k.val) * 256 + q.val
  omega

/-- Tile 0. -/
theorem tile0 : (k0_pay9 (F := Ideal) k0_pay4 (k0_pay8 (F := Ideal) k0_pay4 (k0_pay6 (F := Ideal) k0_pay4 (k0_pay5 (F := Ideal) (f 0) (f 1) (f 2) (f 3) (f 4) (f 5) (f 6)) (7#32) (f 7) (f 8) (f 9) (f 10) (f 11) (f 12) (f 13)) (k0_pay7 k0_pay4) (f 14) (f 15) (f 16) (f 17) (f 18) (f 19) (f 20) (f 21)) (99#32) (f 22) (f 23) (f 24) (f 25) (ix4 a b k q) : EReal) = biasAt f (dist 0 k.val q.val) := by
  unfold k0_pay9
  refine (shapeCast_apply _ _ (ix4 a b k q) (ix2 k q) (plane a b k q)).trans ?_
  show Scalar.select (IntOp.cmpi .slt (distWord 0#32 k q) 0#32) (Ideal.ofBits .f32 0xF149F2CA#32) ((Scalar.select (IntOp.cmpi .sge (distWord 0#32 k q) 246#32) (f 25) (Scalar.select (IntOp.cmpi .sge (distWord 0#32 k q) 182#32) (f 24) (Scalar.select (IntOp.cmpi .sge (distWord 0#32 k q) 134#32) (f 23) (Scalar.select (IntOp.cmpi .sge (distWord 0#32 k q) 99#32) (f 22) (Scalar.select (IntOp.cmpi .sge (distWord 0#32 k q) 73#32) (f 21) (Scalar.select (IntOp.cmpi .sge (distWord 0#32 k q) 54#32) (f 20) (Scalar.select (IntOp.cmpi .sge (distWord 0#32 k q) 40#32) (f 19) (Scalar.select (IntOp.cmpi .sge (distWord 0#32 k q) 30#32) (f 18) (Scalar.select (IntOp.cmpi .sge (distWord 0#32 k q) 22#32) (f 17) (Scalar.select (IntOp.cmpi .sge (distWord 0#32 k q) 16#32) (f 16) (Scalar.select (IntOp.cmpi .sge (distWord 0#32 k q) 15#32) (f 15) (Scalar.select (IntOp.cmpi .sge (distWord 0#32 k q) 14#32) (f 14) (Scalar.select (IntOp.cmpi .sge (distWord 0#32 k q) 13#32) (f 13) (Scalar.select (IntOp.cmpi .sge (distWord 0#32 k q) 12#32) (f 12) (Scalar.select (IntOp.cmpi .sge (distWord 0#32 k q) 11#32) (f 11) (Scalar.select (IntOp.cmpi .sge (distWord 0#32 k q) 10#32) (f 10) (Scalar.select (IntOp.cmpi .sge (distWord 0#32 k q) 9#32) (f 9) (Scalar.select (IntOp.cmpi .sge (distWord 0#32 k q) 8#32) (f 8) (Scalar.select (IntOp.cmpi .sge (distWord 0#32 k q) 7#32) (f 7) (Scalar.select (IntOp.cmpi .sge (distWord 0#32 k q) 6#32) (f 6) (Scalar.select (IntOp.cmpi .sge (distWord 0#32 k q) 5#32) (f 5) (Scalar.select (IntOp.cmpi .sge (distWord 0#32 k q) 4#32) (f 4) (Scalar.select (IntOp.cmpi .sge (distWord 0#32 k q) 3#32) (f 3) (Scalar.select (IntOp.cmpi .sge (distWord 0#32 k q) 2#32) (f 2) (Scalar.select (IntOp.cmpi .sge (distWord 0#32 k q) 1#32) (f 1) (f 0)))))))))))))))))))))))))) * Ideal.ofBits .f32 0x3FB8AA3B#32) = _
  rw [distWord_eq 0 (by norm_num) k q]
  have hz : ((0 : ℕ) : ℤ) + q.val - k.val = dist 0 k.val q.val := by unfold dist; push_cast; omega
  rw [hz]
  have h0 : -255 ≤ dist 0 k.val q.val := by have := k.isLt; omega
  have h1 : dist 0 k.val q.val < 256 := by have := q.isLt; omega
  generalize dist 0 k.val q.val = z at h0 h1 ⊢
  rw [sel_slt z (by omega) (by omega), sel_sge z (by omega) (by omega) 246 246 rfl (by norm_num), sel_sge z (by omega) (by omega) 182 182 rfl (by norm_num), sel_sge z (by omega) (by omega) 134 134 rfl (by norm_num), sel_sge z (by omega) (by omega) 99 99 rfl (by norm_num), sel_sge z (by omega) (by omega) 73 73 rfl (by norm_num), sel_sge z (by omega) (by omega) 54 54 rfl (by norm_num), sel_sge z (by omega) (by omega) 40 40 rfl (by norm_num), sel_sge z (by omega) (by omega) 30 30 rfl (by norm_num), sel_sge z (by omega) (by omega) 22 22 rfl (by norm_num), sel_sge z (by omega) (by omega) 16 16 rfl (by norm_num), sel_sge z (by omega) (by omega) 15 15 rfl (by norm_num), sel_sge z (by omega) (by omega) 14 14 rfl (by norm_num), sel_sge z (by omega) (by omega) 13 13 rfl (by norm_num), sel_sge z (by omega) (by omega) 12 12 rfl (by norm_num), sel_sge z (by omega) (by omega) 11 11 rfl (by norm_num), sel_sge z (by omega) (by omega) 10 10 rfl (by norm_num), sel_sge z (by omega) (by omega) 9 9 rfl (by norm_num), sel_sge z (by omega) (by omega) 8 8 rfl (by norm_num), sel_sge z (by omega) (by omega) 7 7 rfl (by norm_num), sel_sge z (by omega) (by omega) 6 6 rfl (by norm_num), sel_sge z (by omega) (by omega) 5 5 rfl (by norm_num), sel_sge z (by omega) (by omega) 4 4 rfl (by norm_num), sel_sge z (by omega) (by omega) 3 3 rfl (by norm_num), sel_sge z (by omega) (by omega) 2 2 rfl (by norm_num), sel_sge z (by omega) (by omega) 1 1 rfl (by norm_num)]
  unfold biasAt
  rw [← row_eq f z]
  unfold row
  rw [if_neg (show ¬ (1513 : ℤ) ≤ z by omega), if_neg (show ¬ (1117 : ℤ) ≤ z by omega), if_neg (show ¬ (825 : ℤ) ≤ z by omega), if_neg (show ¬ (609 : ℤ) ≤ z by omega), if_neg (show ¬ (450 : ℤ) ≤ z by omega), if_neg (show ¬ (332 : ℤ) ≤ z by omega)]

/-- Tile 1. -/
theorem tile1 : (k0_pay17 (F := Ideal) (k0_pay10 kernelRun0_A.sl.v0 kernelRun0_A.sl.v1) (k0_pay16 (F := Ideal) (k0_pay10 kernelRun0_A.sl.v0 kernelRun0_A.sl.v1) (k0_pay14 (F := Ideal) (k0_pay10 kernelRun0_A.sl.v0 kernelRun0_A.sl.v1) (k0_pay13 (F := Ideal) (k0_pay10 kernelRun0_A.sl.v0 kernelRun0_A.sl.v1) (k0_pay11 (F := Ideal) (f 1)) (k0_pay12 kernelRun0_A.sl.v0 kernelRun0_A.sl.v1) (f 2) (f 3) (f 4) (f 5) (f 6) (f 7) (f 8) (f 9)) (f 10) (f 11) (f 12) (f 13) (f 14) (f 15) (f 16)) (k0_pay15 (k0_pay10 kernelRun0_A.sl.v0 kernelRun0_A.sl.v1)) (f 17) (f 18) (f 19) (f 20) (f 21) (f 22) (f 23) (f 24)) (f 25) (f 26) (f 27) (ix4 a b k q) : EReal) = biasAt f (dist 1 k.val q.val) := by
  unfold k0_pay17
  refine (shapeCast_apply _ _ (ix4 a b k q) (ix2 k q) (plane a b k q)).trans ?_
  show ((Scalar.select (IntOp.cmpi .sge (distWord 256#32 k q) 450#32) (f 27) (Scalar.select (IntOp.cmpi .sge (distWord 256#32 k q) 332#32) (f 26) (Scalar.select (IntOp.cmpi .sge (distWord 256#32 k q) 246#32) (f 25) (Scalar.select (IntOp.cmpi .sge (distWord 256#32 k q) 182#32) (f 24) (Scalar.select (IntOp.cmpi .sge (distWord 256#32 k q) 134#32) (f 23) (Scalar.select (IntOp.cmpi .sge (distWord 256#32 k q) 99#32) (f 22) (Scalar.select (IntOp.cmpi .sge (distWord 256#32 k q) 73#32) (f 21) (Scalar.select (IntOp.cmpi .sge (distWord 256#32 k q) 54#32) (f 20) (Scalar.select (IntOp.cmpi .sge (distWord 256#32 k q) 40#32) (f 19) (Scalar.select (IntOp.cmpi .sge (distWord 256#32 k q) 30#32) (f 18) (Scalar.select (IntOp.cmpi .sge (distWord 256#32 k q) 22#32) (f 17) (Scalar.select (IntOp.cmpi .sge (distWord 256#32 k q) 16#32) (f 16) (Scalar.select (IntOp.cmpi .sge (distWord 256#32 k q) 15#32) (f 15) (Scalar.select (IntOp.cmpi .sge (distWord 256#32 k q) 14#32) (f 14) (Scalar.select (IntOp.cmpi .sge (distWord 256#32 k q) 13#32) (f 13) (Scalar.select (IntOp.cmpi .sge (distWord 256#32 k q) 12#32) (f 12) (Scalar.select (IntOp.cmpi .sge (distWord 256#32 k q) 11#32) (f 11) (Scalar.select (IntOp.cmpi .sge (distWord 256#32 k q) 10#32) (f 10) (Scalar.select (IntOp.cmpi .sge (distWord 256#32 k q) 9#32) (f 9) (Scalar.select (IntOp.cmpi .sge (distWord 256#32 k q) 8#32) (f 8) (Scalar.select (IntOp.cmpi .sge (distWord 256#32 k q) 7#32) (f 7) (Scalar.select (IntOp.cmpi .sge (distWord 256#32 k q) 6#32) (f 6) (Scalar.select (IntOp.cmpi .sge (distWord 256#32 k q) 5#32) (f 5) (Scalar.select (IntOp.cmpi .sge (distWord 256#32 k q) 4#32) (f 4) (Scalar.select (IntOp.cmpi .sge (distWord 256#32 k q) 3#32) (f 3) (Scalar.select (IntOp.cmpi .sge (distWord 256#32 k q) 2#32) (f 2) (f 1))))))))))))))))))))))))))) * Ideal.ofBits .f32 0x3FB8AA3B#32 : EReal) = _
  rw [distWord_eq 256 (by norm_num) k q]
  have hz : ((256 : ℕ) : ℤ) + q.val - k.val = dist 1 k.val q.val := by unfold dist; push_cast; omega
  rw [hz]
  have h0 : 1 ≤ dist 1 k.val q.val := by have := k.isLt; omega
  have h1 : dist 1 k.val q.val < 512 := by have := q.isLt; omega
  generalize dist 1 k.val q.val = z at h0 h1 ⊢
  rw [sel_sge z (by omega) (by omega) 450 450 rfl (by norm_num), sel_sge z (by omega) (by omega) 332 332 rfl (by norm_num), sel_sge z (by omega) (by omega) 246 246 rfl (by norm_num), sel_sge z (by omega) (by omega) 182 182 rfl (by norm_num), sel_sge z (by omega) (by omega) 134 134 rfl (by norm_num), sel_sge z (by omega) (by omega) 99 99 rfl (by norm_num), sel_sge z (by omega) (by omega) 73 73 rfl (by norm_num), sel_sge z (by omega) (by omega) 54 54 rfl (by norm_num), sel_sge z (by omega) (by omega) 40 40 rfl (by norm_num), sel_sge z (by omega) (by omega) 30 30 rfl (by norm_num), sel_sge z (by omega) (by omega) 22 22 rfl (by norm_num), sel_sge z (by omega) (by omega) 16 16 rfl (by norm_num), sel_sge z (by omega) (by omega) 15 15 rfl (by norm_num), sel_sge z (by omega) (by omega) 14 14 rfl (by norm_num), sel_sge z (by omega) (by omega) 13 13 rfl (by norm_num), sel_sge z (by omega) (by omega) 12 12 rfl (by norm_num), sel_sge z (by omega) (by omega) 11 11 rfl (by norm_num), sel_sge z (by omega) (by omega) 10 10 rfl (by norm_num), sel_sge z (by omega) (by omega) 9 9 rfl (by norm_num), sel_sge z (by omega) (by omega) 8 8 rfl (by norm_num), sel_sge z (by omega) (by omega) 7 7 rfl (by norm_num), sel_sge z (by omega) (by omega) 6 6 rfl (by norm_num), sel_sge z (by omega) (by omega) 5 5 rfl (by norm_num), sel_sge z (by omega) (by omega) 4 4 rfl (by norm_num), sel_sge z (by omega) (by omega) 3 3 rfl (by norm_num), sel_sge z (by omega) (by omega) 2 2 rfl (by norm_num)]
  unfold biasAt
  rw [if_neg (show ¬ z < 0 by omega), ← row_eq f z]
  unfold row
  rw [if_neg (show ¬ (1513 : ℤ) ≤ z by omega), if_neg (show ¬ (1117 : ℤ) ≤ z by omega), if_neg (show ¬ (825 : ℤ) ≤ z by omega), if_neg (show ¬ (609 : ℤ) ≤ z by omega), if_pos (show (1 : ℤ) ≤ z by omega)]

/-- Tile 2. -/
theorem tile2 : (k0_pay20 (F := Ideal) (k0_pay18 kernelRun0_A.sl.v0 kernelRun0_A.sl.v1) (k0_pay19 (F := Ideal) kernelRun0_A.sl.v0 kernelRun0_A.sl.v1 (f 25) (f 26) (f 27)) (609#32) (f 28) (ix4 a b k q) : EReal) = biasAt f (dist 2 k.val q.val) := by
  unfold k0_pay20
  refine (shapeCast_apply _ _ (ix4 a b k q) (ix2 k q) (plane a b k q)).trans ?_
  show ((Scalar.select (IntOp.cmpi .sge (distWord 512#32 k q) 609#32) (f 28) (Scalar.select (IntOp.cmpi .sge (distWord 512#32 k q) 450#32) (f 27) (Scalar.select (IntOp.cmpi .sge (distWord 512#32 k q) 332#32) (f 26) (f 25)))) * Ideal.ofBits .f32 0x3FB8AA3B#32 : EReal) = _
  rw [distWord_eq 512 (by norm_num) k q]
  have hz : ((512 : ℕ) : ℤ) + q.val - k.val = dist 2 k.val q.val := by unfold dist; push_cast; omega
  rw [hz]
  have h0 : 257 ≤ dist 2 k.val q.val := by have := k.isLt; omega
  have h1 : dist 2 k.val q.val < 768 := by have := q.isLt; omega
  generalize dist 2 k.val q.val = z at h0 h1 ⊢
  rw [sel_sge z (by omega) (by omega) 609 609 rfl (by norm_num), sel_sge z (by omega) (by omega) 450 450 rfl (by norm_num), sel_sge z (by omega) (by omega) 332 332 rfl (by norm_num)]
  unfold biasAt
  rw [if_neg (show ¬ z < 0 by omega), ← row_eq f z]
  unfold row
  rw [if_neg (show ¬ (1513 : ℤ) ≤ z by omega), if_neg (show ¬ (1117 : ℤ) ≤ z by omega), if_neg (show ¬ (825 : ℤ) ≤ z by omega), if_pos (show (246 : ℤ) ≤ z by omega)]

/-- Tile 3. -/
theorem tile3 : (k0_pay21 (F := Ideal) kernelRun0_A.sl.v0 kernelRun0_A.sl.v1 (f 27) (f 28) (f 29) (ix4 a b k q) : EReal) = biasAt f (dist 3 k.val q.val) := by
  unfold k0_pay21
  refine (shapeCast_apply _ _ (ix4 a b k q) (ix2 k q) (plane a b k q)).trans ?_
  show ((Scalar.select (IntOp.cmpi .sge (distWord 768#32 k q) 825#32) (f 29) (Scalar.select (IntOp.cmpi .sge (distWord 768#32 k q) 609#32) (f 28) (f 27))) * Ideal.ofBits .f32 0x3FB8AA3B#32 : EReal) = _
  rw [distWord_eq 768 (by norm_num) k q]
  have hz : ((768 : ℕ) : ℤ) + q.val - k.val = dist 3 k.val q.val := by unfold dist; push_cast; omega
  rw [hz]
  have h0 : 513 ≤ dist 3 k.val q.val := by have := k.isLt; omega
  have h1 : dist 3 k.val q.val < 1024 := by have := q.isLt; omega
  generalize dist 3 k.val q.val = z at h0 h1 ⊢
  rw [sel_sge z (by omega) (by omega) 825 825 rfl (by norm_num), sel_sge z (by omega) (by omega) 609 609 rfl (by norm_num)]
  unfold biasAt
  rw [if_neg (show ¬ z < 0 by omega), ← row_eq f z]
  unfold row
  rw [if_neg (show ¬ (1513 : ℤ) ≤ z by omega), if_neg (show ¬ (1117 : ℤ) ≤ z by omega), if_pos (show (450 : ℤ) ≤ z by omega)]

/-- Tile 4. -/
theorem tile4 : (k0_pay23 (F := Ideal) (k0_pay22 kernelRun0_A.sl.v0 kernelRun0_A.sl.v1) (f 28) (f 29) (f 30) (ix4 a b k q) : EReal) = biasAt f (dist 4 k.val q.val) := by
  unfold k0_pay23
  refine (shapeCast_apply _ _ (ix4 a b k q) (ix2 k q) (plane a b k q)).trans ?_
  show ((Scalar.select (IntOp.cmpi .sge (distWord 1024#32 k q) 1117#32) (f 30) (Scalar.select (IntOp.cmpi .sge (distWord 1024#32 k q) 825#32) (f 29) (f 28))) * Ideal.ofBits .f32 0x3FB8AA3B#32 : EReal) = _
  rw [distWord_eq 1024 (by norm_num) k q]
  have hz : ((1024 : ℕ) : ℤ) + q.val - k.val = dist 4 k.val q.val := by unfold dist; push_cast; omega
  rw [hz]
  have h0 : 769 ≤ dist 4 k.val q.val := by have := k.isLt; omega
  have h1 : dist 4 k.val q.val < 1280 := by have := q.isLt; omega
  generalize dist 4 k.val q.val = z at h0 h1 ⊢
  rw [sel_sge z (by omega) (by omega) 1117 1117 rfl (by norm_num), sel_sge z (by omega) (by omega) 825 825 rfl (by norm_num)]
  unfold biasAt
  rw [if_neg (show ¬ z < 0 by omega), ← row_eq f z]
  unfold row
  rw [if_neg (show ¬ (1513 : ℤ) ≤ z by omega), if_pos (show (609 : ℤ) ≤ z by omega)]

/-- Tile 5. -/
theorem tile5 : (k0_pay1 (F := Ideal) (k0_pay24 (F := Ideal) kernelRun0_A.sl.v0 kernelRun0_A.sl.v1 (f 29) (f 30) (f 31)) (ix4 a b k q) : EReal) = biasAt f (dist 5 k.val q.val) := by
  unfold k0_pay1
  refine (shapeCast_apply _ _ (ix4 a b k q) (ix2 k q) (plane a b k q)).trans ?_
  show ((Scalar.select (IntOp.cmpi .sge (distWord 1280#32 k q) 1513#32) (f 31) (Scalar.select (IntOp.cmpi .sge (distWord 1280#32 k q) 1117#32) (f 30) (f 29))) * Ideal.ofBits .f32 0x3FB8AA3B#32 : EReal) = _
  rw [distWord_eq 1280 (by norm_num) k q]
  have hz : ((1280 : ℕ) : ℤ) + q.val - k.val = dist 5 k.val q.val := by unfold dist; push_cast; omega
  rw [hz]
  have h0 : 1025 ≤ dist 5 k.val q.val := by have := k.isLt; omega
  have h1 : dist 5 k.val q.val < 1536 := by have := q.isLt; omega
  generalize dist 5 k.val q.val = z at h0 h1 ⊢
  rw [sel_sge z (by omega) (by omega) 1513 1513 rfl (by norm_num), sel_sge z (by omega) (by omega) 1117 1117 rfl (by norm_num)]
  unfold biasAt
  rw [if_neg (show ¬ z < 0 by omega), ← row_eq f z]
  unfold row
  rw [if_pos (show (825 : ℤ) ≤ z by omega)]

/-- Tile 6. -/
theorem tile6 : (k0_pay2 (F := Ideal) kernelRun0_A.sl.v0 kernelRun0_A.sl.v1 (f 30) (f 31) (ix4 a b k q) : EReal) = biasAt f (dist 6 k.val q.val) := by
  unfold k0_pay2
  refine (shapeCast_apply _ _ (ix4 a b k q) (ix2 k q) (plane a b k q)).trans ?_
  show ((Scalar.select (IntOp.cmpi .sge (distWord 1536#32 k q) 1513#32) (f 31) (f 30)) * Ideal.ofBits .f32 0x3FB8AA3B#32 : EReal) = _
  rw [distWord_eq 1536 (by norm_num) k q]
  have hz : ((1536 : ℕ) : ℤ) + q.val - k.val = dist 6 k.val q.val := by unfold dist; push_cast; omega
  rw [hz]
  have h0 : 1281 ≤ dist 6 k.val q.val := by have := k.isLt; omega
  have h1 : dist 6 k.val q.val < 1792 := by have := q.isLt; omega
  generalize dist 6 k.val q.val = z at h0 h1 ⊢
  rw [sel_sge z (by omega) (by omega) 1513 1513 rfl (by norm_num)]
  unfold biasAt
  rw [if_neg (show ¬ z < 0 by omega), ← row_eq f z]
  unfold row
  rw [if_pos (show (1117 : ℤ) ≤ z by omega)]

/-- Tile 7. -/
theorem tile7 : (k0_pay3 (F := Ideal) (f 31) (ix4 a b k q) : EReal) = biasAt f (dist 7 k.val q.val) := by
  unfold k0_pay3
  refine (shapeCast_apply _ _ (ix4 a b k q) (ix2 k q) (plane a b k q)).trans ?_
  show ((f 31) * Ideal.ofBits .f32 0x3FB8AA3B#32 : EReal) = _
  have hz : ((1792 : ℕ) : ℤ) + q.val - k.val = dist 7 k.val q.val := by unfold dist; push_cast; omega
  have h0 : 1537 ≤ dist 7 k.val q.val := by have := k.isLt; omega
  have h1 : dist 7 k.val q.val < 2048 := by have := q.isLt; omega
  generalize dist 7 k.val q.val = z at h0 h1 ⊢
  unfold biasAt
  rw [if_neg (show ¬ z < 0 by omega), ← row_eq f z]
  unfold row
  rw [if_pos (show (1513 : ℤ) ≤ z by omega)]

end Cert.Proof.Bias

end
-- ==== Proof.BiasResult.lean ====
module

public import proofs.«01_k».proof.Proof.BiasTile
public import proofs.«01_k».proof.Proof.Gen.Kernel3Ideal.Value
public import Idealize.ShloMosaic.Lib.WholeRead
public import Idealize.ShloMosaic.Lib.Pipeline.ArrRel
public import Idealize.ShloMosaic.Lib.Pipeline.ValueKit.Geometry

@[expose] public section

set_option maxRecDepth 16384

noncomputable section

/-!
# The array of bias tiles

Grid point `h` reads head `h`'s column of the table, entry by entry, and stores that head's eight tiles.
-/

namespace Cert.Proof.Bias

open Cert.Kernel3Ideal Cert.Kernel3Ideal.Gen
open Idealize.ShloMosaic Idealize.ShloMosaic.TcCoe Idealize.ShloMosaic.Tactic Idealize.ShloMosaic.ValueIdx Idealize.ShloMosaic.Pipeline
open Idealize.SL

variable (c : Dev nD) (i : grid0.Coords) (arg1 : Memref sig .tc .smem S32x12 .f32) (harg1 : arg1.IsWhole) (arg2 : Memref sig .tc .vmem S1x8x256x256 .f32) (harg2 : arg2.IsWhole)
  (x0 : Vec Ideal S32x12 .f32)

/-! ## The entries read -/

/-- The head of a grid point. -/
abbrev head : Fin 12 := ⟨(i 0).val, (i 0).isLt⟩

theorem head_word : (Scalar.indexCast (BitVec.ofNat 32 (i 0).val)).toNat = (i 0).val := by
  have h : (i 0).val < 12 := (i 0).isLt
  show (BitVec.ofNat 32 (i 0).val).toNat = (i 0).val
  rw [BitVec.toNat_ofNat]
  omega

/-- One entry read from the table. -/
theorem load_apply (off : Fin 2 → ℕ) (inb : ∀ a, off a + S1x1.size a ≤ S32x12.size a)
    (hn : 0 < (Rect.unit (s := S32x12) off S1x1.size inb).toLoadRect.shape.numel) (b : ℕ) (hb : b < 32)
    (e0 : off 0 = b) (e1 : off 1 = (i 0).val) :
    (View.readAt (Elt Ideal) arg1.view (Rect.unit (s := S32x12) off S1x1.size inb).toLoadRect (harg1.unread x0) (Shape.Idx.first hn) : EReal)
      = tab x0 (head i) b := by
  refine (harg1.readAt_unread x0 _ _).trans (congrArg x0 (funext fun a => Fin.ext ?_))
  match a with
  | ⟨0, _⟩ =>
    have h : ((Shape.Idx.first hn) 0).val < 1 := ((Shape.Idx.first hn) 0).isLt
    show off 0 + 1 * ((Shape.Idx.first hn) 0).val = min b 31
    omega
  | ⟨1, _⟩ =>
    have h : ((Shape.Idx.first hn) 1).val < 1 := ((Shape.Idx.first hn) 1).isLt
    show off 1 + 1 * ((Shape.Idx.first hn) 1).val = (i 0).val
    omega

theorem r_eq : (kernelRun0_A.sl.r c i arg1 harg1 x0 : EReal) = tab x0 (head i) 0 := load_apply i arg1 harg1 x0 _ _ _ 0 (by norm_num) rfl (head_word i)
theorem r_1_eq : (kernelRun0_A.sl.r_1 c i arg1 harg1 x0 : EReal) = tab x0 (head i) 1 := load_apply i arg1 harg1 x0 _ _ _ 1 (by norm_num) rfl (head_word i)
theorem r_2_eq : (kernelRun0_A.sl.r_2 c i arg1 harg1 x0 : EReal) = tab x0 (head i) 2 := load_apply i arg1 harg1 x0 _ _ _ 2 (by norm_num) rfl (head_word i)
theorem r_3_eq : (kernelRun0_A.sl.r_3 c i arg1 harg1 x0 : EReal) = tab x0 (head i) 3 := load_apply i arg1 harg1 x0 _ _ _ 3 (by norm_num) rfl (head_word i)
theorem r_4_eq : (kernelRun0_A.sl.r_4 c i arg1 harg1 x0 : EReal) = tab x0 (head i) 4 := load_apply i arg1 harg1 x0 _ _ _ 4 (by norm_num) rfl (head_word i)
theorem r_5_eq : (kernelRun0_A.sl.r_5 c i arg1 harg1 x0 : EReal) = tab x0 (head i) 5 := load_apply i arg1 harg1 x0 _ _ _ 5 (by norm_num) rfl (head_word i)
theorem r_6_eq : (kernelRun0_A.sl.r_6 c i arg1 harg1 x0 : EReal) = tab x0 (head i) 6 := load_apply i arg1 harg1 x0 _ _ _ 6 (by norm_num) rfl (head_word i)
theorem r_8_eq : (kernelRun0_A.sl.r_8 c i arg1 harg1 x0 : EReal) = tab x0 (head i) 7 := load_apply i arg1 harg1 x0 _ _ _ 7 (by norm_num) rfl (head_word i)
theorem r_9_eq : (kernelRun0_A.sl.r_9 c i arg1 harg1 x0 : EReal) = tab x0 (head i) 8 := load_apply i arg1 harg1 x0 _ _ _ 8 (by norm_num) rfl (head_word i)
theorem r_10_eq : (kernelRun0_A.sl.r_10 c i arg1 harg1 x0 : EReal) = tab x0 (head i) 9 := load_apply i arg1 harg1 x0 _ _ _ 9 (by norm_num) rfl (head_word i)
theorem r_11_eq : (kernelRun0_A.sl.r_11 c i arg1 harg1 x0 : EReal) = tab x0 (head i) 10 := load_apply i arg1 harg1 x0 _ _ _ 10 (by norm_num) rfl (head_word i)
theorem r_12_eq : (kernelRun0_A.sl.r_12 c i arg1 harg1 x0 : EReal) = tab x0 (head i) 11 := load_apply i arg1 harg1 x0 _ _ _ 11 (by norm_num) rfl (head_word i)
theorem r_13_eq : (kernelRun0_A.sl.r_13 c i arg1 harg1 x0 : EReal) = tab x0 (head i) 12 := load_apply i arg1 harg1 x0 _ _ _ 12 (by norm_num) rfl (head_word i)
theorem r_14_eq : (kernelRun0_A.sl.r_14 c i arg1 harg1 x0 : EReal) = tab x0 (head i) 13 := load_apply i arg1 harg1 x0 _ _ _ 13 (by norm_num) rfl (head_word i)
theorem r_16_eq : (kernelRun0_A.sl.r_16 c i arg1 harg1 x0 : EReal) = tab x0 (head i) 14 := load_apply i arg1 harg1 x0 _ _ _ 14 (by norm_num) rfl (head_word i)
theorem r_17_eq : (kernelRun0_A.sl.r_17 c i arg1 harg1 x0 : EReal) = tab x0 (head i) 15 := load_apply i arg1 harg1 x0 _ _ _ 15 (by norm_num) rfl (head_word i)
theorem r_18_eq : (kernelRun0_A.sl.r_18 c i arg1 harg1 x0 : EReal) = tab x0 (head i) 16 := load_apply i arg1 harg1 x0 _ _ _ 16 (by norm_num) rfl (head_word i)
theorem r_19_eq : (kernelRun0_A.sl.r_19 c i arg1 harg1 x0 : EReal) = tab x0 (head i) 17 := load_apply i arg1 harg1 x0 _ _ _ 17 (by norm_num) rfl (head_word i)
theorem r_20_eq : (kernelRun0_A.sl.r_20 c i arg1 harg1 x0 : EReal) = tab x0 (head i) 18 := load_apply i arg1 harg1 x0 _ _ _ 18 (by norm_num) rfl (head_word i)
theorem r_21_eq : (kernelRun0_A.sl.r_21 c i arg1 harg1 x0 : EReal) = tab x0 (head i) 19 := load_apply i arg1 harg1 x0 _ _ _ 19 (by norm_num) rfl (head_word i)
theorem r_22_eq : (kernelRun0_A.sl.r_22 c i arg1 harg1 x0 : EReal) = tab x0 (head i) 20 := load_apply i arg1 harg1 x0 _ _ _ 20 (by norm_num) rfl (head_word i)
theorem r_23_eq : (kernelRun0_A.sl.r_23 c i arg1 harg1 x0 : EReal) = tab x0 (head i) 21 := load_apply i arg1 harg1 x0 _ _ _ 21 (by norm_num) rfl (head_word i)
theorem r_25_eq : (kernelRun0_A.sl.r_25 c i arg1 harg1 x0 : EReal) = tab x0 (head i) 22 := load_apply i arg1 harg1 x0 _ _ _ 22 (by norm_num) rfl (head_word i)
theorem r_26_eq : (kernelRun0_A.sl.r_26 c i arg1 harg1 x0 : EReal) = tab x0 (head i) 23 := load_apply i arg1 harg1 x0 _ _ _ 23 (by norm_num) rfl (head_word i)
theorem r_27_eq : (kernelRun0_A.sl.r_27 c i arg1 harg1 x0 : EReal) = tab x0 (head i) 24 := load_apply i arg1 harg1 x0 _ _ _ 24 (by norm_num) rfl (head_word i)
theorem r_28_eq : (kernelRun0_A.sl.r_28 c i arg1 harg1 x0 : EReal) = tab x0 (head i) 25 := load_apply i arg1 harg1 x0 _ _ _ 25 (by norm_num) rfl (head_word i)
theorem r_33_eq : (kernelRun0_A.sl.r_33 c i arg1 harg1 x0 : EReal) = tab x0 (head i) 26 := load_apply i arg1 harg1 x0 _ _ _ 26 (by norm_num) rfl (head_word i)
theorem r_34_eq : (kernelRun0_A.sl.r_34 c i arg1 harg1 x0 : EReal) = tab x0 (head i) 27 := load_apply i arg1 harg1 x0 _ _ _ 27 (by norm_num) rfl (head_word i)
theorem r_36_eq : (kernelRun0_A.sl.r_36 c i arg1 harg1 x0 : EReal) = tab x0 (head i) 28 := load_apply i arg1 harg1 x0 _ _ _ 28 (by norm_num) rfl (head_word i)
theorem r_37_eq : (kernelRun0_A.sl.r_37 c i arg1 harg1 x0 : EReal) = tab x0 (head i) 29 := load_apply i arg1 harg1 x0 _ _ _ 29 (by norm_num) rfl (head_word i)
theorem r_38_eq : (kernelRun0_A.sl.r_38 c i arg1 harg1 x0 : EReal) = tab x0 (head i) 30 := load_apply i arg1 harg1 x0 _ _ _ 30 (by norm_num) rfl (head_word i)
theorem r_39_eq : (kernelRun0_A.sl.r_39 c i arg1 harg1 x0 : EReal) = tab x0 (head i) 31 := load_apply i arg1 harg1 x0 _ _ _ 31 (by norm_num) rfl (head_word i)
theorem r_41_eq : (kernelRun0_A.sl.r_41 c i arg1 harg1 x0 : EReal) = tab x0 (head i) 30 := load_apply i arg1 harg1 x0 _ _ _ 30 (by norm_num) rfl (head_word i)
theorem r_42_eq : (kernelRun0_A.sl.r_42 c i arg1 harg1 x0 : EReal) = tab x0 (head i) 31 := load_apply i arg1 harg1 x0 _ _ _ 31 (by norm_num) rfl (head_word i)

/-! ## The stored tiles -/

/-- What a grid point leaves in its block. -/
abbrev blockOf : S1x8x256x256.Idx → EReal := fun y => biasAt (tab x0 (head i)) (dist (y 1).val (y 2).val (y 3).val)

/-- The distance at an index of a stored tile is the distance at its place in the block. -/
theorem place (d : ℕ) (io : ∀ a, (![0, d, 0, 0] : Fin 4 → ℕ) a + S1x1x256x256.size a ≤ S1x8x256x256.size a) (a b : Fin 1) (k q : Fin 256) :
    biasAt (tab x0 (head i)) (dist d k.val q.val) = blockOf i x0 ((Rect.unit (s := S1x8x256x256) ![0, d, 0, 0] S1x1x256x256.size io).emb (ix4 a b k q)) := by
  show _ = biasAt (tab x0 (head i)) (dist (d + 1 * b.val) (0 + 1 * k.val) (0 + 1 * q.val))
  rw [show d + 1 * b.val = d by omega, show 0 + 1 * k.val = k.val by omega, show 0 + 1 * q.val = q.val by omega]

theorem piece0 (io : ∀ a, (![0, 0, 0, 0] : Fin 4 → ℕ) a + S1x1x256x256.size a ≤ S1x8x256x256.size a) (x : S1x1x256x256.Idx) :
    (k0_pay9 (F := Ideal) k0_pay4 (kernelRun0_A.sl.r_24 c i arg1 harg1 x0) (99#32) (kernelRun0_A.sl.r_25 c i arg1 harg1 x0) (kernelRun0_A.sl.r_26 c i arg1 harg1 x0) (kernelRun0_A.sl.r_27 c i arg1 harg1 x0) (kernelRun0_A.sl.r_28 c i arg1 harg1 x0) x : EReal)
      = blockOf i x0 ((Rect.unit (s := S1x8x256x256) ![0, 0, 0, 0] S1x1x256x256.size io).emb x) := by
  obtain ⟨a, b, k, q, rfl⟩ : ∃ (a b : Fin 1) (k q : Fin 256), x = ix4 a b k q := ⟨_, _, _, _, eq_ix4 x⟩
  unfold kernelRun0_A.sl.r_24 kernelRun0_A.sl.r_15 kernelRun0_A.sl.r_7
  rw [r_eq, r_1_eq, r_2_eq, r_3_eq, r_4_eq, r_5_eq, r_6_eq, r_8_eq, r_9_eq, r_10_eq, r_11_eq, r_12_eq, r_13_eq, r_14_eq, r_16_eq, r_17_eq, r_18_eq, r_19_eq, r_20_eq, r_21_eq, r_22_eq, r_23_eq, r_25_eq, r_26_eq, r_27_eq, r_28_eq]
  exact (tile0 (tab x0 (head i)) a b k q).trans (place i x0 0 io a b k q)

theorem piece1 (io : ∀ a, (![0, 1, 0, 0] : Fin 4 → ℕ) a + S1x1x256x256.size a ≤ S1x8x256x256.size a) (x : S1x1x256x256.Idx) :
    (k0_pay17 (F := Ideal) (k0_pay10 kernelRun0_A.sl.v0 kernelRun0_A.sl.v1) (kernelRun0_A.sl.r_32 c i arg1 harg1 x0) (kernelRun0_A.sl.r_28 c i arg1 harg1 x0) (kernelRun0_A.sl.r_33 c i arg1 harg1 x0) (kernelRun0_A.sl.r_34 c i arg1 harg1 x0) x : EReal)
      = blockOf i x0 ((Rect.unit (s := S1x8x256x256) ![0, 1, 0, 0] S1x1x256x256.size io).emb x) := by
  obtain ⟨a, b, k, q, rfl⟩ : ∃ (a b : Fin 1) (k q : Fin 256), x = ix4 a b k q := ⟨_, _, _, _, eq_ix4 x⟩
  unfold kernelRun0_A.sl.r_32 kernelRun0_A.sl.r_31 kernelRun0_A.sl.r_30 kernelRun0_A.sl.r_29
  rw [r_1_eq, r_2_eq, r_3_eq, r_4_eq, r_5_eq, r_6_eq, r_8_eq, r_9_eq, r_10_eq, r_11_eq, r_12_eq, r_13_eq, r_14_eq, r_16_eq, r_17_eq, r_18_eq, r_19_eq, r_20_eq, r_21_eq, r_22_eq, r_23_eq, r_25_eq, r_26_eq, r_27_eq, r_28_eq, r_33_eq, r_34_eq]
  exact (tile1 (tab x0 (head i)) a b k q).trans (place i x0 1 io a b k q)

theorem piece2 (io : ∀ a, (![0, 2, 0, 0] : Fin 4 → ℕ) a + S1x1x256x256.size a ≤ S1x8x256x256.size a) (x : S1x1x256x256.Idx) :
    (k0_pay20 (F := Ideal) (k0_pay18 kernelRun0_A.sl.v0 kernelRun0_A.sl.v1) (kernelRun0_A.sl.r_35 c i arg1 harg1 x0) (609#32) (kernelRun0_A.sl.r_36 c i arg1 harg1 x0) x : EReal)
      = blockOf i x0 ((Rect.unit (s := S1x8x256x256) ![0, 2, 0, 0] S1x1x256x256.size io).emb x) := by
  obtain ⟨a, b, k, q, rfl⟩ : ∃ (a b : Fin 1) (k q : Fin 256), x = ix4 a b k q := ⟨_, _, _, _, eq_ix4 x⟩
  unfold kernelRun0_A.sl.r_35
  rw [r_28_eq, r_33_eq, r_34_eq, r_36_eq]
  exact (tile2 (tab x0 (head i)) a b k q).trans (place i x0 2 io a b k q)

theorem piece3 (io : ∀ a, (![0, 3, 0, 0] : Fin 4 → ℕ) a + S1x1x256x256.size a ≤ S1x8x256x256.size a) (x : S1x1x256x256.Idx) :
    (k0_pay21 (F := Ideal) kernelRun0_A.sl.v0 kernelRun0_A.sl.v1 (kernelRun0_A.sl.r_34 c i arg1 harg1 x0) (kernelRun0_A.sl.r_36 c i arg1 harg1 x0) (kernelRun0_A.sl.r_37 c i arg1 harg1 x0) x : EReal)
      = blockOf i x0 ((Rect.unit (s := S1x8x256x256) ![0, 3, 0, 0] S1x1x256x256.size io).emb x) := by
  obtain ⟨a, b, k, q, rfl⟩ : ∃ (a b : Fin 1) (k q : Fin 256), x = ix4 a b k q := ⟨_, _, _, _, eq_ix4 x⟩
  rw [r_34_eq, r_36_eq, r_37_eq]
  exact (tile3 (tab x0 (head i)) a b k q).trans (place i x0 3 io a b k q)

theorem piece4 (io : ∀ a, (![0, 4, 0, 0] : Fin 4 → ℕ) a + S1x1x256x256.size a ≤ S1x8x256x256.size a) (x : S1x1x256x256.Idx) :
    (k0_pay23 (F := Ideal) (k0_pay22 kernelRun0_A.sl.v0 kernelRun0_A.sl.v1) (kernelRun0_A.sl.r_36 c i arg1 harg1 x0) (kernelRun0_A.sl.r_37 c i arg1 harg1 x0) (kernelRun0_A.sl.r_38 c i arg1 harg1 x0) x : EReal)
      = blockOf i x0 ((Rect.unit (s := S1x8x256x256) ![0, 4, 0, 0] S1x1x256x256.size io).emb x) := by
  obtain ⟨a, b, k, q, rfl⟩ : ∃ (a b : Fin 1) (k q : Fin 256), x = ix4 a b k q := ⟨_, _, _, _, eq_ix4 x⟩
  rw [r_36_eq, r_37_eq, r_38_eq]
  exact (tile4 (tab x0 (head i)) a b k q).trans (place i x0 4 io a b k q)

theorem piece5 (io : ∀ a, (![0, 5, 0, 0] : Fin 4 → ℕ) a + S1x1x256x256.size a ≤ S1x8x256x256.size a) (x : S1x1x256x256.Idx) :
    (k0_pay1 (F := Ideal) (kernelRun0_A.sl.r_40 c i arg1 harg1 x0) x : EReal)
      = blockOf i x0 ((Rect.unit (s := S1x8x256x256) ![0, 5, 0, 0] S1x1x256x256.size io).emb x) := by
  obtain ⟨a, b, k, q, rfl⟩ : ∃ (a b : Fin 1) (k q : Fin 256), x = ix4 a b k q := ⟨_, _, _, _, eq_ix4 x⟩
  unfold kernelRun0_A.sl.r_40
  rw [r_37_eq, r_38_eq, r_39_eq]
  exact (tile5 (tab x0 (head i)) a b k q).trans (place i x0 5 io a b k q)

theorem piece6 (io : ∀ a, (![0, 6, 0, 0] : Fin 4 → ℕ) a + S1x1x256x256.size a ≤ S1x8x256x256.size a) (x : S1x1x256x256.Idx) :
    (k0_pay2 (F := Ideal) kernelRun0_A.sl.v0 kernelRun0_A.sl.v1 (kernelRun0_A.sl.r_41 c i arg1 harg1 x0) (kernelRun0_A.sl.r_42 c i arg1 harg1 x0) x : EReal)
      = blockOf i x0 ((Rect.unit (s := S1x8x256x256) ![0, 6, 0, 0] S1x1x256x256.size io).emb x) := by
  obtain ⟨a, b, k, q, rfl⟩ : ∃ (a b : Fin 1) (k q : Fin 256), x = ix4 a b k q := ⟨_, _, _, _, eq_ix4 x⟩
  rw [r_41_eq, r_42_eq]
  exact (tile6 (tab x0 (head i)) a b k q).trans (place i x0 6 io a b k q)

theorem piece7 (io : ∀ a, (![0, 7, 0, 0] : Fin 4 → ℕ) a + S1x1x256x256.size a ≤ S1x8x256x256.size a) (x : S1x1x256x256.Idx) :
    (k0_pay3 (F := Ideal) (kernelRun0_A.sl.r_42 c i arg1 harg1 x0) x : EReal)
      = blockOf i x0 ((Rect.unit (s := S1x8x256x256) ![0, 7, 0, 0] S1x1x256x256.size io).emb x) := by
  obtain ⟨a, b, k, q, rfl⟩ : ∃ (a b : Fin 1) (k q : Fin 256), x = ix4 a b k q := ⟨_, _, _, _, eq_ix4 x⟩
  rw [r_42_eq]
  exact (tile7 (tab x0 (head i)) a b k q).trans (place i x0 7 io a b k q)

/-- A grid point's block. -/
theorem out_apply (y : S1x8x256x256.Idx) : (out0_A_1 (F := Ideal) c i arg1 harg1 arg2 harg2 x0 y : EReal) = blockOf i x0 y := by
  unfold out0_A_1
  rw [View.read_writes_eq_canon _ _ _ (cover0_A_1 (F := Ideal) c i arg1 harg1 arg2 harg2 x0)]
  refine View.canon_apply_of_pieces (Val := Elt Ideal) (e := .f32) (blockOf i x0) _ ?_ y (cover0_A_1 (F := Ideal) c i arg1 harg1 arg2 harg2 x0 y)
  unfold kernelRun0_A
  dsimp only
  intro p hp
  simp only [List.mem_cons, List.not_mem_nil, or_false] at hp
  rcases hp with rfl | rfl | rfl | rfl | rfl | rfl | rfl | rfl
  · exact piece7 c i arg1 harg1 x0 inb_S1x8x256x256_S1x1x256x256_0_7_0_0
  · exact piece6 c i arg1 harg1 x0 inb_S1x8x256x256_S1x1x256x256_0_6_0_0
  · exact piece5 c i arg1 harg1 x0 inb_S1x8x256x256_S1x1x256x256_0_5_0_0
  · exact piece4 c i arg1 harg1 x0 inb_S1x8x256x256_S1x1x256x256_0_4_0_0
  · exact piece3 c i arg1 harg1 x0 inb_S1x8x256x256_S1x1x256x256_0_3_0_0
  · exact piece2 c i arg1 harg1 x0 inb_S1x8x256x256_S1x1x256x256_0_2_0_0
  · exact piece1 c i arg1 harg1 x0 inb_S1x8x256x256_S1x1x256x256_0_1_0_0
  · exact piece0 c i arg1 harg1 x0 inb_S1x8x256x256_S1x1x256x256_0_0_0_0

/-! ## The array -/

theorem at0 : ∀ t : Fin grid0.N, win0_0.index t = ![0, 0] := by decide +kernel
theorem at1 : ∀ t : Fin grid0.N, win0_1.index t = ![t.val, 0, 0, 0] := by decide +kernel
theorem coord : ∀ t : Fin grid0.N, (grid0.coords t 0).val = t.val := by decide +kernel

variable (m : (ℓ : Loc nD τ sig) → Buf (Elt Ideal) ℓ)

/-- The table, as the program is given it. -/
abbrev table : S32x12.Idx → EReal := m ((c.tc : Thread nD τ).loc main_arg0)

theorem stage (t : Fin cfg0.N) : (iblk m c 0 t : S32x12.Idx → EReal) = table c m := by
  funext y
  obtain ⟨b, h, rfl⟩ : ∃ (b : Fin 32) (h : Fin 12), y = ix2 b h := ⟨_, _, eq_ix2 y⟩
  have e : (iblk m c 0 t : S32x12.Idx → EReal) (ix2 b h) = V m c main_arg0 (ix2 b h : S32x12.Idx) := by
    blk_ext [iblk, at0 t]
  rw [e]

/-- The result array. -/
theorem array : (dats m 0 c).arrAt 1 cfg0.N = target (table c m) := by
  refine Dat.arrAt_eq_of_covers _ 1 _ (by decide +kernel) fun t hf y => ?_
  obtain ⟨a, d, k, q, rfl⟩ : ∃ (a : Fin 1) (d : Fin 8) (k q : Fin 256), y = ix4 a d k q := ⟨_, _, _, _, eq_ix4 y⟩
  refine (congrFun (after0_1 m c t) _).trans ?_
  unfold outsAt0
  refine (out_apply _ _ _ _ _ _ _ _).trans ?_
  rw [stage c m t]
  have hh : head (grid0.coords t) = ⟨t.val, t.isLt⟩ := Fin.ext (coord t)
  show biasAt (tab (table c m) (head (grid0.coords t))) (dist d.val k.val q.val) = _
  rw [hh]
  show target (table c m) (ix4 ⟨t.val, t.isLt⟩ d k q) = _
  refine congrArg (target (table c m)) ?_
  blk_ext [at1 t]

end Cert.Proof.Bias

end
-- ==== Proof.BiasRef.lean ====
module

public import proofs.«01_k».proof.Proof.BiasSpec
public import proofs.«01_k».proof.Proof.Gen.Reference3Ideal.Read
public import Idealize.ShloMosaic.Lib.ValueIdx
public import Idealize.ShloMosaic.Lib.Pipeline.Value

@[expose] public section

set_option maxRecDepth 16384

noncomputable section

/-!
# The reference of the bias tiles, read at an index

The reference takes the bucket of every distance by a logarithm, looks the bucket's row up in the table, scales it and
replaces it at negative distances.
-/

namespace Cert.Proof.Bias

open Cert.Reference3Ideal Cert.Reference3Ideal.Gen Cert.Reference3Ideal.Read
open Idealize.ShloMosaic Idealize.ShloMosaic.TcCoe Idealize.ShloMosaic.ValueIdx

/-! ## The bucket of a distance, as the reference finds it -/

/-- The bucket's word from the distance's, before negative row numbers are counted from the end. -/
def refPick (w : BitVec 32) : BitVec 32 :=
  Scalar.select (IntOp.cmpi .slt (IntOp.maxsi w 0#32) 16#32) (IntOp.maxsi w 0#32)
    (IntOp.minsi (IntOp.addi 16#32 (Ideal.fptosi 32 (Ideal.div (Ideal.log (Ideal.div (((IntOp.maxsi (IntOp.maxsi w 0#32) 1#32).toInt : ℝ) : EReal)
      (Ideal.ofBits .f32 0x41800000#32))) (Ideal.ofBits .f32 0x409B43D5#32) * Ideal.ofBits .f32 0x41800000#32))) 31#32)

/-- The row number's word. -/
def refRow (w : BitVec 32) : BitVec 32 :=
  Scalar.select (IntOp.cmpi .slt (refPick w) 0#32) (IntOp.addi (refPick w) 32#32) (refPick w)

theorem max_zero : ∀ n : Fin 2048, IntOp.maxsi (BitVec.ofNat 32 n.val) 0#32 = BitVec.ofNat 32 n.val := by decide +kernel
theorem max_one : ∀ n : Fin 2048, 1 ≤ n.val → IntOp.maxsi (BitVec.ofNat 32 n.val) 1#32 = BitVec.ofNat 32 n.val := by decide +kernel
theorem below16 : ∀ n : Fin 2048, n.val < 16 → IntOp.cmpi .slt (BitVec.ofNat 32 n.val) 16#32 = 1#1 := by decide +kernel
theorem from16 : ∀ n : Fin 2048, 16 ≤ n.val → IntOp.cmpi .slt (BitVec.ofNat 32 n.val) 16#32 = 0#1 := by decide +kernel
theorem bucket_small : ∀ n : Fin 16, bucket n.val = n.val := by decide +kernel
theorem bucket_large : ∀ n : Fin 2048, 16 ≤ n.val → 16 ≤ bucket n.val := by decide +kernel
theorem min_bucket : ∀ b : Fin 32, 16 ≤ b.val → IntOp.minsi (IntOp.addi 16#32 (BitVec.ofNat 32 (b.val - 16))) 31#32 = BitVec.ofNat 32 b.val := by
  decide +kernel
theorem no_wrap : ∀ b : Fin 32, Scalar.select (IntOp.cmpi .slt (BitVec.ofNat 32 b.val) 0#32) (IntOp.addi (BitVec.ofNat 32 b.val) 32#32) (BitVec.ofNat 32 b.val)
    = BitVec.ofNat 32 b.val := by decide +kernel
theorem clamp : ∀ b : Fin 32, min (BitVec.ofNat 32 b.val).toInt.toNat 31 = min b.val 31 := by decide +kernel
theorem rows256 : ∀ d : Fin 8, IntOp.muli (BitVec.ofNat 32 d.val) 256#32 = BitVec.ofNat 32 (d.val * 256) := by decide +kernel

/-- The reference's bucket is the specification's. -/
theorem refPick_eq (n : ℕ) (hn : n < 2048) : refPick (BitVec.ofNat 32 n) = BitVec.ofNat 32 (bucket n) := by
  unfold refPick
  rw [max_zero ⟨n, hn⟩]
  by_cases h : n < 16
  · rw [below16 ⟨n, hn⟩ h, select_one, bucket_small ⟨n, h⟩]
  · have h16 : 16 ≤ n := by omega
    rw [from16 ⟨n, hn⟩ h16, select_zero, max_one ⟨n, hn⟩ (by show 1 ≤ n; omega), toInt_nat n hn]
    show IntOp.minsi (IntOp.addi 16#32 (large n)) 31#32 = _
    rw [large_eq n h16 hn]
    exact min_bucket ⟨bucket n, bucket_lt n⟩ (bucket_large ⟨n, hn⟩ h16)

theorem refRow_eq (n : ℕ) (hn : n < 2048) : refRow (BitVec.ofNat 32 n) = BitVec.ofNat 32 (bucket n) := by
  unfold refRow
  rw [refPick_eq n hn]
  exact no_wrap ⟨bucket n, bucket_lt n⟩

/-! ## The reference's words -/

/-- The distance. -/
theorem dist_word (i : S8x256x256.Idx) : val_main_v6 (F := Ideal) i = BitVec.ofInt 32 (dist (i 0).val (i 1).val (i 2).val) := by
  have h0 : (i 0).val < 8 := (i 0).isLt
  have e : (dist (i 0).val (i 1).val (i 2).val) = (((i 0).val * 256 : ℕ) : ℤ) + (i 2).val - (i 1).val := by
    unfold dist
    push_cast
    rfl
  rw [val_main_v6_apply, val_main_v5_apply, val_main_v4_apply, val_main_v0_apply, val_main_v1_apply, val_main_v2_apply, val_main_v3_apply,
    val_main_c_apply, rows256 ⟨(i 0).val, h0⟩, e]
  exact word _ _ _ (by show (i 0).val * 256 < 2048; omega) (i 2).isLt (i 1).isLt

/-- The row number looked up. -/
theorem row_word (i : S8x256x256.Idx) : val_main_v31 (F := Ideal) i = refRow (val_main_v6 (F := Ideal) i) := by
  have e8 : val_main_v8 (F := Ideal) i = IntOp.maxsi (val_main_v6 (F := Ideal) i) 0#32 := by
    rw [val_main_v8_apply, val_main_v7_apply, val_main_c_0_apply]
  have e26 : val_main_v26 (F := Ideal) i = refPick (val_main_v6 (F := Ideal) i) := by
    rw [val_main_v26_apply, val_main_v25_apply, val_main_v24_apply, val_main_c_6_apply, val_main_v23_apply, val_main_v22_apply, val_main_c_5_apply,
      val_main_v21_apply, val_main_v20_apply, val_main_c_4_apply, val_main_v19_apply, val_main_v18_apply, val_main_v17_apply, val_main_cst_3_apply,
      val_main_v16_apply, val_main_v15_apply, val_main_cst_2_apply, val_main_v14_apply, val_main_v13_apply, val_main_v12_apply, val_main_cst_apply,
      val_main_v11_apply, val_main_v10_apply, val_main_v9_apply, val_main_c_1_apply, e8]
    rfl
  rw [val_main_v31_apply, val_main_v30_apply, val_main_v29_apply, val_main_c_8_apply, val_main_v28_apply, val_main_v27_apply, val_main_c_7_apply, e26]
  rfl

/-! ## The look-up -/

/-- The place among the row numbers that belongs to a place of the rows looked up. -/
abbrev rowAt (y : S8x256x256x12.Idx) : S8x256x256x1.Idx := ix4 ⟨(y 0).val, (y 0).isLt⟩ ⟨(y 1).val, (y 1).isLt⟩ ⟨(y 2).val, (y 2).isLt⟩ ⟨0, Nat.one_pos⟩

/-- Looking rows of the table up takes, at each place, the row whose number stands there, held within the table. -/
theorem lookup_apply (x : S32x12.Idx → EReal) (idx : IVec S8x256x256x1 32) (y : S8x256x256x12.Idx) :
    Host.gather gather_S32x12_S8x256x256x1_S8x256x256x12_3_0_n_n_0_3_112 x idx y
      = x (ix2 ⟨min (idx (rowAt y)).toInt.toNat 31, by omega⟩ ⟨(y 3).val, (y 3).isLt⟩) := by
  unfold Host.gather
  congr 1
  funext a
  refine Fin.ext ?_
  show gather_S32x12_S8x256x256x1_S8x256x256x12_3_0_n_n_0_3_112.start y idx a
    + gather_S32x12_S8x256x256x1_S8x256x256x12_3_0_n_n_0_3_112.batchCoord y a
    + gather_S32x12_S8x256x256x1_S8x256x256x12_3_0_n_n_0_3_112.offCoord y a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    show gather_S32x12_S8x256x256x1_S8x256x256x12_3_0_n_n_0_3_112.start y idx (0 : Fin 2) = min (idx (rowAt y)).toInt.toNat 31
    unfold GatherDims.start
    rw [dif_pos (show (0 : Fin 2) ∈ gather_S32x12_S8x256x256x1_S8x256x256x12_3_0_n_n_0_3_112.startIndexMap from List.mem_singleton.mpr rfl)]
    have hs : gather_S32x12_S8x256x256x1_S8x256x256x12_3_0_n_n_0_3_112.siIdx y
        ⟨List.idxOf (0 : Fin 2) gather_S32x12_S8x256x256x1_S8x256x256x12_3_0_n_n_0_3_112.startIndexMap,
          List.idxOf_lt_length_iff.2 (List.mem_singleton.mpr rfl)⟩ = rowAt y := by
      funext b
      refine Fin.ext ?_
      match b with
      | ⟨0, _⟩ => rfl
      | ⟨1, _⟩ => rfl
      | ⟨2, _⟩ => rfl
      | ⟨3, _⟩ => rfl
    rw [hs]
    rfl
  | ⟨1, _⟩ =>
    have hs : gather_S32x12_S8x256x256x1_S8x256x256x12_3_0_n_n_0_3_112.start y idx (1 : Fin 2) = 0 := by
      unfold GatherDims.start
      exact dif_neg (show ¬ (1 : Fin 2) ∈ ([0] : List (Fin 2)) by decide)
    have ho : gather_S32x12_S8x256x256x1_S8x256x256x12_3_0_n_n_0_3_112.offCoord y (1 : Fin 2) = (y 3).val := by
      unfold GatherDims.offCoord
      rfl
    show gather_S32x12_S8x256x256x1_S8x256x256x12_3_0_n_n_0_3_112.start y idx (1 : Fin 2)
      + gather_S32x12_S8x256x256x1_S8x256x256x12_3_0_n_n_0_3_112.offCoord y (1 : Fin 2) = (y 3).val
    rw [hs, ho, Nat.zero_add]

/-! ## The result -/

/-- The reference's result is the array of the specification. -/
theorem reference_tiles (x : S32x12.Idx → EReal) : (val_main_v39 (F := Ideal) x : S12x8x256x256.Idx → EReal) = target x := by
  funext y
  obtain ⟨h, d, k, q, rfl⟩ : ∃ (h : Fin 12) (d : Fin 8) (k q : Fin 256), y = ix4 h d k q := ⟨_, _, _, _, eq_ix4 y⟩
  have z0 : -256 ≤ dist d.val k.val q.val := by unfold dist; omega
  have z1 : dist d.val k.val q.val < 2048 := by unfold dist; omega
  rw [val_main_v39_apply, val_main_call1_v1_apply, val_main_v36_apply, val_main_v35_apply, val_main_c_9_apply, dist_word]
  refine (sel_sge (dist d.val k.val q.val) z0 z1 0 0 rfl (by norm_num) _ _).trans ?_
  show _ = biasAt (tab x h) (dist d.val k.val q.val)
  unfold biasAt
  by_cases hz : 0 ≤ dist d.val k.val q.val
  · rw [if_pos hz, if_neg (not_lt.mpr hz), val_main_v38_apply, val_main_v34_apply, val_main_v37_apply, val_main_cst_10_apply]
    have hl : (val_main_v33 (F := Ideal) x (idx_main_v34 (ix4 h d k q)) : EReal)
        = x (ix2 ⟨min (refRow (BitVec.ofInt 32 (dist d.val k.val q.val))).toInt.toNat 31, by omega⟩ h) := by
      refine (lookup_apply x (val_main_v32 (F := Ideal)) _).trans ?_
      have hw : val_main_v32 (F := Ideal) (rowAt (idx_main_v34 (ix4 h d k q))) = refRow (BitVec.ofInt 32 (dist d.val k.val q.val)) := by
        rw [val_main_v32_apply, row_word, dist_word]
      refine congrArg x (funext fun a => Fin.ext ?_)
      match a with
      | ⟨0, _⟩ =>
        show min (val_main_v32 (F := Ideal) (rowAt (idx_main_v34 (ix4 h d k q)))).toInt.toNat 31 = _
        rw [hw]
      | ⟨1, _⟩ => rfl
    rw [hl]
    show x (ix2 ⟨min (refRow (BitVec.ofInt 32 (dist d.val k.val q.val))).toInt.toNat 31, _⟩ h) * Ideal.ofBits .f32 0x3FB8AA3B#32
      = x (ix2 ⟨min (bucket (dist d.val k.val q.val)) 31, _⟩ h) * Ideal.ofBits .f32 0x3FB8AA3B#32
    obtain ⟨n, hn⟩ := Int.eq_ofNat_of_zero_le hz
    have e : min (refRow (BitVec.ofInt 32 (dist d.val k.val q.val))).toInt.toNat 31 = min (bucket (dist d.val k.val q.val)) 31 := by
      rw [hn, BitVec.ofInt_natCast, refRow_eq n (by omega)]
      exact clamp ⟨bucket n, bucket_lt n⟩
    exact congrArg (· * Ideal.ofBits .f32 0x3FB8AA3B#32) (congrArg (fun r : Fin 32 => x (ix2 r h)) (Fin.ext e))
  · rw [if_neg hz, if_pos (not_le.mp hz), val_main_call1_v2_apply, val_main_call1_v0_apply, val_main_cst_11_apply]
    rfl

end Cert.Proof.Bias

end
-- ==== Proof.BiasValue.lean ====
module

public import proofs.«01_k».proof.Defs
public import proofs.«01_k».proof.Proof.BiasResult
public import proofs.«01_k».proof.Proof.BiasRef
public import proofs.«01_k».proof.Proof.Gen.Kernel3Ideal.Value
public import proofs.«01_k».proof.Proof.Gen.Reference3Ideal.Run
public import proofs.«01_k».proof.Proof.Gen.Reference3Ideal.Read

@[expose] public section

noncomputable section

/-!
# Bias tiles and reference agree

Of any table, both programs leave the array of the specification.
-/

namespace Cert.Proof.Bias

open Idealize.ShloMosaic Idealize.ShloMosaic.TcCoe Idealize.ShloMosaic.ValueIdx Idealize.ShloMosaic.Pipeline
open Idealize.SL Idealize.SL.Sem

/-- The bias tiles and their reference are the same function over the extended reals, of any table. -/
theorem values [hK : Cert.Kernel3Ideal.Facts] [hR : Cert.Reference3Ideal.Facts] : Cert.algebraic_Kernel3Ideal_Reference3Ideal := by
  intro m g m' g' _ hargs
  refine ⟨fun c => target (table c m), ?_, ?_⟩
  · refine (θ_run _ _ _).mono (fun r h c => ?_) (Cert.Kernel3Ideal.Value.run_blocks (F := Ideal) m g)
    obtain ⟨h1, hrest⟩ := h c
    exact ⟨h1.trans (array c m), hrest⟩
  · refine (θ_run _ _ _).mono (fun r h c => ?_) (Cert.Reference3Ideal.Value.run (F := Ideal) m' g')
    obtain ⟨hv, hrest⟩ := h c
    refine ⟨hv.trans ((Cert.Reference3Ideal.Read.val_main_v39_eq (F := Ideal) m' c).trans ?_), hrest⟩
    rw [hargs c]
    exact reference_tiles _

/-- The reference ends without a fault, its argument as it was and every counter at zero (it has none). -/
theorem reference_frame [hR : Cert.Reference3Ideal.Facts] : Cert.quiescent_Reference3Ideal := fun m g _ =>
  (θ_run _ _ _).mono (fun r h => ⟨fun c => (h c).2, Idealize.ShloMosaic.sem_eq_zero_of_no_sems (by decide) r.2⟩)
    (Cert.Reference3Ideal.Value.run (F := Ideal) m g)

end Cert.Proof.Bias

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Frame
public import proofs.«01_k».proof.Proof.Gen.Kernel3.Frame
public import proofs.«01_k».proof.Proof.Gen.Kernel3Ideal.Value
public import proofs.«01_k».proof.Proof.LaunchKernel
public import proofs.«01_k».proof.Proof.LaunchKernelIdeal
public import proofs.«01_k».proof.Proof.Gen.ReferenceIdeal.Run
public import proofs.«01_k».proof.Proof.Gen.ReferenceIdeal.Read
public import proofs.«01_k».proof.Proof.Inputs
public import proofs.«01_k».proof.Proof.Value
public import proofs.«01_k».proof.Proof.ProjValue
public import proofs.«01_k».proof.Proof.BiasValue

@[expose] public section

noncomputable section

open Idealize.ShloMosaic

/-- The certificate, of the attention, of the input projection and of the bias tiles: each kernel, its ideal program and its reference end without a
    fault, leave their arguments as they were and every counter at zero; each ideal program is its kernel read over the extended
    reals; and over the extended reals ideal program and reference compute the same function: the attention of arguments that its
    precondition admits, the projection and the tiles of any arguments. -/
theorem Cert.Proof.claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Proof.Inputs.facts,
    fun m ρ _ => Cert.Proof.Kernel.frame m ρ,
    fun m ρ _ => Cert.Proof.KernelIdeal.frame m ρ,
    fun m ρ _ => Cert.Proof.KernelIdeal.frame m ρ,
    Cert.Proof.reference_frame,
    fun m ρ _ => Cert.Proof.reference_frame m ρ trivial,
    fun m ρ _ => Cert.Kernel2.Gen.frame m ρ,
    fun m ρ _ => Cert.Kernel2Ideal.Gen.frame m ρ,
    Cert.Proof.Proj.reference_frame,
    fun m ρ _ => Cert.Kernel3.Gen.frame m ρ,
    fun m ρ _ => Cert.Kernel3Ideal.Gen.frame m ρ,
    Cert.Proof.Bias.reference_frame,
    IdealRules.named_const.statement _ _ _ _ _ rfl,
    Cert.Proof.values,
    trivial,
    Cert.Proof.Proj.values,
    trivial,
    Cert.Proof.Bias.values⟩

end
